-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v103_0)) (v1 : (c : Dev Cert.Kernel7Ideal.nD) → Buf (Elt Ideal) ((c.tc : Thread Cert.Kernel7Ideal.nD Cert.Kernel7Ideal.τ).loc Cert.Kernel7Ideal.main_v103_1)) (v2 : (c : Dev Cert.Kernel7Ideal.nD) → Buf (Elt Ideal) ((c.tc : Thread Cert.Kernel7Ideal.nD Cert.Kernel7Ideal.τ).loc Cert.Kernel7Ideal.main_v103_2)) (v3 : (c : Dev Cert.Kernel7Ideal.nD) → Buf (Elt Ideal) ((c.tc : Thread Cert.Kernel7Ideal.nD Cert.Kernel7Ideal.τ).loc Cert.Kernel7Ideal.main_v103_3)) (v4 : (c : Dev Cert.Kernel7Ideal.nD) → Buf (Elt Ideal) ((c.tc : Thread Cert.Kernel7Ideal.nD Cert.Kernel7Ideal.τ).loc Cert.Kernel7Ideal.main_v103_4)) (v5 : (c : Dev Cert.Kernel7Ideal.nD) → Buf (Elt Ideal) ((c.tc : Thread Cert.Kernel7Ideal.nD Cert.Kernel7Ideal.τ).loc Cert.Kernel7Ideal.main_v103_5)) (v6 : (c : Dev Cert.Kernel7Ideal.nD) → Buf (Elt Ideal) ((c.tc : Thread Cert.Kernel7Ideal.nD Cert.Kernel7Ideal.τ).loc Cert.Kernel7Ideal.main_v103_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v103_0) = v0 c
          ∧ r.2.mem ((c.tc : Thread Cert.Kernel7Ideal.nD Cert.Kernel7Ideal.τ).loc Cert.Kernel7Ideal.main_v103_1) = v1 c
          ∧ r.2.mem ((c.tc : Thread Cert.Kernel7Ideal.nD Cert.Kernel7Ideal.τ).loc Cert.Kernel7Ideal.main_v103_2) = v2 c
          ∧ r.2.mem ((c.tc : Thread Cert.Kernel7Ideal.nD Cert.Kernel7Ideal.τ).loc Cert.Kernel7Ideal.main_v103_3) = v3 c
          ∧ r.2.mem ((c.tc : Thread Cert.Kernel7Ideal.nD Cert.Kernel7Ideal.τ).loc Cert.Kernel7Ideal.main_v103_4) = v4 c
          ∧ r.2.mem ((c.tc : Thread Cert.Kernel7Ideal.nD Cert.Kernel7Ideal.τ).loc Cert.Kernel7Ideal.main_v103_5) = v5 c
          ∧ r.2.mem ((c.tc : Thread Cert.Kernel7Ideal.nD Cert.Kernel7Ideal.τ).loc Cert.Kernel7Ideal.main_v103_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v154) = v0 c
          ∧ r.2.mem ((c.tc : Thread Cert.Reference7Ideal.nD Cert.Reference7Ideal.τ).loc Cert.Reference7Ideal.main_v156) = v1 c
          ∧ r.2.mem ((c.tc : Thread Cert.Reference7Ideal.nD Cert.Reference7Ideal.τ).loc Cert.Reference7Ideal.main_v159) = v2 c
          ∧ r.2.mem ((c.tc : Thread Cert.Reference7Ideal.nD Cert.Reference7Ideal.τ).loc Cert.Reference7Ideal.main_v162) = v3 c
          ∧ r.2.mem ((c.tc : Thread Cert.Reference7Ideal.nD Cert.Reference7Ideal.τ).loc Cert.Reference7Ideal.main_v163) = v4 c
          ∧ r.2.mem ((c.tc : Thread Cert.Reference7Ideal.nD Cert.Reference7Ideal.τ).loc Cert.Reference7Ideal.main_v164) = v5 c
          ∧ r.2.mem ((c.tc : Thread Cert.Reference7Ideal.nD Cert.Reference7Ideal.τ).loc Cert.Reference7Ideal.main_v165) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
-- ==== Kernel.lean ====
abbrev S2048x16384 : Shape := ⟨2, ![2048, 16384]⟩
abbrev S1024x16384 : Shape := ⟨2, ![1024, 16384]⟩
abbrev S128x16384 : Shape := ⟨2, ![128, 16384]⟩
abbrev S16384x512 : Shape := ⟨2, ![16384, 512]⟩
abbrev S16384x128 : Shape := ⟨2, ![16384, 128]⟩
abbrev S512x16384 : Shape := ⟨2, ![512, 16384]⟩
abbrev S16384x2048 : Shape := ⟨2, ![16384, 2048]⟩
abbrev S2048x128 : Shape := ⟨2, ![2048, 128]⟩
abbrev S1024x128 : Shape := ⟨2, ![1024, 128]⟩
abbrev S128x128 : Shape := ⟨2, ![128, 128]⟩
abbrev S8192x512 : Shape := ⟨2, ![8192, 512]⟩
abbrev S8192x128 : Shape := ⟨2, ![8192, 128]⟩
abbrev S512x8192 : Shape := ⟨2, ![512, 8192]⟩
abbrev S128x2048 : Shape := ⟨2, ![128, 2048]⟩
abbrev S4x144x8192 : Shape := ⟨3, ![4, 144, 8192]⟩
abbrev S1x128 : Shape := ⟨2, ![1, 128]⟩
abbrev S4x128x512 : Shape := ⟨3, ![4, 128, 512]⟩
abbrev S4x1x512 : Shape := ⟨3, ![4, 1, 512]⟩
abbrev S4x144x512 : Shape := ⟨3, ![4, 144, 512]⟩
abbrev S4x512x512 : Shape := ⟨3, ![4, 512, 512]⟩
abbrev S128x8192 : Shape := ⟨2, ![128, 8192]⟩
abbrev S1x128x8192 : Shape := ⟨3, ![1, 128, 8192]⟩
abbrev S16x8192 : Shape := ⟨2, ![16, 8192]⟩
abbrev S1x16x8192 : Shape := ⟨3, ![1, 16, 8192]⟩
abbrev S64x128 : Shape := ⟨2, ![64, 128]⟩
abbrev S64x2048 : Shape := ⟨2, ![64, 2048]⟩
abbrev S512x128 : Shape := ⟨2, ![512, 128]⟩
abbrev S512x2048 : Shape := ⟨2, ![512, 2048]⟩
abbrev S16x128 : Shape := ⟨2, ![16, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S64x8x128 : Shape := ⟨3, ![64, 8, 128]⟩
abbrev S128x512 : Shape := ⟨2, ![128, 512]⟩
abbrev S1x128x512 : Shape := ⟨3, ![1, 128, 512]⟩
abbrev S1x512 : Shape := ⟨2, ![1, 512]⟩
abbrev S1x1x512 : Shape := ⟨3, ![1, 1, 512]⟩
abbrev S144x512 : Shape := ⟨2, ![144, 512]⟩
abbrev S1x144x512 : Shape := ⟨3, ![1, 144, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 7
  | .vmem => 23
  | .smem => 0
  | _ => 0

abbrev bufTy : (tb : Table) → Fin (tcTables nBuf tb) → BufTy
  | .hbm, ⟨0, _⟩ => ⟨S2048x16384, .bf16⟩
  | .hbm, ⟨1, _⟩ => ⟨S1024x16384, .bf16⟩
  | .hbm, ⟨2, _⟩ => ⟨S128x16384, .f32⟩
  | .hbm, ⟨3, _⟩ => ⟨S16384x512, .bf16⟩
  | .hbm, ⟨4, _⟩ => ⟨S16384x128, .bf16⟩
  | .hbm, ⟨5, _⟩ => ⟨S512x16384, .bf16⟩
  | .hbm, ⟨6, _⟩ => ⟨S16384x2048, .bf16⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .f32⟩
  | .local _ .vmem, ⟨5, _⟩ => ⟨S128x128, .f32⟩
  | .local _ .vmem, ⟨6, _⟩ => ⟨S8192x512, .bf16⟩
  | .local _ .vmem, ⟨7, _⟩ => ⟨S8192x128, .bf16⟩
  | .local _ .vmem, ⟨8, _⟩ => ⟨S512x8192, .bf16⟩
  | .local _ .vmem, ⟨9, _⟩ => ⟨S128x2048, .bf16⟩
  | .local _ .vmem, ⟨10, _⟩ => ⟨S128x2048, .bf16⟩
  | .local _ .vmem, ⟨11, _⟩ => ⟨S8192x128, .i32⟩
  | .local _ .vmem, ⟨12, _⟩ => ⟨S8192x128, .i16⟩
  | .local _ .vmem, ⟨13, _⟩ => ⟨S8192x128, .i16⟩
  | .local _ .vmem, ⟨14, _⟩ => ⟨S4x144x8192, .bf16⟩
  | .local _ .vmem, ⟨15, _⟩ => ⟨S1x128, .i32⟩
  | .local _ .vmem, ⟨16, _⟩ => ⟨S4x128x512, .bf16⟩
  | .local _ .vmem, ⟨17, _⟩ => ⟨S4x1x512, .f32⟩
  | .local _ .vmem, ⟨18, _⟩ => ⟨S4x144x512, .f32⟩
  | .local _ .vmem, ⟨19, _⟩ => ⟨S4x512x512, .f32⟩
  | .local _ .vmem, ⟨20, _⟩ => ⟨S4x512x512, .f32⟩
  | .local _ .vmem, ⟨21, _⟩ => ⟨S4x1x512, .f32⟩
  | .local _ .vmem, ⟨22, _⟩ => ⟨S4x1x512, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let c1_i32_23 : BitVec 32 := 1#32
  ⟨c0_i32_21, v71, c1_i32_23⟩
def k0_mult1 (i : grid0.Coords) (k0_t1 : Fin (k0_t1_loop i).trips) : BitVec 32 :=
  let c2_i32_182 : BitVec 32 := 2#32
  let c0_i32_21 : BitVec 32 := 0#32
  let c1_i32_23 : BitVec 32 := 1#32
  let arg21 : BitVec 32 := Scf.iv c0_i32_21 c1_i32_23 k0_t1
  let v318 : BitVec 32 := Scalar.muli c2_i32_182 arg21
  let c512_i32_183 : BitVec 32 := 512#32
  let v319 : BitVec 32 := Scalar.muli v318 c512_i32_183
  v319
def k0_off1 (i : grid0.Coords) (k0_t1 : Fin (k0_t1_loop i).trips) : Fin 2 → Nat :=
  let c2_i32_182 : BitVec 32 := 2#32
  let c0_i32_21 : BitVec 32 := 0#32
  let c1_i32_23 : BitVec 32 := 1#32
  let arg21 : BitVec 32 := Scf.iv c0_i32_21 c1_i32_23 k0_t1
  let v318 : BitVec 32 := Scalar.muli c2_i32_182 arg21
  let c512_i32_183 : BitVec 32 := 512#32
  let v319 : BitVec 32 := Scalar.muli v318 c512_i32_183
  let v320 : BitVec 32 := v319
  let v324 : Index := Scalar.indexCast v320
  let c0_184 : Index := 0#32
  ![v324.toNat, 0]
def k0_mult2 (i : grid0.Coords) (k0_t1 : Fin (k0_t1_loop i).trips) : BitVec 32 :=
  let c2_i32_212 : BitVec 32 := 2#32
  let c0_i32_21 : BitVec 32 := 0#32
  let c1_i32_23 : BitVec 32 := 1#32
  let arg21 : BitVec 32 := Scf.iv c0_i32_21 c1_i32_23 k0_t1
  let v474 : BitVec 32 := Scalar.muli c2_i32_212 arg21
  let c1_i32_213 : BitVec 32 := 1#32
  let v475 : BitVec 32 := Scalar.addi v474 c1_i32_213
  let c512_i32_214 : BitVec 32 := 512#32
  let v476 : BitVec 32 := Scalar.muli v475 c512_i32_214
  v476
def k0_off2 (i : grid0.Coords) (k0_t1 : Fin (k0_t1_loop i).trips) : Fin 2 → Nat :=
  let c2_i32_212 : BitVec 32 := 2#32
  let c0_i32_21 : BitVec 32 := 0#32
  let c1_i32_23 : BitVec 32 := 1#32
  let arg21 : BitVec 32 := Scf.iv c0_i32_21 c1_i32_23 k0_t1
  let v474 : BitVec 32 := Scalar.muli c2_i32_212 arg21
  let c1_i32_213 : BitVec 32 := 1#32
  let v475 : BitVec 32 := Scalar.addi v474 c1_i32_213
  let c512_i32_214 : BitVec 32 := 512#32
  let v476 : BitVec 32 := Scalar.muli v475 c512_i32_214
  let v477 : BitVec 32 := v476
  let v481 : Index := Scalar.indexCast v477
  let c0_215 : Index := 0#32
  ![v481.toNat, 0]
@[reducible] def k0_t2_loop (i : grid0.Coords) : Scf.Loop 32 :=
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let v68 : BitVec 32 := Scalar.addi c0_i32_21 v67
  let c1_i32_24 : BitVec 32 := 1#32
  ⟨v71, v68, c1_i32_24⟩
def k0_mult3 (i : grid0.Coords) (k0_t2 : Fin (k0_t2_loop i).trips) : BitVec 32 :=
  let c2_i32_182 : BitVec 32 := 2#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let c1_i32_24 : BitVec 32 := 1#32
  let arg21 : BitVec 32 := Scf.iv v71 c1_i32_24 k0_t2
  let v318 : BitVec 32 := Scalar.muli c2_i32_182 arg21
  let c512_i32_183 : BitVec 32 := 512#32
  let v319 : BitVec 32 := Scalar.muli v318 c512_i32_183
  v319
def k0_off3 (i : grid0.Coords) (k0_t2 : Fin (k0_t2_loop i).trips) : Fin 2 → Nat :=
  let c2_i32_182 : BitVec 32 := 2#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let c1_i32_24 : BitVec 32 := 1#32
  let arg21 : BitVec 32 := Scf.iv v71 c1_i32_24 k0_t2
  let v318 : BitVec 32 := Scalar.muli c2_i32_182 arg21
  let c512_i32_183 : BitVec 32 := 512#32
  let v319 : BitVec 32 := Scalar.muli v318 c512_i32_183
  let v320 : BitVec 32 := v319
  let v324 : Index := Scalar.indexCast v320
  let c0_184 : Index := 0#32
  ![v324.toNat, 0]
def k0_mult4 (i : grid0.Coords) (k0_t2 : Fin (k0_t2_loop i).trips) : BitVec 32 :=
  let c2_i32_212 : BitVec 32 := 2#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let c1_i32_24 : BitVec 32 := 1#32
  let arg21 : BitVec 32 := Scf.iv v71 c1_i32_24 k0_t2
  let v474 : BitVec 32 := Scalar.muli c2_i32_212 arg21
  let c1_i32_213 : BitVec 32 := 1#32
  let v475 : BitVec 32 := Scalar.addi v474 c1_i32_213
  let c512_i32_214 : BitVec 32 := 512#32
  let v476 : BitVec 32 := Scalar.muli v475 c512_i32_214
  v476
def k0_off4 (i : grid0.Coords) (k0_t2 : Fin (k0_t2_loop i).trips) : Fin 2 → Nat :=
  let c2_i32_212 : BitVec 32 := 2#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v67 : BitVec 32 := Scalar.subi v66 c0_i32_21
  let c1_i32_22 : BitVec 32 := 1#32
  let v69 : BitVec 32 := Scalar.divsi v67 c1_i32_22
  let v70 : BitVec 32 := Scalar.muli v69 c1_i32_22
  let v71 : BitVec 32 := Scalar.addi c0_i32_21 v70
  let c1_i32_24 : BitVec 32 := 1#32
  let arg21 : BitVec 32 := Scf.iv v71 c1_i32_24 k0_t2
  let v474 : BitVec 32 := Scalar.muli c2_i32_212 arg21
  let c1_i32_213 : BitVec 32 := 1#32
  let v475 : BitVec 32 := Scalar.addi v474 c1_i32_213
  let c512_i32_214 : BitVec 32 := 512#32
  let v476 : BitVec 32 := Scalar.muli v475 c512_i32_214
  let v477 : BitVec 32 := v476
  let v481 : Index := Scalar.indexCast v477
  let c0_215 : Index := 0#32
  ![v481.toNat, 0]
@[reducible] def k0_t3_loop : Scf.Loop 32 :=
  let c0_i32_27 : BitVec 32 := 0#32
  let c16_i32 : BitVec 32 := 16#32
  let v76 : BitVec 32 := Scalar.addi c0_i32_27 c16_i32
  let c1_i32_28 : BitVec 32 := 1#32
  ⟨c0_i32_27, v76, c1_i32_28⟩
@[reducible] def k0_t4_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_186 : BitVec 32 := 1#32
  ⟨c0_i32_184, v330, c1_i32_186⟩
def k0_mult5 (i : grid0.Coords) (k0_t4 : Fin (k0_t4_loop i).trips) : BitVec 32 :=
  let c0_i32_184 : BitVec 32 := 0#32
  let c1_i32_186 : BitVec 32 := 1#32
  let arg24 : BitVec 32 := Scf.iv c0_i32_184 c1_i32_186 k0_t4
  let c2_i32_192 : BitVec 32 := 2#32
  let v350 : BitVec 32 := Scalar.muli arg24 c2_i32_192
  let c512_i32_193 : BitVec 32 := 512#32
  let v351 : BitVec 32 := Scalar.muli v350 c512_i32_193
  v351
def k0_off5 (i : grid0.Coords) (k0_t4 : Fin (k0_t4_loop i).trips) : Fin 2 → Nat :=
  let c0_i32_184 : BitVec 32 := 0#32
  let c1_i32_186 : BitVec 32 := 1#32
  let arg24 : BitVec 32 := Scf.iv c0_i32_184 c1_i32_186 k0_t4
  let c2_i32_192 : BitVec 32 := 2#32
  let v350 : BitVec 32 := Scalar.muli arg24 c2_i32_192
  let c512_i32_193 : BitVec 32 := 512#32
  let v351 : BitVec 32 := Scalar.muli v350 c512_i32_193
  let v352 : BitVec 32 := v351
  let v353 : Index := Scalar.indexCast v352
  let c0_194 : Index := 0#32
  ![v353.toNat, 0]
@[reducible] def k0_t5_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let v327 : BitVec 32 := Scalar.addi c0_i32_184 v326
  let c1_i32_187 : BitVec 32 := 1#32
  ⟨v330, v327, c1_i32_187⟩
def k0_mult6 (i : grid0.Coords) (k0_t5 : Fin (k0_t5_loop i).trips) : BitVec 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_187 : BitVec 32 := 1#32
  let arg24 : BitVec 32 := Scf.iv v330 c1_i32_187 k0_t5
  let c2_i32_192 : BitVec 32 := 2#32
  let v350 : BitVec 32 := Scalar.muli arg24 c2_i32_192
  let c512_i32_193 : BitVec 32 := 512#32
  let v351 : BitVec 32 := Scalar.muli v350 c512_i32_193
  v351
def k0_off6 (i : grid0.Coords) (k0_t5 : Fin (k0_t5_loop i).trips) : Fin 2 → Nat :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_187 : BitVec 32 := 1#32
  let arg24 : BitVec 32 := Scf.iv v330 c1_i32_187 k0_t5
  let c2_i32_192 : BitVec 32 := 2#32
  let v350 : BitVec 32 := Scalar.muli arg24 c2_i32_192
  let c512_i32_193 : BitVec 32 := 512#32
  let v351 : BitVec 32 := Scalar.muli v350 c512_i32_193
  let v352 : BitVec 32 := v351
  let v353 : Index := Scalar.indexCast v352
  let c0_194 : Index := 0#32
  ![v353.toNat, 0]
@[reducible] def k0_t6_loop (i : grid0.Coords) : Scf.Loop 32 :=
  let c0_i32_30 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v82 : BitVec 32 := Scalar.subi v66 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_32 : BitVec 32 := 1#32
  ⟨c0_i32_30, v86, c1_i32_32⟩
def k0_mult7 (i : grid0.Coords) (k0_t6 : Fin (k0_t6_loop i).trips) : BitVec 32 :=
  let c0_i32_30 : BitVec 32 := 0#32
  let c1_i32_32 : BitVec 32 := 1#32
  let arg21 : BitVec 32 := Scf.iv c0_i32_30 c1_i32_32 k0_t6
  let c2_i32_182 : BitVec 32 := 2#32
  let v318 : BitVec 32 := Scalar.muli arg21 c2_i32_182
  let c512_i32_183 : BitVec 32 := 512#32
  let v319 : BitVec 32 := Scalar.muli v318 c512_i32_183
  v319
def k0_off7 (i : grid0.Coords) (k0_t6 : Fin (k0_t6_loop i).trips) : Fin 2 → Nat :=
  let c0_i32_30 : BitVec 32 := 0#32
  let c1_i32_32 : BitVec 32 := 1#32
  let arg21 : BitVec 32 := Scf.iv c0_i32_30 c1_i32_32 k0_t6
  let c2_i32_182 : BitVec 32 := 2#32
  let v318 : BitVec 32 := Scalar.muli arg21 c2_i32_182
  let c512_i32_183 : BitVec 32 := 512#32
  let v319 : BitVec 32 := Scalar.muli v318 c512_i32_183
  let v320 : BitVec 32 := v319
  let v321 : Index := Scalar.indexCast v320
  let c0_184 : Index := 0#32
  ![v321.toNat, 0]
@[reducible] def k0_t7_loop (i : grid0.Coords) : Scf.Loop 32 :=
  let c0_i32_30 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v82 : BitVec 32 := Scalar.subi v66 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let v83 : BitVec 32 := Scalar.addi c0_i32_30 v82
  let c1_i32_33 : BitVec 32 := 1#32
  ⟨v86, v83, c1_i32_33⟩
def k0_mult8 (i : grid0.Coords) (k0_t7 : Fin (k0_t7_loop i).trips) : BitVec 32 :=
  let c0_i32_30 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v82 : BitVec 32 := Scalar.subi v66 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg21 : BitVec 32 := Scf.iv v86 c1_i32_33 k0_t7
  let c2_i32_182 : BitVec 32 := 2#32
  let v318 : BitVec 32 := Scalar.muli arg21 c2_i32_182
  let c512_i32_183 : BitVec 32 := 512#32
  let v319 : BitVec 32 := Scalar.muli v318 c512_i32_183
  v319
def k0_off8 (i : grid0.Coords) (k0_t7 : Fin (k0_t7_loop i).trips) : Fin 2 → Nat :=
  let c0_i32_30 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v82 : BitVec 32 := Scalar.subi v66 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg21 : BitVec 32 := Scf.iv v86 c1_i32_33 k0_t7
  let c2_i32_182 : BitVec 32 := 2#32
  let v318 : BitVec 32 := Scalar.muli arg21 c2_i32_182
  let c512_i32_183 : BitVec 32 := 512#32
  let v319 : BitVec 32 := Scalar.muli v318 c512_i32_183
  let v320 : BitVec 32 := v319
  let v321 : Index := Scalar.indexCast v320
  let c0_184 : Index := 0#32
  ![v321.toNat, 0]
@[reducible] def k0_t8_loop (i : grid0.Coords) : Scf.Loop 32 :=
  let c0_i32_37 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v103 : BitVec 32 := Scalar.subi v66 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_39 : BitVec 32 := 1#32
  ⟨c0_i32_37, v107, c1_i32_39⟩
def k0_mult9 (i : grid0.Coords) (k0_t8 : Fin (k0_t8_loop i).trips) : BitVec 32 :=
  let c0_i32_37 : BitVec 32 := 0#32
  let c1_i32_39 : BitVec 32 := 1#32
  let arg21 : BitVec 32 := Scf.iv c0_i32_37 c1_i32_39 k0_t8
  let c2_i32_182 : BitVec 32 := 2#32
  let v318 : BitVec 32 := Scalar.muli arg21 c2_i32_182
  let c512_i32_183 : BitVec 32 := 512#32
  let v319 : BitVec 32 := Scalar.muli v318 c512_i32_183
  v319
def k0_off9 (i : grid0.Coords) (k0_t8 : Fin (k0_t8_loop i).trips) : Fin 2 → Nat :=
  let c0_i32_37 : BitVec 32 := 0#32
  let c1_i32_39 : BitVec 32 := 1#32
  let arg21 : BitVec 32 := Scf.iv c0_i32_37 c1_i32_39 k0_t8
  let c2_i32_182 : BitVec 32 := 2#32
  let v318 : BitVec 32 := Scalar.muli arg21 c2_i32_182
  let c512_i32_183 : BitVec 32 := 512#32
  let v319 : BitVec 32 := Scalar.muli v318 c512_i32_183
  let v320 : BitVec 32 := v319
  let v321 : Index := Scalar.indexCast v320
  let c0_184 : Index := 0#32
  ![v321.toNat, 0]
@[reducible] def k0_t9_loop (i : grid0.Coords) : Scf.Loop 32 :=
  let c0_i32_37 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v103 : BitVec 32 := Scalar.subi v66 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let v104 : BitVec 32 := Scalar.addi c0_i32_37 v103
  let c1_i32_40 : BitVec 32 := 1#32
  ⟨v107, v104, c1_i32_40⟩
def k0_mult10 (i : grid0.Coords) (k0_t9 : Fin (k0_t9_loop i).trips) : BitVec 32 :=
  let c0_i32_37 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v103 : BitVec 32 := Scalar.subi v66 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg21 : BitVec 32 := Scf.iv v107 c1_i32_40 k0_t9
  let c2_i32_182 : BitVec 32 := 2#32
  let v318 : BitVec 32 := Scalar.muli arg21 c2_i32_182
  let c512_i32_183 : BitVec 32 := 512#32
  let v319 : BitVec 32 := Scalar.muli v318 c512_i32_183
  v319
def k0_off10 (i : grid0.Coords) (k0_t9 : Fin (k0_t9_loop i).trips) : Fin 2 → Nat :=
  let c0_i32_37 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v103 : BitVec 32 := Scalar.subi v66 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg21 : BitVec 32 := Scf.iv v107 c1_i32_40 k0_t9
  let c2_i32_182 : BitVec 32 := 2#32
  let v318 : BitVec 32 := Scalar.muli arg21 c2_i32_182
  let c512_i32_183 : BitVec 32 := 512#32
  let v319 : BitVec 32 := Scalar.muli v318 c512_i32_183
  let v320 : BitVec 32 := v319
  let v321 : Index := Scalar.indexCast v320
  let c0_184 : Index := 0#32
  ![v321.toNat, 0]
@[reducible] def k0_t10_loop : Scf.Loop 32 :=
  let c0_i32_42 : BitVec 32 := 0#32
  let c16_i32_43 : BitVec 32 := 16#32
  let v109 : BitVec 32 := Scalar.addi c0_i32_42 c16_i32_43
  let c1_i32_44 : BitVec 32 := 1#32
  ⟨c0_i32_42, v109, c1_i32_44⟩
@[reducible] def k0_t11_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_186 : BitVec 32 := 1#32
  ⟨c0_i32_184, v330, c1_i32_186⟩
def k0_mult11 (i : grid0.Coords) (k0_t11 : Fin (k0_t11_loop i).trips) : BitVec 32 :=
  let c0_i32_184 : BitVec 32 := 0#32
  let c1_i32_186 : BitVec 32 := 1#32
  let arg24 : BitVec 32 := Scf.iv c0_i32_184 c1_i32_186 k0_t11
  let c2_i32_191 : BitVec 32 := 2#32
  let v349 : BitVec 32 := Scalar.muli arg24 c2_i32_191
  let c512_i32_192 : BitVec 32 := 512#32
  let v350 : BitVec 32 := Scalar.muli v349 c512_i32_192
  v350
def k0_off11 (i : grid0.Coords) (k0_t11 : Fin (k0_t11_loop i).trips) : Fin 2 → Nat :=
  let c0_i32_184 : BitVec 32 := 0#32
  let c1_i32_186 : BitVec 32 := 1#32
  let arg24 : BitVec 32 := Scf.iv c0_i32_184 c1_i32_186 k0_t11
  let c2_i32_191 : BitVec 32 := 2#32
  let v349 : BitVec 32 := Scalar.muli arg24 c2_i32_191
  let c512_i32_192 : BitVec 32 := 512#32
  let v350 : BitVec 32 := Scalar.muli v349 c512_i32_192
  let v351 : BitVec 32 := v350
  let v352 : Index := Scalar.indexCast v351
  let c0_193 : Index := 0#32
  ![v352.toNat, 0]
@[reducible] def k0_t12_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let v327 : BitVec 32 := Scalar.addi c0_i32_184 v326
  let c1_i32_187 : BitVec 32 := 1#32
  ⟨v330, v327, c1_i32_187⟩
def k0_mult12 (i : grid0.Coords) (k0_t12 : Fin (k0_t12_loop i).trips) : BitVec 32 :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_187 : BitVec 32 := 1#32
  let arg24 : BitVec 32 := Scf.iv v330 c1_i32_187 k0_t12
  let c2_i32_191 : BitVec 32 := 2#32
  let v349 : BitVec 32 := Scalar.muli arg24 c2_i32_191
  let c512_i32_192 : BitVec 32 := 512#32
  let v350 : BitVec 32 := Scalar.muli v349 c512_i32_192
  v350
def k0_off12 (i : grid0.Coords) (k0_t12 : Fin (k0_t12_loop i).trips) : Fin 2 → Nat :=
  let c0_i32_184 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v49 : BitVec 32 := Scalar.addi v20 c1_i32_13
  let c0_i32_14 : BitVec 32 := 0#32
  let v51 : BitVec 1 := Scalar.cmpi .sgt v49 c0_i32_14
  let v52 : BitVec 32 := Scalar.extui v51
  let c0_i32_15 : BitVec 32 := 0#32
  let v53 : BitVec 1 := Scalar.cmpi .slt v49 c0_i32_15
  let v54 : BitVec 32 := Scalar.extui v53
  let v55 : BitVec 32 := Scalar.subi v52 v54
  let c2_i32 : BitVec 32 := 2#32
  let c0_i32_16 : BitVec 32 := 0#32
  let v56 : BitVec 1 := Scalar.cmpi .sgt c2_i32 c0_i32_16
  let v57 : BitVec 32 := Scalar.extui v56
  let c0_i32_17 : BitVec 32 := 0#32
  let v58 : BitVec 1 := Scalar.cmpi .slt c2_i32 c0_i32_17
  let v59 : BitVec 32 := Scalar.extui v58
  let v60 : BitVec 32 := Scalar.subi v57 v59
  let v61 : BitVec 1 := Scalar.cmpi .ne v55 v60
  let v62 : BitVec 32 := Scalar.remsi v49 c2_i32
  let c0_i32_18 : BitVec 32 := 0#32
  let v63 : BitVec 1 := Scalar.cmpi .ne v62 c0_i32_18
  let v64 : BitVec 1 := Scalar.andi v61 v63
  let v50 : BitVec 32 := Scalar.divsi v49 c2_i32
  let c1_i32_19 : BitVec 32 := 1#32
  let v65 : BitVec 32 := Scalar.subi v50 c1_i32_19
  let v66 : BitVec 32 := Scalar.select v64 v65 v50
  let v326 : BitVec 32 := Scalar.subi v66 c0_i32_184
  let c1_i32_185 : BitVec 32 := 1#32
  let v328 : BitVec 32 := Scalar.divsi v326 c1_i32_185
  let v329 : BitVec 32 := Scalar.muli v328 c1_i32_185
  let v330 : BitVec 32 := Scalar.addi c0_i32_184 v329
  let c1_i32_187 : BitVec 32 := 1#32
  let arg24 : BitVec 32 := Scf.iv v330 c1_i32_187 k0_t12
  let c2_i32_191 : BitVec 32 := 2#32
  let v349 : BitVec 32 := Scalar.muli arg24 c2_i32_191
  let c512_i32_192 : BitVec 32 := 512#32
  let v350 : BitVec 32 := Scalar.muli v349 c512_i32_192
  let v351 : BitVec 32 := v350
  let v352 : Index := Scalar.indexCast v351
  let c0_193 : Index := 0#32
  ![v352.toNat, 0]
@[reducible] def k0_t13_loop (i : grid0.Coords) : Scf.Loop 32 :=
  let c0_i32_183 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v319 : BitVec 32 := Scalar.subi v20 c0_i32_183
  let c1_i32_184 : BitVec 32 := 1#32
  let v321 : BitVec 32 := Scalar.divsi v319 c1_i32_184
  let v322 : BitVec 32 := Scalar.muli v321 c1_i32_184
  let v323 : BitVec 32 := Scalar.addi c0_i32_183 v322
  let c1_i32_185 : BitVec 32 := 1#32
  ⟨c0_i32_183, v323, c1_i32_185⟩
def k0_mult13 (i : grid0.Coords) (k0_t13 : Fin (k0_t13_loop i).trips) : BitVec 32 :=
  let c0_i32_183 : BitVec 32 := 0#32
  let c1_i32_185 : BitVec 32 := 1#32
  let arg21 : BitVec 32 := Scf.iv c0_i32_183 c1_i32_185 k0_t13
  let c512_i32_195 : BitVec 32 := 512#32
  let v336 : BitVec 32 := Scalar.muli arg21 c512_i32_195
  v336
def k0_off13 (i : grid0.Coords) (k0_t13 : Fin (k0_t13_loop i).trips) : Fin 2 → Nat :=
  let c0_i32_183 : BitVec 32 := 0#32
  let c1_i32_185 : BitVec 32 := 1#32
  let arg21 : BitVec 32 := Scf.iv c0_i32_183 c1_i32_185 k0_t13
  let c512_i32_195 : BitVec 32 := 512#32
  let v336 : BitVec 32 := Scalar.muli arg21 c512_i32_195
  let v337 : BitVec 32 := v336
  let v341 : Index := Scalar.indexCast v337
  let c0_196 : Index := 0#32
  ![v341.toNat, 0]
@[reducible] def k0_t14_loop (i : grid0.Coords) : Scf.Loop 32 :=
  let c0_i32_183 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v319 : BitVec 32 := Scalar.subi v20 c0_i32_183
  let c1_i32_184 : BitVec 32 := 1#32
  let v321 : BitVec 32 := Scalar.divsi v319 c1_i32_184
  let v322 : BitVec 32 := Scalar.muli v321 c1_i32_184
  let v323 : BitVec 32 := Scalar.addi c0_i32_183 v322
  let v320 : BitVec 32 := Scalar.addi c0_i32_183 v319
  let c1_i32_186 : BitVec 32 := 1#32
  ⟨v323, v320, c1_i32_186⟩
def k0_mult14 (i : grid0.Coords) (k0_t14 : Fin (k0_t14_loop i).trips) : BitVec 32 :=
  let c0_i32_183 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v319 : BitVec 32 := Scalar.subi v20 c0_i32_183
  let c1_i32_184 : BitVec 32 := 1#32
  let v321 : BitVec 32 := Scalar.divsi v319 c1_i32_184
  let v322 : BitVec 32 := Scalar.muli v321 c1_i32_184
  let v323 : BitVec 32 := Scalar.addi c0_i32_183 v322
  let c1_i32_186 : BitVec 32 := 1#32
  let arg21 : BitVec 32 := Scf.iv v323 c1_i32_186 k0_t14
  let c512_i32_195 : BitVec 32 := 512#32
  let v336 : BitVec 32 := Scalar.muli arg21 c512_i32_195
  v336
def k0_off14 (i : grid0.Coords) (k0_t14 : Fin (k0_t14_loop i).trips) : Fin 2 → Nat :=
  let c0_i32_183 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v319 : BitVec 32 := Scalar.subi v20 c0_i32_183
  let c1_i32_184 : BitVec 32 := 1#32
  let v321 : BitVec 32 := Scalar.divsi v319 c1_i32_184
  let v322 : BitVec 32 := Scalar.muli v321 c1_i32_184
  let v323 : BitVec 32 := Scalar.addi c0_i32_183 v322
  let c1_i32_186 : BitVec 32 := 1#32
  let arg21 : BitVec 32 := Scf.iv v323 c1_i32_186 k0_t14
  let c512_i32_195 : BitVec 32 := 512#32
  let v336 : BitVec 32 := Scalar.muli arg21 c512_i32_195
  let v337 : BitVec 32 := v336
  let v341 : Index := Scalar.indexCast v337
  let c0_196 : Index := 0#32
  ![v341.toNat, 0]
@[reducible] def k0_t15_loop : Scf.Loop 32 :=
  let c0_i32_190 : BitVec 32 := 0#32
  let c13_i32 : BitVec 32 := 13#32
  let v331 : BitVec 32 := Scalar.addi c0_i32_190 c13_i32
  let c1_i32_191 : BitVec 32 := 1#32
  ⟨c0_i32_190, v331, c1_i32_191⟩
@[reducible] def k0_t16_loop (i : grid0.Coords) : Scf.Loop 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v341 : BitVec 32 := Scalar.subi v20 c0_i32_197
  let c1_i32_198 : BitVec 32 := 1#32
  let v343 : BitVec 32 := Scalar.divsi v341 c1_i32_198
  let v344 : BitVec 32 := Scalar.muli v343 c1_i32_198
  let v345 : BitVec 32 := Scalar.addi c0_i32_197 v344
  let c1_i32_199 : BitVec 32 := 1#32
  ⟨c0_i32_197, v345, c1_i32_199⟩
def k0_mult15 (i : grid0.Coords) (k0_t16 : Fin (k0_t16_loop i).trips) : BitVec 32 :=
  let c0_i32_197 : BitVec 32 := 0#32
  let c1_i32_199 : BitVec 32 := 1#32
  let arg23 : BitVec 32 := Scf.iv c0_i32_197 c1_i32_199 k0_t16
  let c512_i32_202 : BitVec 32 := 512#32
  let v352 : BitVec 32 := Scalar.muli arg23 c512_i32_202
  v352
def k0_off15 (i : grid0.Coords) (k0_t16 : Fin (k0_t16_loop i).trips) : Fin 2 → Nat :=
  let c0_i32_197 : BitVec 32 := 0#32
  let c1_i32_199 : BitVec 32 := 1#32
  let arg23 : BitVec 32 := Scf.iv c0_i32_197 c1_i32_199 k0_t16
  let c512_i32_202 : BitVec 32 := 512#32
  let v352 : BitVec 32 := Scalar.muli arg23 c512_i32_202
  let v353 : BitVec 32 := v352
  let v357 : Index := Scalar.indexCast v353
  let c0_203 : Index := 0#32
  ![v357.toNat, 0]
@[reducible] def k0_t17_loop (i : grid0.Coords) : Scf.Loop 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v341 : BitVec 32 := Scalar.subi v20 c0_i32_197
  let c1_i32_198 : BitVec 32 := 1#32
  let v343 : BitVec 32 := Scalar.divsi v341 c1_i32_198
  let v344 : BitVec 32 := Scalar.muli v343 c1_i32_198
  let v345 : BitVec 32 := Scalar.addi c0_i32_197 v344
  let v342 : BitVec 32 := Scalar.addi c0_i32_197 v341
  let c1_i32_200 : BitVec 32 := 1#32
  ⟨v345, v342, c1_i32_200⟩
def k0_mult16 (i : grid0.Coords) (k0_t17 : Fin (k0_t17_loop i).trips) : BitVec 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v341 : BitVec 32 := Scalar.subi v20 c0_i32_197
  let c1_i32_198 : BitVec 32 := 1#32
  let v343 : BitVec 32 := Scalar.divsi v341 c1_i32_198
  let v344 : BitVec 32 := Scalar.muli v343 c1_i32_198
  let v345 : BitVec 32 := Scalar.addi c0_i32_197 v344
  let c1_i32_200 : BitVec 32 := 1#32
  let arg23 : BitVec 32 := Scf.iv v345 c1_i32_200 k0_t17
  let c512_i32_202 : BitVec 32 := 512#32
  let v352 : BitVec 32 := Scalar.muli arg23 c512_i32_202
  v352
def k0_off16 (i : grid0.Coords) (k0_t17 : Fin (k0_t17_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v341 : BitVec 32 := Scalar.subi v20 c0_i32_197
  let c1_i32_198 : BitVec 32 := 1#32
  let v343 : BitVec 32 := Scalar.divsi v341 c1_i32_198
  let v344 : BitVec 32 := Scalar.muli v343 c1_i32_198
  let v345 : BitVec 32 := Scalar.addi c0_i32_197 v344
  let c1_i32_200 : BitVec 32 := 1#32
  let arg23 : BitVec 32 := Scf.iv v345 c1_i32_200 k0_t17
  let c512_i32_202 : BitVec 32 := 512#32
  let v352 : BitVec 32 := Scalar.muli arg23 c512_i32_202
  let v353 : BitVec 32 := v352
  let v357 : Index := Scalar.indexCast v353
  let c0_203 : Index := 0#32
  ![v357.toNat, 0]
@[reducible] def k0_t18_loop (i : grid0.Coords) : Scf.Loop 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v134 : BitVec 32 := Scalar.subi v20 c0_i32_55
  let c1_i32_56 : BitVec 32 := 1#32
  let v136 : BitVec 32 := Scalar.divsi v134 c1_i32_56
  let v137 : BitVec 32 := Scalar.muli v136 c1_i32_56
  let v138 : BitVec 32 := Scalar.addi c0_i32_55 v137
  let c1_i32_57 : BitVec 32 := 1#32
  ⟨c0_i32_55, v138, c1_i32_57⟩
def k0_mult17 (i : grid0.Coords) (k0_t18 : Fin (k0_t18_loop i).trips) : BitVec 32 :=
  let c0_i32_55 : BitVec 32 := 0#32
  let c1_i32_57 : BitVec 32 := 1#32
  let arg21 : BitVec 32 := Scf.iv c0_i32_55 c1_i32_57 k0_t18
  let c512_i32_182 : BitVec 32 := 512#32
  let v318 : BitVec 32 := Scalar.muli arg21 c512_i32_182
  v318
def k0_off17 (i : grid0.Coords) (k0_t18 : Fin (k0_t18_loop i).trips) : Fin 2 → Nat :=
  let c0_i32_55 : BitVec 32 := 0#32
  let c1_i32_57 : BitVec 32 := 1#32
  let arg21 : BitVec 32 := Scf.iv c0_i32_55 c1_i32_57 k0_t18
  let c512_i32_182 : BitVec 32 := 512#32
  let v318 : BitVec 32 := Scalar.muli arg21 c512_i32_182
  let v319 : BitVec 32 := v318
  let v323 : Index := Scalar.indexCast v319
  let c0_183 : Index := 0#32
  ![v323.toNat, 0]
@[reducible] def k0_t19_loop (i : grid0.Coords) : Scf.Loop 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v134 : BitVec 32 := Scalar.subi v20 c0_i32_55
  let c1_i32_56 : BitVec 32 := 1#32
  let v136 : BitVec 32 := Scalar.divsi v134 c1_i32_56
  let v137 : BitVec 32 := Scalar.muli v136 c1_i32_56
  let v138 : BitVec 32 := Scalar.addi c0_i32_55 v137
  let v135 : BitVec 32 := Scalar.addi c0_i32_55 v134
  let c1_i32_58 : BitVec 32 := 1#32
  ⟨v138, v135, c1_i32_58⟩
def k0_mult18 (i : grid0.Coords) (k0_t19 : Fin (k0_t19_loop i).trips) : BitVec 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v134 : BitVec 32 := Scalar.subi v20 c0_i32_55
  let c1_i32_56 : BitVec 32 := 1#32
  let v136 : BitVec 32 := Scalar.divsi v134 c1_i32_56
  let v137 : BitVec 32 := Scalar.muli v136 c1_i32_56
  let v138 : BitVec 32 := Scalar.addi c0_i32_55 v137
  let c1_i32_58 : BitVec 32 := 1#32
  let arg21 : BitVec 32 := Scf.iv v138 c1_i32_58 k0_t19
  let c512_i32_182 : BitVec 32 := 512#32
  let v318 : BitVec 32 := Scalar.muli arg21 c512_i32_182
  v318
def k0_off18 (i : grid0.Coords) (k0_t19 : Fin (k0_t19_loop i).trips) : Fin 2 → Nat :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v134 : BitVec 32 := Scalar.subi v20 c0_i32_55
  let c1_i32_56 : BitVec 32 := 1#32
  let v136 : BitVec 32 := Scalar.divsi v134 c1_i32_56
  let v137 : BitVec 32 := Scalar.muli v136 c1_i32_56
  let v138 : BitVec 32 := Scalar.addi c0_i32_55 v137
  let c1_i32_58 : BitVec 32 := 1#32
  let arg21 : BitVec 32 := Scf.iv v138 c1_i32_58 k0_t19
  let c512_i32_182 : BitVec 32 := 512#32
  let v318 : BitVec 32 := Scalar.muli arg21 c512_i32_182
  let v319 : BitVec 32 := v318
  let v323 : Index := Scalar.indexCast v319
  let c0_183 : Index := 0#32
  ![v323.toNat, 0]
def k0_mult19 (i : grid0.Coords) : BitVec 32 :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_117 : BitVec 32 := 1#32
  let v203 : BitVec 32 := Scalar.subi v20 c1_i32_117
  let v204 : BitVec 32 := Scalar.minsi c0_i32_118 v203
  let c512_i32_119 : BitVec 32 := 512#32
  let v205 : BitVec 32 := Scalar.muli v204 c512_i32_119
  v205
def k0_off19 (i : grid0.Coords) : Fin 2 → Nat :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_117 : BitVec 32 := 1#32
  let v203 : BitVec 32 := Scalar.subi v20 c1_i32_117
  let v204 : BitVec 32 := Scalar.minsi c0_i32_118 v203
  let c512_i32_119 : BitVec 32 := 512#32
  let v205 : BitVec 32 := Scalar.muli v204 c512_i32_119
  let v206 : BitVec 32 := v205
  let v207 : Index := Scalar.indexCast v206
  let c0_120 : Index := 0#32
  ![v207.toNat, 0]
def k0_off20 (i : grid0.Coords) : Fin 2 → Nat :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_117 : BitVec 32 := 1#32
  let v203 : BitVec 32 := Scalar.subi v20 c1_i32_117
  let v204 : BitVec 32 := Scalar.minsi c0_i32_118 v203
  let c512_i32_119 : BitVec 32 := 512#32
  let v205 : BitVec 32 := Scalar.muli v204 c512_i32_119
  let v206 : BitVec 32 := v205
  let v211 : Index := Scalar.indexCast v206
  let c0_121 : Index := 0#32
  ![v211.toNat, 0]
@[reducible] def k0_t20_loop (i : grid0.Coords) : Scf.Loop 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_136 : BitVec 32 := 1#32
  ⟨c0_i32_134, v229, c1_i32_136⟩
def k0_mult20 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  v320
def k0_off21 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  let v321 : BitVec 32 := v320
  let v322 : Index := Scalar.indexCast v321
  let c0_184 : Index := 0#32
  ![v322.toNat, 0]
def k0_off22 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  let v321 : BitVec 32 := v320
  let v326 : Index := Scalar.indexCast v321
  let c128_185 : Index := 128#32
  ![v326.toNat, 128]
def k0_mult21 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let c512_i32_197 : BitVec 32 := 512#32
  let v340 : BitVec 32 := Scalar.muli arg21 c512_i32_197
  v340
def k0_off23 (i : grid0.Coords) (k0_t20 : Fin (k0_t20_loop i).trips) : Fin 3 → Nat :=
  let c0_207 : Index := 0#32
  let c0_208 : Index := 0#32
  let c0_i32_134 : BitVec 32 := 0#32
  let c1_i32_136 : BitVec 32 := 1#32
  let arg21 : BitVec 32 := Scf.iv c0_i32_134 c1_i32_136 k0_t20
  let c512_i32_197 : BitVec 32 := 512#32
  let v340 : BitVec 32 := Scalar.muli arg21 c512_i32_197
  let v341 : BitVec 32 := v340
  let v353 : Index := Scalar.indexCast v341
  ![0, 0, v353.toNat]
def k0_mult22 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_219 : BitVec 32 := 1#32
  let v370 : BitVec 32 := Scalar.subi v20 c1_i32_219
  let v371 : BitVec 32 := Scalar.minsi arg21 v370
  let c512_i32_220 : BitVec 32 := 512#32
  let v372 : BitVec 32 := Scalar.muli v371 c512_i32_220
  v372
def k0_off24 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_219 : BitVec 32 := 1#32
  let v370 : BitVec 32 := Scalar.subi v20 c1_i32_219
  let v371 : BitVec 32 := Scalar.minsi arg21 v370
  let c512_i32_220 : BitVec 32 := 512#32
  let v372 : BitVec 32 := Scalar.muli v371 c512_i32_220
  let v373 : BitVec 32 := v372
  let v378 : Index := Scalar.indexCast v373
  let c256_222 : Index := 256#32
  ![v378.toNat, 256]
def k0_mult23 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let c512_i32_234 : BitVec 32 := 512#32
  let v392 : BitVec 32 := Scalar.muli arg21 c512_i32_234
  v392
def k0_off25 (i : grid0.Coords) (k0_t20 : Fin (k0_t20_loop i).trips) : Fin 3 → Nat :=
  let c1_244 : Index := 1#32
  let c0_245 : Index := 0#32
  let c0_i32_134 : BitVec 32 := 0#32
  let c1_i32_136 : BitVec 32 := 1#32
  let arg21 : BitVec 32 := Scf.iv c0_i32_134 c1_i32_136 k0_t20
  let c512_i32_234 : BitVec 32 := 512#32
  let v392 : BitVec 32 := Scalar.muli arg21 c512_i32_234
  let v393 : BitVec 32 := v392
  let v405 : Index := Scalar.indexCast v393
  ![1, 0, v405.toNat]
def k0_mult24 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_256 : BitVec 32 := 1#32
  let v422 : BitVec 32 := Scalar.subi v20 c1_i32_256
  let v423 : BitVec 32 := Scalar.minsi arg21 v422
  let c512_i32_257 : BitVec 32 := 512#32
  let v424 : BitVec 32 := Scalar.muli v423 c512_i32_257
  v424
def k0_off26 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_256 : BitVec 32 := 1#32
  let v422 : BitVec 32 := Scalar.subi v20 c1_i32_256
  let v423 : BitVec 32 := Scalar.minsi arg21 v422
  let c512_i32_257 : BitVec 32 := 512#32
  let v424 : BitVec 32 := Scalar.muli v423 c512_i32_257
  let v425 : BitVec 32 := v424
  let v430 : Index := Scalar.indexCast v425
  let c384_259 : Index := 384#32
  ![v430.toNat, 384]
def k0_mult25 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let c512_i32_271 : BitVec 32 := 512#32
  let v444 : BitVec 32 := Scalar.muli arg21 c512_i32_271
  v444
def k0_off27 (i : grid0.Coords) (k0_t20 : Fin (k0_t20_loop i).trips) : Fin 3 → Nat :=
  let c2_281 : Index := 2#32
  let c0_282 : Index := 0#32
  let c0_i32_134 : BitVec 32 := 0#32
  let c1_i32_136 : BitVec 32 := 1#32
  let arg21 : BitVec 32 := Scf.iv c0_i32_134 c1_i32_136 k0_t20
  let c512_i32_271 : BitVec 32 := 512#32
  let v444 : BitVec 32 := Scalar.muli arg21 c512_i32_271
  let v445 : BitVec 32 := v444
  let v457 : Index := Scalar.indexCast v445
  ![2, 0, v457.toNat]
def k0_mult26 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let c512_i32_293 : BitVec 32 := 512#32
  let v474 : BitVec 32 := Scalar.muli arg21 c512_i32_293
  v474
def k0_off28 (i : grid0.Coords) (k0_t20 : Fin (k0_t20_loop i).trips) : Fin 3 → Nat :=
  let c3_303 : Index := 3#32
  let c0_304 : Index := 0#32
  let c0_i32_134 : BitVec 32 := 0#32
  let c1_i32_136 : BitVec 32 := 1#32
  let arg21 : BitVec 32 := Scf.iv c0_i32_134 c1_i32_136 k0_t20
  let c512_i32_293 : BitVec 32 := 512#32
  let v474 : BitVec 32 := Scalar.muli arg21 c512_i32_293
  let v475 : BitVec 32 := v474
  let v487 : Index := Scalar.indexCast v475
  ![3, 0, v487.toNat]
def k0_mult27 (i : grid0.Coords) (k0_t20 : Fin (k0_t20_loop i).trips) : BitVec 32 :=
  let c0_i32_134 : BitVec 32 := 0#32
  let c1_i32_136 : BitVec 32 := 1#32
  let arg21 : BitVec 32 := Scf.iv c0_i32_134 c1_i32_136 k0_t20
  let c1_i32_315 : BitVec 32 := 1#32
  let v504 : BitVec 32 := Scalar.addi arg21 c1_i32_315
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  v507
def k0_off29 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let c1_i32_315 : BitVec 32 := 1#32
  let v504 : BitVec 32 := Scalar.addi arg21 c1_i32_315
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  let v508 : BitVec 32 := v507
  let v509 : Index := Scalar.indexCast v508
  let c0_318 : Index := 0#32
  ![v509.toNat, 0]
def k0_off30 (i : grid0.Coords) (k0_t20 : Fin (k0_t20_loop i).trips) : Fin 2 → Nat :=
  let c0_i32_134 : BitVec 32 := 0#32
  let c1_i32_136 : BitVec 32 := 1#32
  let arg21 : BitVec 32 := Scf.iv c0_i32_134 c1_i32_136 k0_t20
  let c1_i32_315 : BitVec 32 := 1#32
  let v504 : BitVec 32 := Scalar.addi arg21 c1_i32_315
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  let v508 : BitVec 32 := v507
  let v513 : Index := Scalar.indexCast v508
  let c0_319 : Index := 0#32
  ![v513.toNat, 0]
@[reducible] def k0_t21_loop (i : grid0.Coords) : Scf.Loop 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let v226 : BitVec 32 := Scalar.addi c0_i32_134 v225
  let c1_i32_137 : BitVec 32 := 1#32
  ⟨v229, v226, c1_i32_137⟩
def k0_mult28 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  v320
def k0_off31 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  let v321 : BitVec 32 := v320
  let v322 : Index := Scalar.indexCast v321
  let c0_184 : Index := 0#32
  ![v322.toNat, 0]
def k0_off32 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_182 : BitVec 32 := 1#32
  let v318 : BitVec 32 := Scalar.subi v20 c1_i32_182
  let v319 : BitVec 32 := Scalar.minsi arg21 v318
  let c512_i32_183 : BitVec 32 := 512#32
  let v320 : BitVec 32 := Scalar.muli v319 c512_i32_183
  let v321 : BitVec 32 := v320
  let v326 : Index := Scalar.indexCast v321
  let c128_185 : Index := 128#32
  ![v326.toNat, 128]
def k0_mult29 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_197 : BitVec 32 := 512#32
  let v340 : BitVec 32 := Scalar.muli arg21 c512_i32_197
  v340
def k0_off33 (i : grid0.Coords) (k0_t21 : Fin (k0_t21_loop i).trips) : Fin 3 → Nat :=
  let c0_207 : Index := 0#32
  let c0_208 : Index := 0#32
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_197 : BitVec 32 := 512#32
  let v340 : BitVec 32 := Scalar.muli arg21 c512_i32_197
  let v341 : BitVec 32 := v340
  let v353 : Index := Scalar.indexCast v341
  ![0, 0, v353.toNat]
def k0_mult30 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_219 : BitVec 32 := 1#32
  let v370 : BitVec 32 := Scalar.subi v20 c1_i32_219
  let v371 : BitVec 32 := Scalar.minsi arg21 v370
  let c512_i32_220 : BitVec 32 := 512#32
  let v372 : BitVec 32 := Scalar.muli v371 c512_i32_220
  v372
def k0_off34 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_219 : BitVec 32 := 1#32
  let v370 : BitVec 32 := Scalar.subi v20 c1_i32_219
  let v371 : BitVec 32 := Scalar.minsi arg21 v370
  let c512_i32_220 : BitVec 32 := 512#32
  let v372 : BitVec 32 := Scalar.muli v371 c512_i32_220
  let v373 : BitVec 32 := v372
  let v378 : Index := Scalar.indexCast v373
  let c256_222 : Index := 256#32
  ![v378.toNat, 256]
def k0_mult31 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_234 : BitVec 32 := 512#32
  let v392 : BitVec 32 := Scalar.muli arg21 c512_i32_234
  v392
def k0_off35 (i : grid0.Coords) (k0_t21 : Fin (k0_t21_loop i).trips) : Fin 3 → Nat :=
  let c1_244 : Index := 1#32
  let c0_245 : Index := 0#32
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_234 : BitVec 32 := 512#32
  let v392 : BitVec 32 := Scalar.muli arg21 c512_i32_234
  let v393 : BitVec 32 := v392
  let v405 : Index := Scalar.indexCast v393
  ![1, 0, v405.toNat]
def k0_mult32 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_256 : BitVec 32 := 1#32
  let v422 : BitVec 32 := Scalar.subi v20 c1_i32_256
  let v423 : BitVec 32 := Scalar.minsi arg21 v422
  let c512_i32_257 : BitVec 32 := 512#32
  let v424 : BitVec 32 := Scalar.muli v423 c512_i32_257
  v424
def k0_off36 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_256 : BitVec 32 := 1#32
  let v422 : BitVec 32 := Scalar.subi v20 c1_i32_256
  let v423 : BitVec 32 := Scalar.minsi arg21 v422
  let c512_i32_257 : BitVec 32 := 512#32
  let v424 : BitVec 32 := Scalar.muli v423 c512_i32_257
  let v425 : BitVec 32 := v424
  let v430 : Index := Scalar.indexCast v425
  let c384_259 : Index := 384#32
  ![v430.toNat, 384]
def k0_mult33 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_271 : BitVec 32 := 512#32
  let v444 : BitVec 32 := Scalar.muli arg21 c512_i32_271
  v444
def k0_off37 (i : grid0.Coords) (k0_t21 : Fin (k0_t21_loop i).trips) : Fin 3 → Nat :=
  let c2_281 : Index := 2#32
  let c0_282 : Index := 0#32
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_271 : BitVec 32 := 512#32
  let v444 : BitVec 32 := Scalar.muli arg21 c512_i32_271
  let v445 : BitVec 32 := v444
  let v457 : Index := Scalar.indexCast v445
  ![2, 0, v457.toNat]
def k0_mult34 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_293 : BitVec 32 := 512#32
  let v474 : BitVec 32 := Scalar.muli arg21 c512_i32_293
  v474
def k0_off38 (i : grid0.Coords) (k0_t21 : Fin (k0_t21_loop i).trips) : Fin 3 → Nat :=
  let c3_303 : Index := 3#32
  let c0_304 : Index := 0#32
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c512_i32_293 : BitVec 32 := 512#32
  let v474 : BitVec 32 := Scalar.muli arg21 c512_i32_293
  let v475 : BitVec 32 := v474
  let v487 : Index := Scalar.indexCast v475
  ![3, 0, v487.toNat]
def k0_mult35 (i : grid0.Coords) (k0_t21 : Fin (k0_t21_loop i).trips) : BitVec 32 :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_315 : BitVec 32 := 1#32
  let v504 : BitVec 32 := Scalar.addi arg21 c1_i32_315
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  v507
def k0_off39 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_315 : BitVec 32 := 1#32
  let v504 : BitVec 32 := Scalar.addi arg21 c1_i32_315
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  let v508 : BitVec 32 := v507
  let v509 : Index := Scalar.indexCast v508
  let c0_318 : Index := 0#32
  ![v509.toNat, 0]
def k0_off40 (i : grid0.Coords) (k0_t21 : Fin (k0_t21_loop i).trips) : Fin 2 → Nat :=
  let c0_i32_134 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v225 : BitVec 32 := Scalar.subi v20 c0_i32_134
  let c1_i32_135 : BitVec 32 := 1#32
  let v227 : BitVec 32 := Scalar.divsi v225 c1_i32_135
  let v228 : BitVec 32 := Scalar.muli v227 c1_i32_135
  let v229 : BitVec 32 := Scalar.addi c0_i32_134 v228
  let c1_i32_137 : BitVec 32 := 1#32
  let arg21 : BitVec 32 := Scf.iv v229 c1_i32_137 k0_t21
  let c1_i32_315 : BitVec 32 := 1#32
  let v504 : BitVec 32 := Scalar.addi arg21 c1_i32_315
  let c1_i32_316 : BitVec 32 := 1#32
  let v505 : BitVec 32 := Scalar.subi v20 c1_i32_316
  let v506 : BitVec 32 := Scalar.minsi v504 v505
  let c512_i32_317 : BitVec 32 := 512#32
  let v507 : BitVec 32 := Scalar.muli v506 c512_i32_317
  let v508 : BitVec 32 := v507
  let v513 : Index := Scalar.indexCast v508
  let c0_319 : Index := 0#32
  ![v513.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S2x8192x4096 : Shape := ⟨3, ![2, 8192, 4096]⟩
abbrev S1x4096 : Shape := ⟨2, ![1, 4096]⟩
abbrev S1x4096x11008 : Shape := ⟨3, ![1, 4096, 11008]⟩
abbrev S16384x4096 : Shape := ⟨2, ![16384, 4096]⟩
abbrev S4096 : Shape := ⟨1, ![4096]⟩
abbrev S4096x11008 : Shape := ⟨2, ![4096, 11008]⟩
abbrev S16384x11008 : Shape := ⟨2, ![16384, 11008]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S16384x4096, .f32⟩
  | .hbm, ⟨5, _⟩ => ⟨S4096, .f32⟩
  | .hbm, ⟨6, _⟩ => ⟨S1x4096, .f32⟩
  | .hbm, ⟨7, _⟩ => ⟨S4096x11008, .f32⟩
  | .hbm, ⟨8, _⟩ => ⟨S4096x11008, .bf16⟩
  | .hbm, ⟨9, _⟩ => ⟨S4096x11008, .f32⟩
  | .hbm, ⟨10, _⟩ => ⟨S4096x11008, .bf16⟩
  | .hbm, ⟨11, _⟩ => ⟨S16384x11008, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S512x512, .bf16⟩
  | .local _ .vmem, ⟨8, _⟩ => ⟨S512x512, .bf16⟩
  | .local _ .vmem, ⟨9, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x8192x4096 : Shape := ⟨3, ![2, 8192, 4096]⟩
abbrev S1x4096 : Shape := ⟨2, ![1, 4096]⟩
abbrev S1x4096x11008 : Shape := ⟨3, ![1, 4096, 11008]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S4096x11008 : Shape := ⟨2, ![4096, 11008]⟩
abbrev S2x8192x11008 : Shape := ⟨3, ![2, 8192, 11008]⟩
abbrev S16384x11008 : Shape := ⟨2, ![16384, 11008]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S4096, .f32⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S4096x11008, .f32⟩
  | .hbm, ⟨22, _⟩ => ⟨S2x8192x11008, .f32⟩
  | .hbm, ⟨23, _⟩ => ⟨S2x8192x11008, .f32⟩
  | .hbm, ⟨24, _⟩ => ⟨S2x8192x11008, .f32⟩
  | .hbm, ⟨25, _⟩ => ⟨S_, .f32⟩
  | .hbm, ⟨26, _⟩ => ⟨S2x8192x11008, .f32⟩
  | .hbm, ⟨27, _⟩ => ⟨S2x8192x11008, .f32⟩
  | .hbm, ⟨28, _⟩ => ⟨S_, .f32⟩
  | .hbm, ⟨29, _⟩ => ⟨S2x8192x11008, .f32⟩
  | .hbm, ⟨30, _⟩ => ⟨S2x8192x11008, .f32⟩
  | .hbm, ⟨31, _⟩ => ⟨S2x8192x11008, .f32⟩
  | .hbm, ⟨32, _⟩ => ⟨S4096x11008, .f32⟩
  | .hbm, ⟨33, _⟩ => ⟨S2x8192x11008, .f32⟩
  | .hbm, ⟨34, _⟩ => ⟨S2x8192x11008, .f32⟩
  | .hbm, ⟨35, _⟩ => ⟨S16384x11008, .f32⟩
  | .hbm, ⟨36, _⟩ => ⟨S16384x11008, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel3.lean ====
abbrev S2x8192x11008 : Shape := ⟨3, ![2, 8192, 11008]⟩
abbrev S1x11008x4096 : Shape := ⟨3, ![1, 11008, 4096]⟩
abbrev S2x8192x4096 : Shape := ⟨3, ![2, 8192, 4096]⟩
abbrev S16384x11008 : Shape := ⟨2, ![16384, 11008]⟩
abbrev S11008x4096 : Shape := ⟨2, ![11008, 4096]⟩
abbrev S16384x4096 : Shape := ⟨2, ![16384, 4096]⟩
abbrev S512x5504 : Shape := ⟨2, ![512, 5504]⟩
abbrev S5504x1024 : Shape := ⟨2, ![5504, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x11008, .f32⟩
  | .hbm, ⟨1, _⟩ => ⟨S1x11008x4096, .f32⟩
  | .hbm, ⟨2, _⟩ => ⟨S2x8192x4096, .f32⟩
  | .hbm, ⟨3, _⟩ => ⟨S16384x11008, .f32⟩
  | .hbm, ⟨4, _⟩ => ⟨S16384x11008, .bf16⟩
  | .hbm, ⟨5, _⟩ => ⟨S11008x4096, .f32⟩
  | .hbm, ⟨6, _⟩ => ⟨S11008x4096, .bf16⟩
  | .hbm, ⟨7, _⟩ => ⟨S16384x4096, .f32⟩
  | .hbm, ⟨8, _⟩ => ⟨S16384x4096, .f32⟩
  | .local _ .vmem, ⟨0, _⟩ => ⟨S512x5504, .bf16⟩
  | .local _ .vmem, ⟨1, _⟩ => ⟨S512x5504, .bf16⟩
  | .local _ .vmem, ⟨2, _⟩ => ⟨S5504x1024, .bf16⟩
  | .local _ .vmem, ⟨3, _⟩ => ⟨S5504x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2x8192x11008 : Shape := ⟨3, ![2, 8192, 11008]⟩
abbrev S1x11008x4096 : Shape := ⟨3, ![1, 11008, 4096]⟩
abbrev S2x8192x4096 : Shape := ⟨3, ![2, 8192, 4096]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x11008, .f32⟩
  | .hbm, ⟨1, _⟩ => ⟨S1x11008x4096, .f32⟩
  | .hbm, ⟨2, _⟩ => ⟨S2x8192x4096, .f32⟩
  | .hbm, ⟨3, _⟩ => ⟨S11008x4096, .f32⟩
  | .hbm, ⟨4, _⟩ => ⟨S2x8192x4096, .f32⟩
  | .hbm, ⟨5, _⟩ => ⟨S2x8192x4096, .f32⟩
  | .hbm, ⟨6, _⟩ => ⟨S16384x4096, .f32⟩
  | _, _ => ⟨S2x8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x4096x4096 : Shape := ⟨3, ![1, 4096, 4096]⟩
abbrev S2x8192x4096 : Shape := ⟨3, ![2, 8192, 4096]⟩
abbrev S16384x2048 : Shape := ⟨2, ![16384, 2048]⟩
abbrev S4096x4096 : Shape := ⟨2, ![4096, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x4096x4096, .f32⟩
  | .hbm, ⟨3, _⟩ => ⟨S2x8192x4096, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S4096x4096, .f32⟩
  | .hbm, ⟨9, _⟩ => ⟨S4096x4096, .bf16⟩
  | .hbm, ⟨10, _⟩ => ⟨S16384x4096, .f32⟩
  | .hbm, ⟨11, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x2048 : Shape := ⟨3, ![2, 8192, 2048]⟩
abbrev S1x4096x4096 : Shape := ⟨3, ![1, 4096, 4096]⟩
abbrev S2x8192x4096 : Shape := ⟨3, ![2, 8192, 4096]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x4096x4096, .f32⟩
  | .hbm, ⟨3, _⟩ => ⟨S2x8192x4096, .f32⟩
  | .hbm, ⟨4, _⟩ => ⟨S2x8192x4096, .f32⟩
  | .hbm, ⟨5, _⟩ => ⟨S4096x4096, .f32⟩
  | .hbm, ⟨6, _⟩ => ⟨S2x8192x4096, .f32⟩
  | .hbm, ⟨7, _⟩ => ⟨S2x8192x4096, .f32⟩
  | .hbm, ⟨8, _⟩ => ⟨S16384x4096, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S2x8192x4096 : Shape := ⟨3, ![2, 8192, 4096]⟩
abbrev S1x4096 : Shape := ⟨2, ![1, 4096]⟩
abbrev S1x4096x6224 : Shape := ⟨3, ![1, 4096, 6224]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S16x8192 : Shape := ⟨2, ![16, 8192]⟩
abbrev S1x16x8192 : Shape := ⟨3, ![1, 16, 8192]⟩
abbrev S2x16x8192 : Shape := ⟨3, ![2, 16, 8192]⟩
abbrev S8192x96 : Shape := ⟨2, ![8192, 96]⟩
abbrev S8192x128 : Shape := ⟨2, ![8192, 128]⟩
abbrev S8192x112 : Shape := ⟨2, ![8192, 112]⟩
abbrev S1x8192x1x128 : Shape := ⟨4, ![1, 8192, 1, 128]⟩
abbrev S1x8192x128 : Shape := ⟨3, ![1, 8192, 128]⟩
abbrev S3x8192x128 : Shape := ⟨3, ![3, 8192, 128]⟩
abbrev S8 : Shape := ⟨1, ![8]⟩
abbrev S1x8 : Shape := ⟨2, ![1, 8]⟩
abbrev S8192x8 : Shape := ⟨2, ![8192, 8]⟩
abbrev S8x8192 : Shape := ⟨2, ![8, 8192]⟩
abbrev S1x8x8192 : Shape := ⟨3, ![1, 8, 8192]⟩
abbrev S2x8x8192 : Shape := ⟨3, ![2, 8, 8192]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S4096x6224 : Shape := ⟨2, ![4096, 6224]⟩
abbrev S4096x4096 : Shape := ⟨2, ![4096, 4096]⟩
abbrev S4096x2048 : Shape := ⟨2, ![4096, 2048]⟩
abbrev S4096x6144 : Shape := ⟨2, ![4096, 6144]⟩
abbrev S4096x64 : Shape := ⟨2, ![4096, 64]⟩
abbrev S4096x16 : Shape := ⟨2, ![4096, 16]⟩
abbrev S4096x112 : Shape := ⟨2, ![4096, 112]⟩
abbrev S4096x256 : Shape := ⟨2, ![4096, 256]⟩
abbrev S16384x4096 : Shape := ⟨2, ![16384, 4096]⟩
abbrev S4096 : Shape := ⟨1, ![4096]⟩
abbrev S2048x16384 : Shape := ⟨2, ![2048, 16384]⟩
abbrev S16384x512 : Shape := ⟨2, ![16384, 512]⟩
abbrev S512x16384 : Shape := ⟨2, ![512, 16384]⟩
abbrev S1024x16384 : Shape := ⟨2, ![1024, 16384]⟩
abbrev S16384x128 : Shape := ⟨2, ![16384, 128]⟩
abbrev S128x16384 : Shape := ⟨2, ![128, 16384]⟩
abbrev S16384x2048 : Shape := ⟨2, ![16384, 2048]⟩
abbrev S4096x1024 : Shape := ⟨2, ![4096, 1024]⟩
abbrev S3x512x128 : Shape := ⟨3, ![3, 512, 128]⟩
abbrev S2x16x512 : Shape := ⟨3, ![2, 16, 512]⟩
abbrev S2x8x512 : Shape := ⟨3, ![2, 8, 512]⟩
abbrev S512x4096 : Shape := ⟨2, ![512, 4096]⟩
abbrev S1024x512 : Shape := ⟨2, ![1024, 512]⟩
abbrev S512x512 : Shape := ⟨2, ![512, 512]⟩
abbrev S512x128 : Shape := ⟨2, ![512, 128]⟩
abbrev S128x512 : Shape := ⟨2, ![128, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩
abbrev S1x16x512 : Shape := ⟨3, ![1, 16, 512]⟩
abbrev S16x512 : Shape := ⟨2, ![16, 512]⟩
abbrev S96x512 : Shape := ⟨2, ![96, 512]⟩
abbrev S1x8x512 : Shape := ⟨3, ![1, 8, 512]⟩
abbrev S8x512 : Shape := ⟨2, ![8, 512]⟩
abbrev S48x512 : Shape := ⟨2, ![48, 512]⟩

abbrev nBuf : Space → Nat
  | .hbm => 131
  | .vmem => 28
  | .smem => 0
  | _ => 0

abbrev hbmTy0_0 (i : Nat) : BufTy := match i % 128 with
  | 0 => ⟨S2x8192x4096, .f32⟩
  | 1 => ⟨S1x4096, .f32⟩
  | 2 => ⟨S1x4096x6224, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S8192, .i32⟩
  | 18 => ⟨S8192, .f32⟩
  | 19 => ⟨S8192x1, .f32⟩
  | 20 => ⟨S1x16, .f32⟩
  | 21 => ⟨S8192x16, .f32⟩
  | 22 => ⟨S8192x16, .f32⟩
  | 23 => ⟨S8192x16, .f32⟩
  | 24 => ⟨S8192x16, .f32⟩
  | 25 => ⟨S8192x16, .f32⟩
  | 26 => ⟨S16x8192, .f32⟩
  | 27 => ⟨S16x8192, .f32⟩
  | 28 => ⟨S1x16x8192, .f32⟩
  | 29 => ⟨S1x16x8192, .f32⟩
  | 30 => ⟨S2x16x8192, .f32⟩
  | 31 => ⟨S_, .f32⟩
  | 32 => ⟨S8192x96, .f32⟩
  | 33 => ⟨S8192x128, .f32⟩
  | 34 => ⟨S8192x16, .f32⟩
  | 35 => ⟨S_, .f32⟩
  | 36 => ⟨S8192x112, .f32⟩
  | 37 => ⟨S8192x128, .f32⟩
  | 38 => ⟨S_, .f32⟩
  | 39 => ⟨S8192x16, .f32⟩
  | 40 => ⟨S_, .f32⟩
  | 41 => ⟨S8192x96, .f32⟩
  | 42 => ⟨S8192x128, .f32⟩
  | 43 => ⟨S1x8192x1x128, .f32⟩
  | 44 => ⟨S1x8192x1x128, .f32⟩
  | 45 => ⟨S8192x128, .f32⟩
  | 46 => ⟨S1x8192x1x128, .f32⟩
  | 47 => ⟨S1x8192x1x128, .f32⟩
  | 48 => ⟨S8192x128, .f32⟩
  | 49 => ⟨S1x8192x1x128, .f32⟩
  | 50 => ⟨S1x8192x1x128, .f32⟩
  | 51 => ⟨S8192x128, .f32⟩
  | 52 => ⟨S1x8192x128, .f32⟩
  | 53 => ⟨S1x8192x128, .f32⟩
  | 54 => ⟨S1x8192x128, .f32⟩
  | 55 => ⟨S3x8192x128, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S8192, .i32⟩
  | 71 => ⟨S8192, .f32⟩
  | 72 => ⟨S8192x1, .f32⟩
  | 73 => ⟨S1x8, .f32⟩
  | 74 => ⟨S8192x8, .f32⟩
  | 75 => ⟨S8192x8, .f32⟩
  | 76 => ⟨S8192x8, .f32⟩
  | 77 => ⟨S8192x8, .f32⟩
  | 78 => ⟨S8192x8, .f32⟩
  | 79 => ⟨S8x8192, .f32⟩
  | 80 => ⟨S8x8192, .f32⟩
  | 81 => ⟨S1x8x8192, .f32⟩
  | 82 => ⟨S1x8x8192, .f32⟩
  | 83 => ⟨S2x8x8192, .f32⟩
  | 84 => ⟨S_, .f32⟩
  | 85 => ⟨S8192x48, .f32⟩
  | 86 => ⟨S8192x64, .f32⟩
  | 87 => ⟨S8192x8, .f32⟩
  | 88 => ⟨S_, .f32⟩
  | 89 => ⟨S8192x56, .f32⟩
  | 90 => ⟨S8192x64, .f32⟩
  | 91 => ⟨S_, .f32⟩
  | 92 => ⟨S8192x8, .f32⟩
  | 93 => ⟨S_, .f32⟩
  | 94 => ⟨S8192x48, .f32⟩
  | 95 => ⟨S8192x64, .f32⟩
  | 96 => ⟨S1x8192x1x64, .f32⟩
  | 97 => ⟨S1x8192x2x64, .f32⟩
  | 98 => ⟨S8192x128, .f32⟩
  | 99 => ⟨S1x8192x1x64, .f32⟩
  | 100 => ⟨S1x8192x2x64, .f32⟩
  | 101 => ⟨S8192x128, .f32⟩
  | 102 => ⟨S1x8192x1x64, .f32⟩
  | 103 => ⟨S1x8192x2x64, .f32⟩
  | 104 => ⟨S8192x128, .f32⟩
  | 105 => ⟨S1x8192x128, .f32⟩
  | 106 => ⟨S1x8192x128, .f32⟩
  | 107 => ⟨S1x8192x128, .f32⟩
  | 108 => ⟨S3x8192x128, .f32⟩
  | 109 => ⟨S4096x6224, .f32⟩
  | 110 => ⟨S4096x6224, .bf16⟩
  | 111 => ⟨S4096x4096, .bf16⟩
  | 112 => ⟨S4096x2048, .bf16⟩
  | 113 => ⟨S4096x6144, .bf16⟩
  | 114 => ⟨S4096x64, .bf16⟩
  | 115 => ⟨S_, .bf16⟩
  | 116 => ⟨S4096x64, .bf16⟩
  | 117 => ⟨S4096x16, .bf16⟩
  | 118 => ⟨S_, .bf16⟩
  | 119 => ⟨S4096x112, .bf16⟩
  | 120 => ⟨S4096x256, .bf16⟩
  | 121 => ⟨S16384x4096, .f32⟩
  | 122 => ⟨S4096, .f32⟩
  | 123 => ⟨S1x4096, .f32⟩
  | 124 => ⟨S2048x16384, .bf16⟩
  | 125 => ⟨S16384x512, .bf16⟩
  | 126 => ⟨S512x16384, .bf16⟩
  | 127 => ⟨S1024x16384, .bf16⟩
  | _ => ⟨S2x8192x4096, .f32⟩

abbrev hbmTy0_1 (i : Nat) : BufTy := match i % 128 with
  | 0 => ⟨S16384x128, .bf16⟩
  | 1 => ⟨S128x16384, .f32⟩
  | 2 => ⟨S16384x2048, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S4096x1024, .bf16⟩
  | .local _ .vmem, ⟨2, _⟩ => ⟨S4096x1024, .bf16⟩
  | .local _ .vmem, ⟨3, _⟩ => ⟨S4096x256, .bf16⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S2x16x512, .f32⟩
  | .local _ .vmem, ⟨9, _⟩ => ⟨S2x16x512, .f32⟩
  | .local _ .vmem, ⟨10, _⟩ => ⟨S2x8x512, .f32⟩
  | .local _ .vmem, ⟨11, _⟩ => ⟨S2x8x512, .f32⟩
  | .local _ .vmem, ⟨12, _⟩ => ⟨S512x4096, .f32⟩
  | .local _ .vmem, ⟨13, _⟩ => ⟨S1024x512, .bf16⟩
  | .local _ .vmem, ⟨14, _⟩ => ⟨S1024x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1024x512, .bf16⟩
  | .local _ .vmem, ⟨20, _⟩ => ⟨S1024x512, .bf16⟩
  | .local _ .vmem, ⟨21, _⟩ => ⟨S512x128, .bf16⟩
  | .local _ .vmem, ⟨22, _⟩ => ⟨S512x128, .bf16⟩
  | .local _ .vmem, ⟨23, _⟩ => ⟨S128x512, .f32⟩
  | .local _ .vmem, ⟨24, _⟩ => ⟨S128x512, .f32⟩
  | .local _ .vmem, ⟨25, _⟩ => ⟨S512x1024, .f32⟩
  | .local _ .vmem, ⟨26, _⟩ => ⟨S512x1024, .f32⟩
  | .local _ .vmem, ⟨27, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_cst_14 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_15 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103_0 : Ref sig .tc := ⟨.hbm, 124, rfl⟩
abbrev main_v103_1 : Ref sig .tc := ⟨.hbm, 125, rfl⟩
abbrev main_v103_2 : Ref sig .tc := ⟨.hbm, 126, rfl⟩
abbrev main_v103_3 : Ref sig .tc := ⟨.hbm, 127, rfl⟩
abbrev main_v103_4 : Ref sig .tc := ⟨.hbm, 128, rfl⟩
abbrev main_v103_5 : Ref sig .tc := ⟨.hbm, 129, rfl⟩
abbrev main_v103_6 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c1_i32 : BitVec 32 := 1#32
  let v7 : BitVec 1 := Scalar.cmpi .sle arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg1 : BitVec 32 := BitVec.ofNat 32 (i 1).val
  let c4_i32 : BitVec 32 := 4#32
  let v16 : BitVec 1 := Scalar.cmpi .sge arg1 c4_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, c0_i32_4.toNat, v9.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, c0_i32_4.toNat, v9.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S2x8192x4096 : Shape := ⟨3, ![2, 8192, 4096]⟩
abbrev S1x4096 : Shape := ⟨2, ![1, 4096]⟩
abbrev S1x4096x6224 : Shape := ⟨3, ![1, 4096, 6224]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8 : Shape := ⟨1, ![8]⟩
abbrev S1x8 : Shape := ⟨2, ![1, 8]⟩
abbrev S8192x8 : Shape := ⟨2, ![8192, 8]⟩
abbrev S4096 : Shape := ⟨1, ![4096]⟩
abbrev S2x8192 : Shape := ⟨2, ![2, 8192]⟩
abbrev S2x8192x1 : Shape := ⟨3, ![2, 8192, 1]⟩
abbrev S1x1x4096 : Shape := ⟨3, ![1, 1, 4096]⟩
abbrev S4096x6224 : Shape := ⟨2, ![4096, 6224]⟩
abbrev S2x8192x6224 : Shape := ⟨3, ![2, 8192, 6224]⟩
abbrev S2x8192x2048 : Shape := ⟨3, ![2, 8192, 2048]⟩
abbrev S2x8192x512 : Shape := ⟨3, ![2, 8192, 512]⟩
abbrev S2x8192x1024 : Shape := ⟨3, ![2, 8192, 1024]⟩
abbrev S2x8192x64 : Shape := ⟨3, ![2, 8192, 64]⟩
abbrev S2x8192x16 : Shape := ⟨3, ![2, 8192, 16]⟩
abbrev S2x8192x16x128 : Shape := ⟨4, ![2, 8192, 16, 128]⟩
abbrev S2x8192x16x16 : Shape := ⟨4, ![2, 8192, 16, 16]⟩
abbrev S8192x1x16 : Shape := ⟨3, ![8192, 1, 16]⟩
abbrev S1x8192x1x16 : Shape := ⟨4, ![1, 8192, 1, 16]⟩
abbrev S2x8192x16x96 : Shape := ⟨4, ![2, 8192, 16, 96]⟩
abbrev S2x8192x4x128 : Shape := ⟨4, ![2, 8192, 4, 128]⟩
abbrev S2x8192x4x16 : Shape := ⟨4, ![2, 8192, 4, 16]⟩
abbrev S2x8192x4x96 : Shape := ⟨4, ![2, 8192, 4, 96]⟩
abbrev S2x8192x16x64 : Shape := ⟨4, ![2, 8192, 16, 64]⟩
abbrev S2x8192x16x8 : Shape := ⟨4, ![2, 8192, 16, 8]⟩
abbrev S8192x1x8 : Shape := ⟨3, ![8192, 1, 8]⟩
abbrev S1x8192x1x8 : Shape := ⟨4, ![1, 8192, 1, 8]⟩
abbrev S2x8192x16x48 : Shape := ⟨4, ![2, 8192, 16, 48]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S16384x64 : Shape := ⟨2, ![16384, 64]⟩
abbrev S16384x128 : Shape := ⟨2, ![16384, 128]⟩
abbrev S16384x16 : Shape := ⟨2, ![16384, 16]⟩
abbrev S16384x2048 : Shape := ⟨2, ![16384, 2048]⟩
abbrev S2048x16384 : Shape := ⟨2, ![2048, 16384]⟩
abbrev S16384x512 : Shape := ⟨2, ![16384, 512]⟩
abbrev S512x16384 : Shape := ⟨2, ![512, 16384]⟩
abbrev S16384x1024 : Shape := ⟨2, ![16384, 1024]⟩
abbrev S1024x16384 : Shape := ⟨2, ![1024, 16384]⟩
abbrev S128x16384 : Shape := ⟨2, ![128, 16384]⟩

abbrev nBuf : Space → Nat
  | .hbm => 186
  | .vmem => 0
  | .smem => 0
  | _ => 0

abbrev hbmTy0_0 (i : Nat) : BufTy := match i % 128 with
  | 0 => ⟨S2x8192x4096, .f32⟩
  | 1 => ⟨S1x4096, .f32⟩
  | 2 => ⟨S1x4096x6224, .f32⟩
  | 3 => ⟨S8192, .i32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S8192, .f32⟩
  | 19 => ⟨S8192x1, .f32⟩
  | 20 => ⟨S1x16, .f32⟩
  | 21 => ⟨S8192x16, .f32⟩
  | 22 => ⟨S8192x16, .f32⟩
  | 23 => ⟨S8192x16, .f32⟩
  | 24 => ⟨S8192x16, .f32⟩
  | 25 => ⟨S8192x16, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8192, .f32⟩
  | 41 => ⟨S8192x1, .f32⟩
  | 42 => ⟨S1x8, .f32⟩
  | 43 => ⟨S8192x8, .f32⟩
  | 44 => ⟨S8192x8, .f32⟩
  | 45 => ⟨S8192x8, .f32⟩
  | 46 => ⟨S8192x8, .f32⟩
  | 47 => ⟨S8192x8, .f32⟩
  | 48 => ⟨S4096, .f32⟩
  | 49 => ⟨S2x8192x4096, .f32⟩
  | 50 => ⟨S_, .f32⟩
  | 51 => ⟨S2x8192, .f32⟩
  | 52 => ⟨S2x8192x1, .f32⟩
  | 53 => ⟨S_, .f32⟩
  | 54 => ⟨S2x8192x1, .f32⟩
  | 55 => ⟨S2x8192x1, .f32⟩
  | 56 => ⟨S_, .f32⟩
  | 57 => ⟨S2x8192x1, .f32⟩
  | 58 => ⟨S2x8192x1, .f32⟩
  | 59 => ⟨S2x8192x1, .f32⟩
  | 60 => ⟨S2x8192x4096, .f32⟩
  | 61 => ⟨S2x8192x4096, .f32⟩
  | 62 => ⟨S1x1x4096, .f32⟩
  | 63 => ⟨S2x8192x4096, .f32⟩
  | 64 => ⟨S2x8192x4096, .f32⟩
  | 65 => ⟨S4096x6224, .f32⟩
  | 66 => ⟨S2x8192x6224, .f32⟩
  | 67 => ⟨S2x8192x2048, .f32⟩
  | 68 => ⟨S2x8192x512, .f32⟩
  | 69 => ⟨S2x8192x512, .f32⟩
  | 70 => ⟨S2x8192x1024, .f32⟩
  | 71 => ⟨S2x8192x64, .f32⟩
  | 72 => ⟨S2x8192x16, .f32⟩
  | 73 => ⟨S2x8192x2048, .f32⟩
  | 74 => ⟨S2x8192x16x128, .f32⟩
  | 75 => ⟨S2x8192x16x16, .f32⟩
  | 76 => ⟨S2x8192x16x16, .f32⟩
  | 77 => ⟨S8192x1x16, .f32⟩
  | 78 => ⟨S8192x1x16, .f32⟩
  | 79 => ⟨S1x8192x1x16, .f32⟩
  | 80 => ⟨S2x8192x16x16, .f32⟩
  | 81 => ⟨S2x8192x16x16, .f32⟩
  | 82 => ⟨S1x8192x1x16, .f32⟩
  | 83 => ⟨S2x8192x16x16, .f32⟩
  | 84 => ⟨S2x8192x16x16, .f32⟩
  | 85 => ⟨S2x8192x16x16, .f32⟩
  | 86 => ⟨S1x8192x1x16, .f32⟩
  | 87 => ⟨S2x8192x16x16, .f32⟩
  | 88 => ⟨S2x8192x16x16, .f32⟩
  | 89 => ⟨S1x8192x1x16, .f32⟩
  | 90 => ⟨S2x8192x16x16, .f32⟩
  | 91 => ⟨S2x8192x16x16, .f32⟩
  | 92 => ⟨S2x8192x16x16, .f32⟩
  | 93 => ⟨S2x8192x16x96, .f32⟩
  | 94 => ⟨S2x8192x16x128, .f32⟩
  | 95 => ⟨S2x8192x4x128, .f32⟩
  | 96 => ⟨S2x8192x4x16, .f32⟩
  | 97 => ⟨S2x8192x4x16, .f32⟩
  | 98 => ⟨S8192x1x16, .f32⟩
  | 99 => ⟨S8192x1x16, .f32⟩
  | 100 => ⟨S1x8192x1x16, .f32⟩
  | 101 => ⟨S2x8192x4x16, .f32⟩
  | 102 => ⟨S2x8192x4x16, .f32⟩
  | 103 => ⟨S1x8192x1x16, .f32⟩
  | 104 => ⟨S2x8192x4x16, .f32⟩
  | 105 => ⟨S2x8192x4x16, .f32⟩
  | 106 => ⟨S2x8192x4x16, .f32⟩
  | 107 => ⟨S1x8192x1x16, .f32⟩
  | 108 => ⟨S2x8192x4x16, .f32⟩
  | 109 => ⟨S2x8192x4x16, .f32⟩
  | 110 => ⟨S1x8192x1x16, .f32⟩
  | 111 => ⟨S2x8192x4x16, .f32⟩
  | 112 => ⟨S2x8192x4x16, .f32⟩
  | 113 => ⟨S2x8192x4x16, .f32⟩
  | 114 => ⟨S2x8192x4x96, .f32⟩
  | 115 => ⟨S2x8192x4x128, .f32⟩
  | 116 => ⟨S2x8192x16x64, .f32⟩
  | 117 => ⟨S2x8192x16x8, .f32⟩
  | 118 => ⟨S2x8192x16x8, .f32⟩
  | 119 => ⟨S8192x1x8, .f32⟩
  | 120 => ⟨S8192x1x8, .f32⟩
  | 121 => ⟨S1x8192x1x8, .f32⟩
  | 122 => ⟨S2x8192x16x8, .f32⟩
  | 123 => ⟨S2x8192x16x8, .f32⟩
  | 124 => ⟨S1x8192x1x8, .f32⟩
  | 125 => ⟨S2x8192x16x8, .f32⟩
  | 126 => ⟨S2x8192x16x8, .f32⟩
  | 127 => ⟨S2x8192x16x8, .f32⟩
  | _ => ⟨S2x8192x4096, .f32⟩

abbrev hbmTy0_1 (i : Nat) : BufTy := match i % 128 with
  | 0 => ⟨S1x8192x1x8, .f32⟩
  | 1 => ⟨S2x8192x16x8, .f32⟩
  | 2 => ⟨S2x8192x16x8, .f32⟩
  | 3 => ⟨S1x8192x1x8, .f32⟩
  | 4 => ⟨S2x8192x16x8, .f32⟩
  | 5 => ⟨S2x8192x16x8, .f32⟩
  | 6 => ⟨S2x8192x16x8, .f32⟩
  | 7 => ⟨S2x8192x16x48, .f32⟩
  | 8 => ⟨S2x8192x16x64, .f32⟩
  | 9 => ⟨S2x8192x1x64, .f32⟩
  | 10 => ⟨S2x8192x1x8, .f32⟩
  | 11 => ⟨S2x8192x1x8, .f32⟩
  | 12 => ⟨S8192x1x8, .f32⟩
  | 13 => ⟨S8192x1x8, .f32⟩
  | 14 => ⟨S1x8192x1x8, .f32⟩
  | 15 => ⟨S2x8192x1x8, .f32⟩
  | 16 => ⟨S2x8192x1x8, .f32⟩
  | 17 => ⟨S1x8192x1x8, .f32⟩
  | 18 => ⟨S2x8192x1x8, .f32⟩
  | 19 => ⟨S2x8192x1x8, .f32⟩
  | 20 => ⟨S2x8192x1x8, .f32⟩
  | 21 => ⟨S1x8192x1x8, .f32⟩
  | 22 => ⟨S2x8192x1x8, .f32⟩
  | 23 => ⟨S2x8192x1x8, .f32⟩
  | 24 => ⟨S1x8192x1x8, .f32⟩
  | 25 => ⟨S2x8192x1x8, .f32⟩
  | 26 => ⟨S2x8192x1x8, .f32⟩
  | 27 => ⟨S2x8192x1x8, .f32⟩
  | 28 => ⟨S2x8192x1x48, .f32⟩
  | 29 => ⟨S2x8192x1x64, .f32⟩
  | 30 => ⟨S16384x64, .f32⟩
  | 31 => ⟨S_, .i32⟩
  | 32 => ⟨S_, .f32⟩
  | 33 => ⟨S16384x128, .f32⟩
  | 34 => ⟨S16384x16, .f32⟩
  | 35 => ⟨S_, .f32⟩
  | 36 => ⟨S16384x16, .f32⟩
  | 37 => ⟨S16384x16, .f32⟩
  | 38 => ⟨S_, .i32⟩
  | 39 => ⟨S_, .f32⟩
  | 40 => ⟨S16384x128, .f32⟩
  | 41 => ⟨S16384x2048, .f32⟩
  | 42 => ⟨S_, .f32⟩
  | 43 => ⟨S16384x2048, .f32⟩
  | 44 => ⟨S16384x2048, .f32⟩
  | 45 => ⟨S2048x16384, .f32⟩
  | 46 => ⟨S2048x16384, .bf16⟩
  | 47 => ⟨S16384x512, .f32⟩
  | 48 => ⟨S16384x512, .bf16⟩
  | 49 => ⟨S16384x512, .f32⟩
  | 50 => ⟨S512x16384, .f32⟩
  | 51 => ⟨S512x16384, .bf16⟩
  | 52 => ⟨S16384x1024, .f32⟩
  | 53 => ⟨S1024x16384, .f32⟩
  | 54 => ⟨S1024x16384, .bf16⟩
  | 55 => ⟨S16384x128, .bf16⟩
  | 56 => ⟨S128x16384, .f32⟩
  | 57 => ⟨S16384x2048, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_c : Ref sig .tc := ⟨.hbm, 159, rfl⟩
abbrev main_call0_v0 : Ref sig .tc := ⟨.hbm, 160, rfl⟩
abbrev main_v145 : Ref sig .tc := ⟨.hbm, 161, rfl⟩
abbrev main_v146 : Ref sig .tc := ⟨.hbm, 162, rfl⟩
abbrev main_cst_10 : Ref sig .tc := ⟨.hbm, 163, rfl⟩
abbrev main_v147 : Ref sig .tc := ⟨.hbm, 164, rfl⟩
abbrev main_v148 : Ref sig .tc := ⟨.hbm, 165, rfl⟩
abbrev main_c_11 : Ref sig .tc := ⟨.hbm, 166, rfl⟩
abbrev main_call1_v0 : Ref sig .tc := ⟨.hbm, 167, rfl⟩
abbrev main_v149 : Ref sig .tc := ⟨.hbm, 168, rfl⟩
abbrev main_v150 : Ref sig .tc := ⟨.hbm, 169, rfl⟩
abbrev main_cst_12 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩

abbrev nD : Nat := 1
abbrev τ : Topo := Topo.v7x

variable {F : FTy → Type} [FloatOps F]
-- ==== Proof.Safe.lean ====
/-
  Programs that keep an assertion.

  A frame says nothing of what a kernel computes, only that it runs to its end and writes nothing but its own
  buffers. For that the contents of the staging buffers and of the scratch never matter: it is enough that the kernel
  holds each of them at SOME contents before a statement and again after it. `Stays R p` says that of a program `p` and an
  assertion `R`; it is closed under sequencing, branches and counted loops, and a load or a store keeps `R` when `R`
  holds the memref it goes through (`HasMem`). A loop needs no other invariant than `R`, whatever values it carries.
-/
module

public import Idealize.ShloMosaic.Lib.Tactic
public import Idealize.ShloMosaic.Lib.Pipeline.Kit

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} {Λ : Labels}

local notation "𝕄" => MT nD τ sig Unit (Elt F) ℕ (UR sig nD τ) ℕ

/-- Memref `m`'s elements on core `c`, held at some contents. -/
def Held (c : Dev nD) {sp : Space} {s : Shape} {e : EltTy} (m : Memref sig .tc sp s e) : sProp 𝕄 :=
  iprop(∃ f : Buf (Elt F) (m.view.loc (c.tc : Thread nD τ)), (m.view.loc (c.tc : Thread nD τ) ↦[m.view.set]{fullShare} f))

/-- `R` holds memref `m` at some contents, and is had again from the memref at any contents. -/
def HasMem (c : Dev nD) (R : sProp 𝕄) {sp : Space} {s : Shape} {e : EltTy} (m : Memref sig .tc sp s e) : Prop :=
  R ⊢ iprop(Held (F := F) c m ∗ (Held (F := F) c m -∗ R))

/-- From `R`, program `p` runs to its end and hands `R` back, whatever it returns. -/
def Stays (defs : Defs nD τ sig (Elt F) Λ) (𝒱 : Variants) (c : Dev nD) (R : sProp 𝕄) {α : Type}
    (p : Prog (TpuEff nD τ sig (Elt F) Λ .tc) α) : Prop :=
  R ⊢ wp frame (wpE defs 𝒱 (c.tc : Thread nD τ) none) Set.univ p (fun _ => R)

variable {defs : Defs nD τ sig (Elt F) Λ} {𝒱 : Variants} {c : Dev nD}
  {R : sProp (MT nD τ sig Unit (Elt F) ℕ (UR sig nD τ) ℕ)}

theorem Stays.pure {α : Type} (a : α) : Stays defs 𝒱 c R (Pure.pure a) := by
  show R ⊢ wp frame (wpE defs 𝒱 (c.tc : Thread nD τ) none) Set.univ (.ret a) (fun _ => R)
  rw [wp_ret]
  iintro H
  imodintro
  iexact H

theorem Stays.bind {α β : Type} {p : Prog (TpuEff nD τ sig (Elt F) Λ .tc) α} {k : α → Prog (TpuEff nD τ sig (Elt F) Λ .tc) β}
    (hp : Stays defs 𝒱 c R p) (hk : ∀ a, Stays defs 𝒱 c R (k a)) : Stays defs 𝒱 c R (p >>= k) := by
  show R ⊢ wp frame (wpE defs 𝒱 (c.tc : Thread nD τ) none) Set.univ (p >>= k) (fun _ => R)
  rw [wp_bind]
  exact hp.trans (wp_mono _ _ _ hk)

theorem Stays.dite {α : Type} {P : Prop} [Decidable P] {p : P → Prog (TpuEff nD τ sig (Elt F) Λ .tc) α}
    {q : ¬P → Prog (TpuEff nD τ sig (Elt F) Λ .tc) α} (hp : ∀ h, Stays defs 𝒱 c R (p h)) (hq : ∀ h, Stays defs 𝒱 c R (q h)) :
    Stays defs 𝒱 c R (if h : P then p h else q h) := by
  split
  · exact hp _
  · exact hq _

theorem Stays.ite {α : Type} {P : Prop} [Decidable P] {p q : Prog (TpuEff nD τ sig (Elt F) Λ .tc) α} (hp : Stays defs 𝒱 c R p)
    (hq : Stays defs 𝒱 c R q) : Stays defs 𝒱 c R (if P then p else q) := by
  split
  · exact hp
  · exact hq

theorem Stays.loop {w : Nat} {σ : Type} (L : Scf.Loop w) (hok : L.OK) (init : σ)
    {body : Fin L.trips → σ → Prog (TpuEff nD τ sig (Elt F) Λ .tc) σ} (hb : ∀ k acc, Stays defs 𝒱 c R (body k acc)) :
    Stays defs 𝒱 c R (Scf.Loop.for L hok init body) := by
  show R ⊢ wp frame (wpE defs 𝒱 (c.tc : Thread nD τ) none) Set.univ (Scf.for L.lb L.ub L.st hok init body) (fun _ => R)
  refine BIBase.Entails.trans ?_ (Scf.wp_for frame (wpE defs 𝒱 (c.tc : Thread nD τ) none) Set.univ L.lb L.ub L.st hok init body (fun _ _ => R) hb)
  iintro H
  isplitl [H]
  · iexact H
  · iintro %acc H
    iexact H

theorem Stays.load {cs : CoreSpace} {s : Shape} {e : EltTy} {m : Memref sig .tc cs s e} (hm : HasMem (F := F) c R m) {r : LoadRect s}
    {hl : m.view.LoadsAt r} : Stays defs 𝒱 c R (Prog.lift (.load m r hl)) := by
  show R ⊢ wp frame (wpE defs 𝒱 (c.tc : Thread nD τ) none) Set.univ (.op (.load m r hl) fun x => .ret x) (fun _ => R)
  refine BIBase.Entails.trans hm ?_
  unfold Held
  iintro ⟨⟨%f, H⟩, HR⟩
  iapply (wp_load (defs := defs) 𝒱 (c.tc : Thread nD τ) none Set.univ (m := m) (r := r) (hl := hl) (k := fun x => .ret x)
    (Q := fun _ => R) (q := fullShare) (f := f) (S := m.view.set) (View.setOn_subset_set _ _)) $$ H
  iintro H
  rw [wp_ret]
  imodintro
  iapply HR
  iexists f
  iexact H

theorem Stays.store {cs : CoreSpace} {s : Shape} {e : EltTy} {m : Memref sig .tc cs s e} (hm : HasMem (F := F) c R m) {r : Rect s}
    {w : r.shape.Idx → Elt F e} {Mk : Finset r.shape.Idx} {hx : (m.access r).Stores Mk} {hk : Mk = Finset.univ ∨ ∀ a, r.stride a = 1} :
    Stays defs 𝒱 c R (Prog.lift (.store m r w Mk hx hk)) := by
  show R ⊢ wp frame (wpE defs 𝒱 (c.tc : Thread nD τ) none) Set.univ (.op (.store m r w Mk hx hk) fun x => .ret x) (fun _ => R)
  refine BIBase.Entails.trans hm ?_
  unfold Held
  iintro ⟨⟨%f, H⟩, HR⟩
  iapply (wp_store (defs := defs) 𝒱 (c.tc : Thread nD τ) none Set.univ (m := m) (r := r) (w := w) (Mk := Mk) (hx := hx) (hm := hk)
    (k := fun x => .ret x) (Q := fun _ => R) (f := f) (S := m.view.set)
    ((View.setOn_subset_set _ _).trans (show (m.view.slice r).set ⊆ m.view.set from by rw [View.set_slice]; exact View.setOn_subset_set _ _))) $$ H
  iintro H
  rw [wp_ret]
  imodintro
  iapply HR
  iexists ((m.access r).write (Elt F) f w Mk)
  iexact H

/-! ### Which memrefs a chain of them holds -/

theorem HasMem.head {sp : Space} {s : Shape} {e : EltTy} {m : Memref sig .tc sp s e} {R' : sProp 𝕄} :
    HasMem (F := F) c iprop(Held (F := F) c m ∗ R') m := by
  unfold HasMem
  iintro ⟨H, HR⟩
  isplitl [H]
  · iexact H
  · iintro H
    isplitl [H] <;> iassumption

theorem HasMem.tail {sp : Space} {s : Shape} {e : EltTy} {m : Memref sig .tc sp s e} {P R' : sProp 𝕄} (h : HasMem (F := F) c R' m) :
    HasMem (F := F) c iprop(P ∗ R') m := by
  unfold HasMem at h ⊢
  iintro ⟨HP, HR⟩
  ihave H := h $$ HR
  icases H with ⟨H, HR⟩
  isplitl [H]
  · iexact H
  · iintro H
    isplitl [HP]
    · iexact HP
    · iapply HR
      iexact H

theorem HasMem.self {sp : Space} {s : Shape} {e : EltTy} {m : Memref sig .tc sp s e} : HasMem (τ := τ) (F := F) c (Held (τ := τ) (F := F) c m) m := by
  unfold HasMem
  iintro H
  isplitl [H]
  · iexact H
  · iintro H
    iexact H

theorem HasMem.left {sp : Space} {s : Shape} {e : EltTy} {m : Memref sig .tc sp s e}
    {P R' : sProp (MT nD τ sig Unit (Elt F) ℕ (UR sig nD τ) ℕ)} (h : HasMem (F := F) c P m) : HasMem (F := F) c iprop(P ∗ R') m := by
  unfold HasMem at h ⊢
  iintro ⟨HP, HR⟩
  ihave H := h $$ HP
  icases H with ⟨H, HP⟩
  isplitl [H]
  · iexact H
  · iintro H
    isplitr [HR]
    · iapply HP
      iexact H
    · iexact HR

/-- What `owns` names, held at some contents; and back, at what it then holds. -/
theorem held_of_owns {sp : Space} {s : Shape} {e : EltTy} (m : Memref sig .tc sp s e) (X : s.Idx → Elt F e) :
    (owns (c.tc : Thread nD τ) m fullShare X : sProp 𝕄) ⊢ Held (F := F) c m := by
  unfold owns Held
  iintro ⟨%f, -, H⟩
  iexists f
  iexact H

theorem owns_of_held {sp : Space} {s : Shape} {e : EltTy} (m : Memref sig .tc sp s e) :
    (Held (F := F) c m : sProp 𝕄) ⊢ iprop(∃ X, ⌜True⌝ ∗ owns (c.tc : Thread nD τ) m fullShare X) := by
  unfold owns Held
  iintro ⟨%f, H⟩
  iexists m.view.read (Elt F) f
  isplitr
  · ipureintro; trivial
  · iexists f
    isplitr
    · ipureintro; rfl
    · iexact H

end Cert.Proof.Safe

end
-- ==== Proof.AttnA.lean ====
/-
  The attention kernel keeps its memrefs: the parts up to the selection (scores, the binary searches for the cut).
-/
module

public import proofs.«01_k».proof.Proof.Gen.Kernel.Skeleton
public import proofs.«01_k».proof.Proof.Safe

@[expose] public section

set_option maxRecDepth 16384

noncomputable section

namespace Cert.Proof.Attn

open Cert.Kernel Cert.Kernel.Gen Cert.Proof.Safe
open Idealize.ShloMosaic Idealize.ShloMosaic.TcCoe Idealize.ShloMosaic.Tactic
open Idealize.SL Idealize.SL.RA Idealize.SL.BI
open Idealize.SL.BI.BIBase Idealize.SL.BI.Laws Idealize.SL.Sem
open Idealize.ShloMosaic.Rounds

variable {F : FTy → Type} [BitOps F]

/-- The assertion `R` holds each of the kernel's nineteen memrefs: the six staged inputs, the staged output and the
    twelve scratch buffers. -/
structure Holds (c : Dev nD) (R : sProp (MT nD τ sig Unit (Elt F) ℕ (UR sig nD τ) ℕ))
    (arg2 : Memref sig .tc .vmem S2048x128 .bf16)
    (arg3 : Memref sig .tc .vmem S1024x128 .bf16)
    (arg4 : Memref sig .tc .vmem S128x128 .f32)
    (arg5 : Memref sig .tc .vmem S8192x512 .bf16)
    (arg6 : Memref sig .tc .vmem S8192x128 .bf16)
    (arg7 : Memref sig .tc .vmem S512x8192 .bf16)
    (arg8 : Memref sig .tc .vmem S128x2048 .bf16)
    (arg9 : Memref sig .tc .vmem S8192x128 .i32)
    (arg10 : Memref sig .tc .vmem S8192x128 .i16)
    (arg11 : Memref sig .tc .vmem S8192x128 .i16)
    (arg12 : Memref sig .tc .vmem S4x144x8192 .bf16)
    (arg13 : Memref sig .tc .vmem S1x128 .i32)
    (arg14 : Memref sig .tc .vmem S4x128x512 .bf16)
    (arg15 : Memref sig .tc .vmem S4x1x512 .f32)
    (arg16 : Memref sig .tc .vmem S4x144x512 .f32)
    (arg17 : Memref sig .tc .vmem S4x512x512 .f32)
    (arg18 : Memref sig .tc .vmem S4x512x512 .f32)
    (arg19 : Memref sig .tc .vmem S4x1x512 .f32)
    (arg20 : Memref sig .tc .vmem S4x1x512 .f32) : Prop where
  h2 : HasMem (F := F) c R arg2
  h3 : HasMem (F := F) c R arg3
  h4 : HasMem (F := F) c R arg4
  h5 : HasMem (F := F) c R arg5
  h6 : HasMem (F := F) c R arg6
  h7 : HasMem (F := F) c R arg7
  h8 : HasMem (F := F) c R arg8
  h9 : HasMem (F := F) c R arg9
  h10 : HasMem (F := F) c R arg10
  h11 : HasMem (F := F) c R arg11
  h12 : HasMem (F := F) c R arg12
  h13 : HasMem (F := F) c R arg13
  h14 : HasMem (F := F) c R arg14
  h15 : HasMem (F := F) c R arg15
  h16 : HasMem (F := F) c R arg16
  h17 : HasMem (F := F) c R arg17
  h18 : HasMem (F := F) c R arg18
  h19 : HasMem (F := F) c R arg19
  h20 : HasMem (F := F) c R arg20

variable {c : Dev nD} {R : sProp (MT nD τ sig Unit (Elt F) ℕ (UR sig nD τ) ℕ)} {𝒱 : Variants} {i : grid0.Coords}
  {arg2 : Memref sig .tc .vmem S2048x128 .bf16} {harg2 : arg2.IsWhole}
  {arg3 : Memref sig .tc .vmem S1024x128 .bf16} {harg3 : arg3.IsWhole}
  {arg4 : Memref sig .tc .vmem S128x128 .f32} {harg4 : arg4.IsWhole}
  {arg5 : Memref sig .tc .vmem S8192x512 .bf16} {harg5 : arg5.IsWhole}
  {arg6 : Memref sig .tc .vmem S8192x128 .bf16} {harg6 : arg6.IsWhole}
  {arg7 : Memref sig .tc .vmem S512x8192 .bf16} {harg7 : arg7.IsWhole}
  {arg8 : Memref sig .tc .vmem S128x2048 .bf16} {harg8 : arg8.IsWhole}
  {arg9 : Memref sig .tc .vmem S8192x128 .i32} {harg9 : arg9.IsWhole}
  {arg10 : Memref sig .tc .vmem S8192x128 .i16} {harg10 : arg10.IsWhole}
  {arg11 : Memref sig .tc .vmem S8192x128 .i16} {harg11 : arg11.IsWhole}
  {arg12 : Memref sig .tc .vmem S4x144x8192 .bf16} {harg12 : arg12.IsWhole}
  {arg13 : Memref sig .tc .vmem S1x128 .i32} {harg13 : arg13.IsWhole}
  {arg14 : Memref sig .tc .vmem S4x128x512 .bf16} {harg14 : arg14.IsWhole}
  {arg15 : Memref sig .tc .vmem S4x1x512 .f32} {harg15 : arg15.IsWhole}
  {arg16 : Memref sig .tc .vmem S4x144x512 .f32} {harg16 : arg16.IsWhole}
  {arg17 : Memref sig .tc .vmem S4x512x512 .f32} {harg17 : arg17.IsWhole}
  {arg18 : Memref sig .tc .vmem S4x512x512 .f32} {harg18 : arg18.IsWhole}
  {arg19 : Memref sig .tc .vmem S4x1x512 .f32} {harg19 : arg19.IsWhole}
  {arg20 : Memref sig .tc .vmem S4x1x512 .f32} {harg20 : arg20.IsWhole}

theorem part1 (h : Holds c R arg2 arg3 arg4 arg5 arg6 arg7 arg8 arg9 arg10 arg11 arg12 arg13 arg14 arg15 arg16 arg17 arg18 arg19 arg20) :
    Stays (defs₀ (F := F)) 𝒱 c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part1_eq_skeleton]; unfold k0_part1_skel
  repeat' first
    | with_reducible exact .load h.h7 | with_reducible exact .store h.h7 | with_reducible exact .load h.h12
    | with_reducible exact .store h.h12 | with_reducible exact .pure _
    | with_reducible refine .bind ?_ fun _ => ?_ | with_reducible refine .ite ?_ ?_
    | with_reducible refine .dite (fun _ => ?_) (fun _ => ?_) | split

theorem part86 (h : Holds c R arg2 arg3 arg4 arg5 arg6 arg7 arg8 arg9 arg10 arg11 arg12 arg13 arg14 arg15 arg16 arg17 arg18 arg19 arg20) :
    Stays (defs₀ (F := F)) 𝒱 c R (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part86_eq_skeleton]; unfold k0_part86_skel
  repeat' first
    | with_reducible exact part1 h | with_reducible exact .load h.h3 | with_reducible exact .store h.h3
    | with_reducible exact .load h.h12 | with_reducible exact .store h.h12 | with_reducible exact .pure _
    | with_reducible refine .bind ?_ fun _ => ?_ | with_reducible refine .ite ?_ ?_
    | with_reducible refine .dite (fun _ => ?_) (fun _ => ?_) | split

theorem part2 {v47 v48 c0_i32_21 c1_i32_23 k0_t1} (h : Holds c R arg2 arg3 arg4 arg5 arg6 arg7 arg8 arg9 arg10 arg11 arg12 arg13 arg14 arg15 arg16 arg17 arg18 arg19 arg20) :
    Stays (defs₀ (F := F)) 𝒱 c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v47 v48 c0_i32_21 c1_i32_23 k0_t1) := by
  rw [k0_part2_eq_skeleton]; unfold k0_part2_skel
  repeat' first
    | with_reducible exact .load h.h6 | with_reducible exact .store h.h6 | with_reducible exact .pure _
    | with_reducible refine .bind ?_ fun _ => ?_ | with_reducible refine .ite ?_ ?_
    | with_reducible refine .dite (fun _ => ?_) (fun _ => ?_) | split

theorem part3 {v48 v326 v362 v365} (h : Holds c R arg2 arg3 arg4 arg5 arg6 arg7 arg8 arg9 arg10 arg11 arg12 arg13 arg14 arg15 arg16 arg17 arg18 arg19 arg20) :
    Stays (defs₀ (F := F)) 𝒱 c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v48 v326 v362 v365) := by
  rw [k0_part3_eq_skeleton]; unfold k0_part3_skel
  repeat' first
    | with_reducible exact .pure _ | with_reducible refine .bind ?_ fun _ => ?_
    | with_reducible refine .ite ?_ ?_ | with_reducible refine .dite (fun _ => ?_) (fun _ => ?_) | split

theorem part4 {v27 v48 k0_t1 v320 v323 v326 v418} (h : Holds c R arg2 arg3 arg4 arg5 arg6 arg7 arg8 arg9 arg10 arg11 arg12 arg13 arg14 arg15 arg16 arg17 arg18 arg19 arg20) :
    Stays (defs₀ (F := F)) 𝒱 c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v27 v48 k0_t1 v320 v323 v326 v418) := by
  rw [k0_part4_eq_skeleton]; unfold k0_part4_skel
  repeat' first
    | with_reducible exact .load h.h9 | with_reducible exact .store h.h9 | with_reducible exact .load h.h10
    | with_reducible exact .store h.h10 | with_reducible exact .pure _
    | with_reducible refine .bind ?_ fun _ => ?_ | with_reducible refine .ite ?_ ?_
    | with_reducible refine .dite (fun _ => ?_) (fun _ => ?_) | split

theorem part5 {v47 v48 k0_t1 arg21 v320 v464 c16_i32_209} (h : Holds c R arg2 arg3 arg4 arg5 arg6 arg7 arg8 arg9 arg10 arg11 arg12 arg13 arg14 arg15 arg16 arg17 arg18 arg19 arg20) :
    Stays (defs₀ (F := F)) 𝒱 c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v47 v48 k0_t1 arg21 v320 v464 c16_i32_209) := by
  rw [k0_part5_eq_skeleton]; unfold k0_part5_skel
  repeat' first
    | with_reducible exact .load h.h6 | with_reducible exact .store h.h6 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part6 {v48 v483 v505 v511} (h : Holds c R arg2 arg3 arg4 arg5 arg6 arg7 arg8 arg9 arg10 arg11 arg12 arg13 arg14 arg15 arg16 arg17 arg18 arg19 arg20) :
    Stays (defs₀ (F := F)) 𝒱 c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v48 v483 v505 v511) := by
  rw [k0_part6_eq_skeleton]; unfold k0_part6_skel
  repeat' first
    | with_reducible exact .pure _ | with_reducible refine .bind ?_ fun _ => ?_
    | with_reducible refine .ite ?_ ?_ | with_reducible refine .dite (fun _ => ?_) (fun _ => ?_) | split

theorem part7 {v27 v48 k0_t1 v477 v480 v483 v561 v562 v563} (h : Holds c R arg2 arg3 arg4 arg5 arg6 arg7 arg8 arg9 arg10 arg11 arg12 arg13 arg14 arg15 arg16 arg17 arg18 arg19 arg20) :
    Stays (defs₀ (F := F)) 𝒱 c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v27 v48 k0_t1 v477 v480 v483 v561 v562 v563) := by
  rw [k0_part7_eq_skeleton]; unfold k0_part7_skel
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t1_trip {v20 v27 v28 v29 v30 v31 v32 v33 v34 v35 v36 v37 v38 v39 v40 v48 k acc} (h : Holds c R arg2 arg3 arg4 arg5 arg6 arg7 arg8 arg9 arg10 arg11 arg12 arg13 arg14 arg15 arg16 arg17 arg18 arg19 arg20) :
    Stays (defs₀ (F := F)) 𝒱 c R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v28 v29 v30 v31 v32 v33 v34 v35 v36 v37 v38 v39 v40 v48 k acc) := by
  unfold k0_t1_body
  repeat' first
    | with_reducible exact part2 h | with_reducible exact part3 h | with_reducible exact part4 h
    | with_reducible exact part5 h | with_reducible exact part6 h | with_reducible exact part7 h
    | with_reducible exact .load h.h10 | with_reducible exact .store h.h10 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part8 {v47 v48 v71 c1_i32_24 k0_t2} (h : Holds c R arg2 arg3 arg4 arg5 arg6 arg7 arg8 arg9 arg10 arg11 arg12 arg13 arg14 arg15 arg16 arg17 arg18 arg19 arg20) :
    Stays (defs₀ (F := F)) 𝒱 c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v47 v48 v71 c1_i32_24 k0_t2) := by
  rw [k0_part8_eq_skeleton]; unfold k0_part8_skel
  repeat' first
    | with_reducible exact .load h.h6 | with_reducible exact .store h.h6 | with_reducible exact .pure _
    | with_reducible refine .bind ?_ fun _ => ?_ | with_reducible refine .ite ?_ ?_
    | with_reducible refine .dite (fun _ => ?_) (fun _ => ?_) | split

theorem part9 {v48 v326 v362 v365} (h : Holds c R arg2 arg3 arg4 arg5 arg6 arg7 arg8 arg9 arg10 arg11 arg12 arg13 arg14 arg15 arg16 arg17 arg18 arg19 arg20) :
    Stays (defs₀ (F := F)) 𝒱 c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v48 v326 v362 v365) := by
  rw [k0_part9_eq_skeleton]; unfold k0_part9_skel
  repeat' first
    | with_reducible exact .pure _ | with_reducible refine .bind ?_ fun _ => ?_
    | with_reducible refine .ite ?_ ?_ | with_reducible refine .dite (fun _ => ?_) (fun _ => ?_) | split

theorem part10 {v27 v48 k0_t2 v320 v323 v326 v418} (h : Holds c R arg2 arg3 arg4 arg5 arg6 arg7 arg8 arg9 arg10 arg11 arg12 arg13 arg14 arg15 arg16 arg17 arg18 arg19 arg20) :
    Stays (defs₀ (F := F)) 𝒱 c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v27 v48 k0_t2 v320 v323 v326 v418) := by
  rw [k0_part10_eq_skeleton]; unfold k0_part10_skel
  repeat' first
    | with_reducible exact .load h.h9 | with_reducible exact .store h.h9 | with_reducible exact .load h.h10
    | with_reducible exact .store h.h10 | with_reducible exact .pure _
    | with_reducible refine .bind ?_ fun _ => ?_ | with_reducible refine .ite ?_ ?_
    | with_reducible refine .dite (fun _ => ?_) (fun _ => ?_) | split

theorem part11 {v47 v48 k0_t2 arg21 v320 v464 c16_i32_209} (h : Holds c R arg2 arg3 arg4 arg5 arg6 arg7 arg8 arg9 arg10 arg11 arg12 arg13 arg14 arg15 arg16 arg17 arg18 arg19 arg20) :
    Stays (defs₀ (F := F)) 𝒱 c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v47 v48 k0_t2 arg21 v320 v464 c16_i32_209) := by
  rw [k0_part11_eq_skeleton]; unfold k0_part11_skel
  repeat' first
    | with_reducible exact .load h.h6 | with_reducible exact .store h.h6 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part12 {v48 v483 v505 v511} (h : Holds c R arg2 arg3 arg4 arg5 arg6 arg7 arg8 arg9 arg10 arg11 arg12 arg13 arg14 arg15 arg16 arg17 arg18 arg19 arg20) :
    Stays (defs₀ (F := F)) 𝒱 c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v48 v483 v505 v511) := by
  rw [k0_part12_eq_skeleton]; unfold k0_part12_skel
  repeat' first
    | with_reducible exact .pure _ | with_reducible refine .bind ?_ fun _ => ?_
    | with_reducible refine .ite ?_ ?_ | with_reducible refine .dite (fun _ => ?_) (fun _ => ?_) | split

theorem part13 {v27 v48 k0_t2 v477 v480 v483 v561 v562 v563} (h : Holds c R arg2 arg3 arg4 arg5 arg6 arg7 arg8 arg9 arg10 arg11 arg12 arg13 arg14 arg15 arg16 arg17 arg18 arg19 arg20) :
    Stays (defs₀ (F := F)) 𝒱 c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v27 v48 k0_t2 v477 v480 v483 v561 v562 v563) := by
  rw [k0_part13_eq_skeleton]; unfold k0_part13_skel
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t2_trip {v20 v27 v28 v29 v30 v31 v32 v33 v34 v35 v36 v37 v38 v39 v40 v48 v71 k acc} (h : Holds c R arg2 arg3 arg4 arg5 arg6 arg7 arg8 arg9 arg10 arg11 arg12 arg13 arg14 arg15 arg16 arg17 arg18 arg19 arg20) :
    Stays (defs₀ (F := F)) 𝒱 c R (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v28 v29 v30 v31 v32 v33 v34 v35 v36 v37 v38 v39 v40 v48 v71 k acc) := by
  unfold k0_t2_body
  repeat' first
    | with_reducible exact part8 h | with_reducible exact part9 h | with_reducible exact part10 h
    | with_reducible exact part11 h | with_reducible exact part12 h | with_reducible exact part13 h
    | with_reducible exact .load h.h10 | with_reducible exact .store h.h10 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part87 {v20 v27 v28 v29 v30 v31 v32 v33 v34 v35 v36 v37 v38 v39 v40} (h : Holds c R arg2 arg3 arg4 arg5 arg6 arg7 arg8 arg9 arg10 arg11 arg12 arg13 arg14 arg15 arg16 arg17 arg18 arg19 arg20) :
    Stays (defs₀ (F := F)) 𝒱 c R (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v28 v29 v30 v31 v32 v33 v34 v35 v36 v37 v38 v39 v40) := by
  rw [k0_part87_eq_skeleton]; unfold k0_part87_skel
  repeat' first
    | with_reducible exact t1_trip h | with_reducible exact t2_trip h | with_reducible exact .load h.h4
    | with_reducible exact .store h.h4 | with_reducible exact .pure _
    | with_reducible refine .bind ?_ fun _ => ?_ | with_reducible refine .loop _ _ _ fun _ _ => ?_
    | with_reducible refine .ite ?_ ?_ | with_reducible refine .dite (fun _ => ?_) (fun _ => ?_) | split

theorem part14 {v324 c0_i32_184 c1_i32_186 k0_t4 arg25 arg26 arg27 arg28} (h : Holds c R arg2 arg3 arg4 arg5 arg6 arg7 arg8 arg9 arg10 arg11 arg12 arg13 arg14 arg15 arg16 arg17 arg18 arg19 arg20) :
    Stays (defs₀ (F := F)) 𝒱 c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 c0_i32_184 c1_i32_186 k0_t4 arg25 arg26 arg27 arg28) := by
  rw [k0_part14_eq_skeleton]; unfold k0_part14_skel
  repeat' first
    | with_reducible exact .load h.h10 | with_reducible exact .store h.h10 | with_reducible exact .pure _
    | with_reducible refine .bind ?_ fun _ => ?_ | with_reducible refine .ite ?_ ?_
    | with_reducible refine .dite (fun _ => ?_) (fun _ => ?_) | split

theorem part15 {v324 v354 v372 v378 v384 v390 v392 c1_i16_206} (h : Holds c R arg2 arg3 arg4 arg5 arg6 arg7 arg8 arg9 arg10 arg11 arg12 arg13 arg14 arg15 arg16 arg17 arg18 arg19 arg20) :
    Stays (defs₀ (F := F)) 𝒱 c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v372 v378 v384 v390 v392 c1_i16_206) := by
  rw [k0_part15_eq_skeleton]; unfold k0_part15_skel
  repeat' first
    | with_reducible exact .pure _ | with_reducible refine .bind ?_ fun _ => ?_
    | with_reducible refine .ite ?_ ?_ | with_reducible refine .dite (fun _ => ?_) (fun _ => ?_) | split

theorem part16 {v324 v354 v414 v420 v426 v432 v437} (h : Holds c R arg2 arg3 arg4 arg5 arg6 arg7 arg8 arg9 arg10 arg11 arg12 arg13 arg14 arg15 arg16 arg17 arg18 arg19 arg20) :
    Stays (defs₀ (F := F)) 𝒱 c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v414 v420 v426 v432 v437) := by
  rw [k0_part16_eq_skeleton]; unfold k0_part16_skel
  repeat' first
    | with_reducible exact .pure _ | with_reducible refine .bind ?_ fun _ => ?_
    | with_reducible refine .ite ?_ ?_ | with_reducible refine .dite (fun _ => ?_) (fun _ => ?_) | split

theorem part17 {v324 v354 v462 v468 v474 v480 v482 c1_i16_236} (h : Holds c R arg2 arg3 arg4 arg5 arg6 arg7 arg8 arg9 arg10 arg11 arg12 arg13 arg14 arg15 arg16 arg17 arg18 arg19 arg20) :
    Stays (defs₀ (F := F)) 𝒱 c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v462 v468 v474 v480 v482 c1_i16_236) := by
  rw [k0_part17_eq_skeleton]; unfold k0_part17_skel
  repeat' first
    | with_reducible exact .pure _ | with_reducible refine .bind ?_ fun _ => ?_
    | with_reducible refine .ite ?_ ?_ | with_reducible refine .dite (fun _ => ?_) (fun _ => ?_) | split

theorem part18 {v324 v354 v504 v510 v516 v522 v527} (h : Holds c R arg2 arg3 arg4 arg5 arg6 arg7 arg8 arg9 arg10 arg11 arg12 arg13 arg14 arg15 arg16 arg17 arg18 arg19 arg20) :
    Stays (defs₀ (F := F)) 𝒱 c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v504 v510 v516 v522 v527) := by
  rw [k0_part18_eq_skeleton]; unfold k0_part18_skel
  repeat' first
    | with_reducible exact .pure _ | with_reducible refine .bind ?_ fun _ => ?_
    | with_reducible refine .ite ?_ ?_ | with_reducible refine .dite (fun _ => ?_) (fun _ => ?_) | split

theorem part19 {v324 v354 v552 v558 v564 v570 v572 c1_i16_266} (h : Holds c R arg2 arg3 arg4 arg5 arg6 arg7 arg8 arg9 arg10 arg11 arg12 arg13 arg14 arg15 arg16 arg17 arg18 arg19 arg20) :
    Stays (defs₀ (F := F)) 𝒱 c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v552 v558 v564 v570 v572 c1_i16_266) := by
  rw [k0_part19_eq_skeleton]; unfold k0_part19_skel
  repeat' first
    | with_reducible exact .pure _ | with_reducible refine .bind ?_ fun _ => ?_
    | with_reducible refine .ite ?_ ?_ | with_reducible refine .dite (fun _ => ?_) (fun _ => ?_) | split

theorem part20 {v324 v354 v594 v600 v606 v612 v617} (h : Holds c R arg2 arg3 arg4 arg5 arg6 arg7 arg8 arg9 arg10 arg11 arg12 arg13 arg14 arg15 arg16 arg17 arg18 arg19 arg20) :
    Stays (defs₀ (F := F)) 𝒱 c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v594 v600 v606 v612 v617) := by
  rw [k0_part20_eq_skeleton]; unfold k0_part20_skel
  repeat' first
    | with_reducible exact .pure _ | with_reducible refine .bind ?_ fun _ => ?_
    | with_reducible refine .ite ?_ ?_ | with_reducible refine .dite (fun _ => ?_) (fun _ => ?_) | split

theorem part21 {v324 v354 v642 v648 v654 v660 v662 c1_i16_296} (h : Holds c R arg2 arg3 arg4 arg5 arg6 arg7 arg8 arg9 arg10 arg11 arg12 arg13 arg14 arg15 arg16 arg17 arg18 arg19 arg20) :
    Stays (defs₀ (F := F)) 𝒱 c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v642 v648 v654 v660 v662 c1_i16_296) := by
  rw [k0_part21_eq_skeleton]; unfold k0_part21_skel
  repeat' first
    | with_reducible exact .pure _ | with_reducible refine .bind ?_ fun _ => ?_
    | with_reducible refine .ite ?_ ?_ | with_reducible refine .dite (fun _ => ?_) (fun _ => ?_) | split

theorem t4_trip {v66 v74 v75 c0_i32_27 c1_i32_28 k0_t3 arg22 k acc} (h : Holds c R arg2 arg3 arg4 arg5 arg6 arg7 arg8 arg9 arg10 arg11 arg12 arg13 arg14 arg15 arg16 arg17 arg18 arg19 arg20) :
    Stays (defs₀ (F := F)) 𝒱 c R (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 k0_t3 arg22 k acc) := by
  unfold k0_t4_body
  repeat' first
    | with_reducible exact part14 h | with_reducible exact part15 h | with_reducible exact part16 h
    | with_reducible exact part17 h | with_reducible exact part18 h | with_reducible exact part19 h
    | with_reducible exact part20 h | with_reducible exact part21 h | with_reducible exact .pure _
    | with_reducible refine .bind ?_ fun _ => ?_ | with_reducible refine .ite ?_ ?_
    | with_reducible refine .dite (fun _ => ?_) (fun _ => ?_) | split

theorem part22 {v324 v330 c1_i32_187 k0_t5 arg25 arg26 arg27 arg28} (h : Holds c R arg2 arg3 arg4 arg5 arg6 arg7 arg8 arg9 arg10 arg11 arg12 arg13 arg14 arg15 arg16 arg17 arg18 arg19 arg20) :
    Stays (defs₀ (F := F)) 𝒱 c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v330 c1_i32_187 k0_t5 arg25 arg26 arg27 arg28) := by
  rw [k0_part22_eq_skeleton]; unfold k0_part22_skel
  repeat' first
    | with_reducible exact .load h.h10 | with_reducible exact .store h.h10 | with_reducible exact .pure _
    | with_reducible refine .bind ?_ fun _ => ?_ | with_reducible refine .ite ?_ ?_
    | with_reducible refine .dite (fun _ => ?_) (fun _ => ?_) | split

theorem part23 {v324 v354 v372 v378 v384 v390 v392 c1_i16_206} (h : Holds c R arg2 arg3 arg4 arg5 arg6 arg7 arg8 arg9 arg10 arg11 arg12 arg13 arg14 arg15 arg16 arg17 arg18 arg19 arg20) :
    Stays (defs₀ (F := F)) 𝒱 c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v372 v378 v384 v390 v392 c1_i16_206) := by
  rw [k0_part23_eq_skeleton]; unfold k0_part23_skel
  repeat' first
    | with_reducible exact .pure _ | with_reducible refine .bind ?_ fun _ => ?_
    | with_reducible refine .ite ?_ ?_ | with_reducible refine .dite (fun _ => ?_) (fun _ => ?_) | split

theorem part24 {v324 v354 v414 v420 v426 v432 v437} (h : Holds c R arg2 arg3 arg4 arg5 arg6 arg7 arg8 arg9 arg10 arg11 arg12 arg13 arg14 arg15 arg16 arg17 arg18 arg19 arg20) :
    Stays (defs₀ (F := F)) 𝒱 c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v414 v420 v426 v432 v437) := by
  rw [k0_part24_eq_skeleton]; unfold k0_part24_skel
  repeat' first
    | with_reducible exact .pure _ | with_reducible refine .bind ?_ fun _ => ?_
    | with_reducible refine .ite ?_ ?_ | with_reducible refine .dite (fun _ => ?_) (fun _ => ?_) | split

theorem part25 {v324 v354 v462 v468 v474 v480 v482 c1_i16_236} (h : Holds c R arg2 arg3 arg4 arg5 arg6 arg7 arg8 arg9 arg10 arg11 arg12 arg13 arg14 arg15 arg16 arg17 arg18 arg19 arg20) :
    Stays (defs₀ (F := F)) 𝒱 c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v462 v468 v474 v480 v482 c1_i16_236) := by
  rw [k0_part25_eq_skeleton]; unfold k0_part25_skel
  repeat' first
    | with_reducible exact .pure _ | with_reducible refine .bind ?_ fun _ => ?_
    | with_reducible refine .ite ?_ ?_ | with_reducible refine .dite (fun _ => ?_) (fun _ => ?_) | split

theorem part26 {v324 v354 v504 v510 v516 v522 v527} (h : Holds c R arg2 arg3 arg4 arg5 arg6 arg7 arg8 arg9 arg10 arg11 arg12 arg13 arg14 arg15 arg16 arg17 arg18 arg19 arg20) :
    Stays (defs₀ (F := F)) 𝒱 c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v504 v510 v516 v522 v527) := by
  rw [k0_part26_eq_skeleton]; unfold k0_part26_skel
  repeat' first
    | with_reducible exact .pure _ | with_reducible refine .bind ?_ fun _ => ?_
    | with_reducible refine .ite ?_ ?_ | with_reducible refine .dite (fun _ => ?_) (fun _ => ?_) | split

theorem part27 {v324 v354 v552 v558 v564 v570 v572 c1_i16_266} (h : Holds c R arg2 arg3 arg4 arg5 arg6 arg7 arg8 arg9 arg10 arg11 arg12 arg13 arg14 arg15 arg16 arg17 arg18 arg19 arg20) :
    Stays (defs₀ (F := F)) 𝒱 c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v552 v558 v564 v570 v572 c1_i16_266) := by
  rw [k0_part27_eq_skeleton]; unfold k0_part27_skel
  repeat' first
    | with_reducible exact .pure _ | with_reducible refine .bind ?_ fun _ => ?_
    | with_reducible refine .ite ?_ ?_ | with_reducible refine .dite (fun _ => ?_) (fun _ => ?_) | split

theorem part28 {v324 v354 v594 v600 v606 v612 v617} (h : Holds c R arg2 arg3 arg4 arg5 arg6 arg7 arg8 arg9 arg10 arg11 arg12 arg13 arg14 arg15 arg16 arg17 arg18 arg19 arg20) :
    Stays (defs₀ (F := F)) 𝒱 c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v594 v600 v606 v612 v617) := by
  rw [k0_part28_eq_skeleton]; unfold k0_part28_skel
  repeat' first
    | with_reducible exact .pure _ | with_reducible refine .bind ?_ fun _ => ?_
    | with_reducible refine .ite ?_ ?_ | with_reducible refine .dite (fun _ => ?_) (fun _ => ?_) | split

theorem part29 {v324 v354 v642 v648 v654 v660 v662 c1_i16_296} (h : Holds c R arg2 arg3 arg4 arg5 arg6 arg7 arg8 arg9 arg10 arg11 arg12 arg13 arg14 arg15 arg16 arg17 arg18 arg19 arg20) :
    Stays (defs₀ (F := F)) 𝒱 c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v354 v642 v648 v654 v660 v662 c1_i16_296) := by
  rw [k0_part29_eq_skeleton]; unfold k0_part29_skel
  repeat' first
    | with_reducible exact .pure _ | with_reducible refine .bind ?_ fun _ => ?_
    | with_reducible refine .ite ?_ ?_ | with_reducible refine .dite (fun _ => ?_) (fun _ => ?_) | split

theorem t5_trip {v66 v74 v75 c0_i32_27 c1_i32_28 k0_t3 arg22 v330 k acc} (h : Holds c R arg2 arg3 arg4 arg5 arg6 arg7 arg8 arg9 arg10 arg11 arg12 arg13 arg14 arg15 arg16 arg17 arg18 arg19 arg20) :
    Stays (defs₀ (F := F)) 𝒱 c R (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 k0_t3 arg22 v330 k acc) := by
  unfold k0_t5_body
  repeat' first
    | with_reducible exact part22 h | with_reducible exact part23 h | with_reducible exact part24 h
    | with_reducible exact part25 h | with_reducible exact part26 h | with_reducible exact part27 h
    | with_reducible exact part28 h | with_reducible exact part29 h | with_reducible exact .pure _
    | with_reducible refine .bind ?_ fun _ => ?_ | with_reducible refine .ite ?_ ?_
    | with_reducible refine .dite (fun _ => ?_) (fun _ => ?_) | split

theorem t3_trip {v66 v74 v75 c0_i32_27 c1_i32_28 k acc} (h : Holds c R arg2 arg3 arg4 arg5 arg6 arg7 arg8 arg9 arg10 arg11 arg12 arg13 arg14 arg15 arg16 arg17 arg18 arg19 arg20) :
    Stays (defs₀ (F := F)) 𝒱 c R (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 k acc) := by
  unfold k0_t3_body
  repeat' first
    | with_reducible exact t4_trip h | with_reducible exact t5_trip h | with_reducible exact .pure _
    | with_reducible refine .bind ?_ fun _ => ?_ | with_reducible refine .loop _ _ _ fun _ _ => ?_
    | with_reducible refine .ite ?_ ?_ | with_reducible refine .dite (fun _ => ?_) (fun _ => ?_) | split

theorem part30 {v80 c0_i32_30 c1_i32_32 k0_t6 arg22 arg23 arg24 arg25} (h : Holds c R arg2 arg3 arg4 arg5 arg6 arg7 arg8 arg9 arg10 arg11 arg12 arg13 arg14 arg15 arg16 arg17 arg18 arg19 arg20) :
    Stays (defs₀ (F := F)) 𝒱 c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 c0_i32_30 c1_i32_32 k0_t6 arg22 arg23 arg24 arg25) := by
  rw [k0_part30_eq_skeleton]; unfold k0_part30_skel
  repeat' first
    | with_reducible exact .load h.h10 | with_reducible exact .store h.h10 | with_reducible exact .pure _
    | with_reducible refine .bind ?_ fun _ => ?_ | with_reducible refine .ite ?_ ?_
    | with_reducible refine .dite (fun _ => ?_) (fun _ => ?_) | split

theorem part31 {v80 v322 v340 v346 v352 v358 v360 c1_i16_196} (h : Holds c R arg2 arg3 arg4 arg5 arg6 arg7 arg8 arg9 arg10 arg11 arg12 arg13 arg14 arg15 arg16 arg17 arg18 arg19 arg20) :
    Stays (defs₀ (F := F)) 𝒱 c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v340 v346 v352 v358 v360 c1_i16_196) := by
  rw [k0_part31_eq_skeleton]; unfold k0_part31_skel
  repeat' first
    | with_reducible exact .pure _ | with_reducible refine .bind ?_ fun _ => ?_
    | with_reducible refine .ite ?_ ?_ | with_reducible refine .dite (fun _ => ?_) (fun _ => ?_) | split

theorem part32 {v80 v322 v382 v388 v394 v400 v405} (h : Holds c R arg2 arg3 arg4 arg5 arg6 arg7 arg8 arg9 arg10 arg11 arg12 arg13 arg14 arg15 arg16 arg17 arg18 arg19 arg20) :
    Stays (defs₀ (F := F)) 𝒱 c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v382 v388 v394 v400 v405) := by
  rw [k0_part32_eq_skeleton]; unfold k0_part32_skel
  repeat' first
    | with_reducible exact .pure _ | with_reducible refine .bind ?_ fun _ => ?_
    | with_reducible refine .ite ?_ ?_ | with_reducible refine .dite (fun _ => ?_) (fun _ => ?_) | split

theorem part33 {v80 v322 v430 v436 v442 v448 v450 c1_i16_226} (h : Holds c R arg2 arg3 arg4 arg5 arg6 arg7 arg8 arg9 arg10 arg11 arg12 arg13 arg14 arg15 arg16 arg17 arg18 arg19 arg20) :
    Stays (defs₀ (F := F)) 𝒱 c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v430 v436 v442 v448 v450 c1_i16_226) := by
  rw [k0_part33_eq_skeleton]; unfold k0_part33_skel
  repeat' first
    | with_reducible exact .pure _ | with_reducible refine .bind ?_ fun _ => ?_
    | with_reducible refine .ite ?_ ?_ | with_reducible refine .dite (fun _ => ?_) (fun _ => ?_) | split

theorem part34 {v80 v322 v472 v478 v484 v490 v495} (h : Holds c R arg2 arg3 arg4 arg5 arg6 arg7 arg8 arg9 arg10 arg11 arg12 arg13 arg14 arg15 arg16 arg17 arg18 arg19 arg20) :
    Stays (defs₀ (F := F)) 𝒱 c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v472 v478 v484 v490 v495) := by
  rw [k0_part34_eq_skeleton]; unfold k0_part34_skel
  repeat' first
    | with_reducible exact .pure _ | with_reducible refine .bind ?_ fun _ => ?_
    | with_reducible refine .ite ?_ ?_ | with_reducible refine .dite (fun _ => ?_) (fun _ => ?_) | split

theorem part35 {v80 v322 v520 v526 v532 v538 v540 c1_i16_256} (h : Holds c R arg2 arg3 arg4 arg5 arg6 arg7 arg8 arg9 arg10 arg11 arg12 arg13 arg14 arg15 arg16 arg17 arg18 arg19 arg20) :
    Stays (defs₀ (F := F)) 𝒱 c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v520 v526 v532 v538 v540 c1_i16_256) := by
  rw [k0_part35_eq_skeleton]; unfold k0_part35_skel
  repeat' first
    | with_reducible exact .pure _ | with_reducible refine .bind ?_ fun _ => ?_
    | with_reducible refine .ite ?_ ?_ | with_reducible refine .dite (fun _ => ?_) (fun _ => ?_) | split

theorem part36 {v80 v322 v562 v568 v574 v580 v585} (h : Holds c R arg2 arg3 arg4 arg5 arg6 arg7 arg8 arg9 arg10 arg11 arg12 arg13 arg14 arg15 arg16 arg17 arg18 arg19 arg20) :
    Stays (defs₀ (F := F)) 𝒱 c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v562 v568 v574 v580 v585) := by
  rw [k0_part36_eq_skeleton]; unfold k0_part36_skel
  repeat' first
    | with_reducible exact .pure _ | with_reducible refine .bind ?_ fun _ => ?_
    | with_reducible refine .ite ?_ ?_ | with_reducible refine .dite (fun _ => ?_) (fun _ => ?_) | split

theorem part37 {v80 v322 v610 v616 v622 v628 v630 c1_i16_286} (h : Holds c R arg2 arg3 arg4 arg5 arg6 arg7 arg8 arg9 arg10 arg11 arg12 arg13 arg14 arg15 arg16 arg17 arg18 arg19 arg20) :
    Stays (defs₀ (F := F)) 𝒱 c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v610 v616 v622 v628 v630 c1_i16_286) := by
  rw [k0_part37_eq_skeleton]; unfold k0_part37_skel
  repeat' first
    | with_reducible exact .pure _ | with_reducible refine .bind ?_ fun _ => ?_
    | with_reducible refine .ite ?_ ?_ | with_reducible refine .dite (fun _ => ?_) (fun _ => ?_) | split

theorem t6_trip {v66 v74 v75 c0_i32_27 c1_i32_28 v77_0 k acc} (h : Holds c R arg2 arg3 arg4 arg5 arg6 arg7 arg8 arg9 arg10 arg11 arg12 arg13 arg14 arg15 arg16 arg17 arg18 arg19 arg20) :
    Stays (defs₀ (F := F)) 𝒱 c R (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 v77_0 k acc) := by
  unfold k0_t6_body
  repeat' first
    | with_reducible exact part30 h | with_reducible exact part31 h | with_reducible exact part32 h
    | with_reducible exact part33 h | with_reducible exact part34 h | with_reducible exact part35 h
    | with_reducible exact part36 h | with_reducible exact part37 h | with_reducible exact .pure _
    | with_reducible refine .bind ?_ fun _ => ?_ | with_reducible refine .ite ?_ ?_
    | with_reducible refine .dite (fun _ => ?_) (fun _ => ?_) | split

theorem part38 {v80 v86 c1_i32_33 k0_t7 arg22 arg23 arg24 arg25} (h : Holds c R arg2 arg3 arg4 arg5 arg6 arg7 arg8 arg9 arg10 arg11 arg12 arg13 arg14 arg15 arg16 arg17 arg18 arg19 arg20) :
    Stays (defs₀ (F := F)) 𝒱 c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v86 c1_i32_33 k0_t7 arg22 arg23 arg24 arg25) := by
  rw [k0_part38_eq_skeleton]; unfold k0_part38_skel
  repeat' first
    | with_reducible exact .load h.h10 | with_reducible exact .store h.h10 | with_reducible exact .pure _
    | with_reducible refine .bind ?_ fun _ => ?_ | with_reducible refine .ite ?_ ?_
    | with_reducible refine .dite (fun _ => ?_) (fun _ => ?_) | split

theorem part39 {v80 v322 v340 v346 v352 v358 v360 c1_i16_196} (h : Holds c R arg2 arg3 arg4 arg5 arg6 arg7 arg8 arg9 arg10 arg11 arg12 arg13 arg14 arg15 arg16 arg17 arg18 arg19 arg20) :
    Stays (defs₀ (F := F)) 𝒱 c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v340 v346 v352 v358 v360 c1_i16_196) := by
  rw [k0_part39_eq_skeleton]; unfold k0_part39_skel
  repeat' first
    | with_reducible exact .pure _ | with_reducible refine .bind ?_ fun _ => ?_
    | with_reducible refine .ite ?_ ?_ | with_reducible refine .dite (fun _ => ?_) (fun _ => ?_) | split

theorem part40 {v80 v322 v382 v388 v394 v400 v405} (h : Holds c R arg2 arg3 arg4 arg5 arg6 arg7 arg8 arg9 arg10 arg11 arg12 arg13 arg14 arg15 arg16 arg17 arg18 arg19 arg20) :
    Stays (defs₀ (F := F)) 𝒱 c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v382 v388 v394 v400 v405) := by
  rw [k0_part40_eq_skeleton]; unfold k0_part40_skel
  repeat' first
    | with_reducible exact .pure _ | with_reducible refine .bind ?_ fun _ => ?_
    | with_reducible refine .ite ?_ ?_ | with_reducible refine .dite (fun _ => ?_) (fun _ => ?_) | split

theorem part41 {v80 v322 v430 v436 v442 v448 v450 c1_i16_226} (h : Holds c R arg2 arg3 arg4 arg5 arg6 arg7 arg8 arg9 arg10 arg11 arg12 arg13 arg14 arg15 arg16 arg17 arg18 arg19 arg20) :
    Stays (defs₀ (F := F)) 𝒱 c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v430 v436 v442 v448 v450 c1_i16_226) := by
  rw [k0_part41_eq_skeleton]; unfold k0_part41_skel
  repeat' first
    | with_reducible exact .pure _ | with_reducible refine .bind ?_ fun _ => ?_
    | with_reducible refine .ite ?_ ?_ | with_reducible refine .dite (fun _ => ?_) (fun _ => ?_) | split

theorem part42 {v80 v322 v472 v478 v484 v490 v495} (h : Holds c R arg2 arg3 arg4 arg5 arg6 arg7 arg8 arg9 arg10 arg11 arg12 arg13 arg14 arg15 arg16 arg17 arg18 arg19 arg20) :
    Stays (defs₀ (F := F)) 𝒱 c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v472 v478 v484 v490 v495) := by
  rw [k0_part42_eq_skeleton]; unfold k0_part42_skel
  repeat' first
    | with_reducible exact .pure _ | with_reducible refine .bind ?_ fun _ => ?_
    | with_reducible refine .ite ?_ ?_ | with_reducible refine .dite (fun _ => ?_) (fun _ => ?_) | split

theorem part43 {v80 v322 v520 v526 v532 v538 v540 c1_i16_256} (h : Holds c R arg2 arg3 arg4 arg5 arg6 arg7 arg8 arg9 arg10 arg11 arg12 arg13 arg14 arg15 arg16 arg17 arg18 arg19 arg20) :
    Stays (defs₀ (F := F)) 𝒱 c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v520 v526 v532 v538 v540 c1_i16_256) := by
  rw [k0_part43_eq_skeleton]; unfold k0_part43_skel
  repeat' first
    | with_reducible exact .pure _ | with_reducible refine .bind ?_ fun _ => ?_
    | with_reducible refine .ite ?_ ?_ | with_reducible refine .dite (fun _ => ?_) (fun _ => ?_) | split

theorem part44 {v80 v322 v562 v568 v574 v580 v585} (h : Holds c R arg2 arg3 arg4 arg5 arg6 arg7 arg8 arg9 arg10 arg11 arg12 arg13 arg14 arg15 arg16 arg17 arg18 arg19 arg20) :
    Stays (defs₀ (F := F)) 𝒱 c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v562 v568 v574 v580 v585) := by
  rw [k0_part44_eq_skeleton]; unfold k0_part44_skel
  repeat' first
    | with_reducible exact .pure _ | with_reducible refine .bind ?_ fun _ => ?_
    | with_reducible refine .ite ?_ ?_ | with_reducible refine .dite (fun _ => ?_) (fun _ => ?_) | split

theorem part45 {v80 v322 v610 v616 v622 v628 v630 c1_i16_286} (h : Holds c R arg2 arg3 arg4 arg5 arg6 arg7 arg8 arg9 arg10 arg11 arg12 arg13 arg14 arg15 arg16 arg17 arg18 arg19 arg20) :
    Stays (defs₀ (F := F)) 𝒱 c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v80 v322 v610 v616 v622 v628 v630 c1_i16_286) := by
  rw [k0_part45_eq_skeleton]; unfold k0_part45_skel
  repeat' first
    | with_reducible exact .pure _ | with_reducible refine .bind ?_ fun _ => ?_
    | with_reducible refine .ite ?_ ?_ | with_reducible refine .dite (fun _ => ?_) (fun _ => ?_) | split

theorem t7_trip {v66 v74 v75 c0_i32_27 c1_i32_28 v77_0 v86 k acc} (h : Holds c R arg2 arg3 arg4 arg5 arg6 arg7 arg8 arg9 arg10 arg11 arg12 arg13 arg14 arg15 arg16 arg17 arg18 arg19 arg20) :
    Stays (defs₀ (F := F)) 𝒱 c R (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 v77_0 v86 k acc) := by
  unfold k0_t7_body
  repeat' first
    | with_reducible exact part38 h | with_reducible exact part39 h | with_reducible exact part40 h
    | with_reducible exact part41 h | with_reducible exact part42 h | with_reducible exact part43 h
    | with_reducible exact part44 h | with_reducible exact part45 h | with_reducible exact .pure _
    | with_reducible refine .bind ?_ fun _ => ?_ | with_reducible refine .ite ?_ ?_
    | with_reducible refine .dite (fun _ => ?_) (fun _ => ?_) | split

theorem part46 {v102 c0_i32_37 c1_i32_39 k0_t8} (h : Holds c R arg2 arg3 arg4 arg5 arg6 arg7 arg8 arg9 arg10 arg11 arg12 arg13 arg14 arg15 arg16 arg17 arg18 arg19 arg20) :
    Stays (defs₀ (F := F)) 𝒱 c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 c0_i32_37 c1_i32_39 k0_t8) := by
  rw [k0_part46_eq_skeleton]; unfold k0_part46_skel
  repeat' first
    | with_reducible exact .load h.h10 | with_reducible exact .store h.h10 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part47 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part47_eq_skeleton]; unfold k0_part47_skel
  repeat' first
    | with_reducible exact .pure _ | with_reducible refine .bind ?_ fun _ => ?_
    | with_reducible refine .ite ?_ ?_ | with_reducible refine .dite (fun _ => ?_) (fun _ => ?_) | split

theorem part48 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part48_eq_skeleton]; unfold k0_part48_skel
  repeat' first
    | with_reducible exact .pure _ | with_reducible refine .bind ?_ fun _ => ?_
    | with_reducible refine .ite ?_ ?_ | with_reducible refine .dite (fun _ => ?_) (fun _ => ?_) | split

theorem part49 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part49_eq_skeleton]; unfold k0_part49_skel
  repeat' first
    | with_reducible exact .pure _ | with_reducible refine .bind ?_ fun _ => ?_
    | with_reducible refine .ite ?_ ?_ | with_reducible refine .dite (fun _ => ?_) (fun _ => ?_) | split

theorem part50 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part50_eq_skeleton]; unfold k0_part50_skel
  repeat' first
    | with_reducible exact .pure _ | with_reducible refine .bind ?_ fun _ => ?_
    | with_reducible refine .ite ?_ ?_ | with_reducible refine .dite (fun _ => ?_) (fun _ => ?_) | split

theorem part51 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part51_eq_skeleton]; unfold k0_part51_skel
  repeat' first
    | with_reducible exact .pure _ | with_reducible refine .bind ?_ fun _ => ?_
    | with_reducible refine .ite ?_ ?_ | with_reducible refine .dite (fun _ => ?_) (fun _ => ?_) | split

theorem t8_trip {v66 v74 v75 c0_i32_27 c1_i32_28 v102 k acc} (h : Holds c R arg2 arg3 arg4 arg5 arg6 arg7 arg8 arg9 arg10 arg11 arg12 arg13 arg14 arg15 arg16 arg17 arg18 arg19 arg20) :
    Stays (defs₀ (F := F)) 𝒱 c R (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 v102 k acc) := by
  unfold k0_t8_body
  repeat' first
    | with_reducible exact part46 h | with_reducible exact part47 h | with_reducible exact part48 h
    | with_reducible exact part49 h | with_reducible exact part50 h | with_reducible exact part51 h
    | with_reducible exact .load h.h11 | with_reducible exact .store h.h11 | with_reducible exact .pure _
    | with_reducible refine .bind ?_ fun _ => ?_ | with_reducible refine .ite ?_ ?_
    | with_reducible refine .dite (fun _ => ?_) (fun _ => ?_) | split

theorem part52 {v102 v107 c1_i32_40 k0_t9} (h : Holds c R arg2 arg3 arg4 arg5 arg6 arg7 arg8 arg9 arg10 arg11 arg12 arg13 arg14 arg15 arg16 arg17 arg18 arg19 arg20) :
    Stays (defs₀ (F := F)) 𝒱 c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v107 c1_i32_40 k0_t9) := by
  rw [k0_part52_eq_skeleton]; unfold k0_part52_skel
  repeat' first
    | with_reducible exact .load h.h10 | with_reducible exact .store h.h10 | with_reducible exact .load h.h11
    | with_reducible exact .store h.h11 | with_reducible exact .pure _
    | with_reducible refine .bind ?_ fun _ => ?_ | with_reducible refine .ite ?_ ?_
    | with_reducible refine .dite (fun _ => ?_) (fun _ => ?_) | split

theorem part53 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part53_eq_skeleton]; unfold k0_part53_skel
  repeat' first
    | with_reducible exact .pure _ | with_reducible refine .bind ?_ fun _ => ?_
    | with_reducible refine .ite ?_ ?_ | with_reducible refine .dite (fun _ => ?_) (fun _ => ?_) | split

theorem part54 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part54_eq_skeleton]; unfold k0_part54_skel
  repeat' first
    | with_reducible exact .pure _ | with_reducible refine .bind ?_ fun _ => ?_
    | with_reducible refine .ite ?_ ?_ | with_reducible refine .dite (fun _ => ?_) (fun _ => ?_) | split

theorem part55 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part55_eq_skeleton]; unfold k0_part55_skel
  repeat' first
    | with_reducible exact .pure _ | with_reducible refine .bind ?_ fun _ => ?_
    | with_reducible refine .ite ?_ ?_ | with_reducible refine .dite (fun _ => ?_) (fun _ => ?_) | split

theorem part56 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part56_eq_skeleton]; unfold k0_part56_skel
  repeat' first
    | with_reducible exact .pure _ | with_reducible refine .bind ?_ fun _ => ?_
    | with_reducible refine .ite ?_ ?_ | with_reducible refine .dite (fun _ => ?_) (fun _ => ?_) | split

theorem part57 {v102 v322 v324} (h : Holds c R arg2 arg3 arg4 arg5 arg6 arg7 arg8 arg9 arg10 arg11 arg12 arg13 arg14 arg15 arg16 arg17 arg18 arg19 arg20) :
    Stays (defs₀ (F := F)) 𝒱 c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v102 v322 v324) := by
  rw [k0_part57_eq_skeleton]; unfold k0_part57_skel
  repeat' first
    | with_reducible exact .pure _ | with_reducible refine .bind ?_ fun _ => ?_
    | with_reducible refine .ite ?_ ?_ | with_reducible refine .dite (fun _ => ?_) (fun _ => ?_) | split

theorem t9_trip {v66 v74 v75 c0_i32_27 c1_i32_28 v102 v107 k acc} (h : Holds c R arg2 arg3 arg4 arg5 arg6 arg7 arg8 arg9 arg10 arg11 arg12 arg13 arg14 arg15 arg16 arg17 arg18 arg19 arg20) :
    Stays (defs₀ (F := F)) 𝒱 c R (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 v102 v107 k acc) := by
  unfold k0_t9_body
  repeat' first
    | with_reducible exact part52 h | with_reducible exact part53 h | with_reducible exact part54 h
    | with_reducible exact part55 h | with_reducible exact part56 h | with_reducible exact part57 h
    | with_reducible exact .load h.h11 | with_reducible exact .store h.h11 | with_reducible exact .pure _
    | with_reducible refine .bind ?_ fun _ => ?_ | with_reducible refine .ite ?_ ?_
    | with_reducible refine .dite (fun _ => ?_) (fun _ => ?_) | split

theorem part58 {v324 c0_i32_184 c1_i32_186 k0_t11 arg25 arg26 arg27 arg28} (h : Holds c R arg2 arg3 arg4 arg5 arg6 arg7 arg8 arg9 arg10 arg11 arg12 arg13 arg14 arg15 arg16 arg17 arg18 arg19 arg20) :
    Stays (defs₀ (F := F)) 𝒱 c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 c0_i32_184 c1_i32_186 k0_t11 arg25 arg26 arg27 arg28) := by
  rw [k0_part58_eq_skeleton]; unfold k0_part58_skel
  repeat' first
    | with_reducible exact .load h.h11 | with_reducible exact .store h.h11 | with_reducible exact .pure _
    | with_reducible refine .bind ?_ fun _ => ?_ | with_reducible refine .ite ?_ ?_
    | with_reducible refine .dite (fun _ => ?_) (fun _ => ?_) | split

theorem part59 {v324 v353 v371 v377 v383 v389 v391 c1_i16_205} (h : Holds c R arg2 arg3 arg4 arg5 arg6 arg7 arg8 arg9 arg10 arg11 arg12 arg13 arg14 arg15 arg16 arg17 arg18 arg19 arg20) :
    Stays (defs₀ (F := F)) 𝒱 c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v371 v377 v383 v389 v391 c1_i16_205) := by
  rw [k0_part59_eq_skeleton]; unfold k0_part59_skel
  repeat' first
    | with_reducible exact .pure _ | with_reducible refine .bind ?_ fun _ => ?_
    | with_reducible refine .ite ?_ ?_ | with_reducible refine .dite (fun _ => ?_) (fun _ => ?_) | split

theorem part60 {v324 v353 v413 v419 v425 v431 v436} (h : Holds c R arg2 arg3 arg4 arg5 arg6 arg7 arg8 arg9 arg10 arg11 arg12 arg13 arg14 arg15 arg16 arg17 arg18 arg19 arg20) :
    Stays (defs₀ (F := F)) 𝒱 c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v413 v419 v425 v431 v436) := by
  rw [k0_part60_eq_skeleton]; unfold k0_part60_skel
  repeat' first
    | with_reducible exact .pure _ | with_reducible refine .bind ?_ fun _ => ?_
    | with_reducible refine .ite ?_ ?_ | with_reducible refine .dite (fun _ => ?_) (fun _ => ?_) | split

theorem part61 {v324 v353 v461 v467 v473 v479 v481 c1_i16_235} (h : Holds c R arg2 arg3 arg4 arg5 arg6 arg7 arg8 arg9 arg10 arg11 arg12 arg13 arg14 arg15 arg16 arg17 arg18 arg19 arg20) :
    Stays (defs₀ (F := F)) 𝒱 c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v461 v467 v473 v479 v481 c1_i16_235) := by
  rw [k0_part61_eq_skeleton]; unfold k0_part61_skel
  repeat' first
    | with_reducible exact .pure _ | with_reducible refine .bind ?_ fun _ => ?_
    | with_reducible refine .ite ?_ ?_ | with_reducible refine .dite (fun _ => ?_) (fun _ => ?_) | split

theorem part62 {v324 v353 v503 v509 v515 v521 v526} (h : Holds c R arg2 arg3 arg4 arg5 arg6 arg7 arg8 arg9 arg10 arg11 arg12 arg13 arg14 arg15 arg16 arg17 arg18 arg19 arg20) :
    Stays (defs₀ (F := F)) 𝒱 c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v503 v509 v515 v521 v526) := by
  rw [k0_part62_eq_skeleton]; unfold k0_part62_skel
  repeat' first
    | with_reducible exact .pure _ | with_reducible refine .bind ?_ fun _ => ?_
    | with_reducible refine .ite ?_ ?_ | with_reducible refine .dite (fun _ => ?_) (fun _ => ?_) | split

theorem part63 {v324 v353 v551 v557 v563 v569 v571 c1_i16_265} (h : Holds c R arg2 arg3 arg4 arg5 arg6 arg7 arg8 arg9 arg10 arg11 arg12 arg13 arg14 arg15 arg16 arg17 arg18 arg19 arg20) :
    Stays (defs₀ (F := F)) 𝒱 c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v551 v557 v563 v569 v571 c1_i16_265) := by
  rw [k0_part63_eq_skeleton]; unfold k0_part63_skel
  repeat' first
    | with_reducible exact .pure _ | with_reducible refine .bind ?_ fun _ => ?_
    | with_reducible refine .ite ?_ ?_ | with_reducible refine .dite (fun _ => ?_) (fun _ => ?_) | split

theorem part64 {v324 v353 v593 v599 v605 v611 v616} (h : Holds c R arg2 arg3 arg4 arg5 arg6 arg7 arg8 arg9 arg10 arg11 arg12 arg13 arg14 arg15 arg16 arg17 arg18 arg19 arg20) :
    Stays (defs₀ (F := F)) 𝒱 c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v593 v599 v605 v611 v616) := by
  rw [k0_part64_eq_skeleton]; unfold k0_part64_skel
  repeat' first
    | with_reducible exact .pure _ | with_reducible refine .bind ?_ fun _ => ?_
    | with_reducible refine .ite ?_ ?_ | with_reducible refine .dite (fun _ => ?_) (fun _ => ?_) | split

theorem part65 {v324 v353 v641 v647 v653 v659 v661 c1_i16_295} (h : Holds c R arg2 arg3 arg4 arg5 arg6 arg7 arg8 arg9 arg10 arg11 arg12 arg13 arg14 arg15 arg16 arg17 arg18 arg19 arg20) :
    Stays (defs₀ (F := F)) 𝒱 c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v641 v647 v653 v659 v661 c1_i16_295) := by
  rw [k0_part65_eq_skeleton]; unfold k0_part65_skel
  repeat' first
    | with_reducible exact .pure _ | with_reducible refine .bind ?_ fun _ => ?_
    | with_reducible refine .ite ?_ ?_ | with_reducible refine .dite (fun _ => ?_) (fun _ => ?_) | split

theorem t11_trip {v66 v74 v75 c0_i32_27 c1_i32_28 k0_t10 arg22 k acc} (h : Holds c R arg2 arg3 arg4 arg5 arg6 arg7 arg8 arg9 arg10 arg11 arg12 arg13 arg14 arg15 arg16 arg17 arg18 arg19 arg20) :
    Stays (defs₀ (F := F)) 𝒱 c R (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 k0_t10 arg22 k acc) := by
  unfold k0_t11_body
  repeat' first
    | with_reducible exact part58 h | with_reducible exact part59 h | with_reducible exact part60 h
    | with_reducible exact part61 h | with_reducible exact part62 h | with_reducible exact part63 h
    | with_reducible exact part64 h | with_reducible exact part65 h | with_reducible exact .pure _
    | with_reducible refine .bind ?_ fun _ => ?_ | with_reducible refine .ite ?_ ?_
    | with_reducible refine .dite (fun _ => ?_) (fun _ => ?_) | split

theorem part66 {v324 v330 c1_i32_187 k0_t12 arg25 arg26 arg27 arg28} (h : Holds c R arg2 arg3 arg4 arg5 arg6 arg7 arg8 arg9 arg10 arg11 arg12 arg13 arg14 arg15 arg16 arg17 arg18 arg19 arg20) :
    Stays (defs₀ (F := F)) 𝒱 c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v330 c1_i32_187 k0_t12 arg25 arg26 arg27 arg28) := by
  rw [k0_part66_eq_skeleton]; unfold k0_part66_skel
  repeat' first
    | with_reducible exact .load h.h11 | with_reducible exact .store h.h11 | with_reducible exact .pure _
    | with_reducible refine .bind ?_ fun _ => ?_ | with_reducible refine .ite ?_ ?_
    | with_reducible refine .dite (fun _ => ?_) (fun _ => ?_) | split

theorem part67 {v324 v353 v371 v377 v383 v389 v391 c1_i16_205} (h : Holds c R arg2 arg3 arg4 arg5 arg6 arg7 arg8 arg9 arg10 arg11 arg12 arg13 arg14 arg15 arg16 arg17 arg18 arg19 arg20) :
    Stays (defs₀ (F := F)) 𝒱 c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v371 v377 v383 v389 v391 c1_i16_205) := by
  rw [k0_part67_eq_skeleton]; unfold k0_part67_skel
  repeat' first
    | with_reducible exact .pure _ | with_reducible refine .bind ?_ fun _ => ?_
    | with_reducible refine .ite ?_ ?_ | with_reducible refine .dite (fun _ => ?_) (fun _ => ?_) | split

theorem part68 {v324 v353 v413 v419 v425 v431 v436} (h : Holds c R arg2 arg3 arg4 arg5 arg6 arg7 arg8 arg9 arg10 arg11 arg12 arg13 arg14 arg15 arg16 arg17 arg18 arg19 arg20) :
    Stays (defs₀ (F := F)) 𝒱 c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v413 v419 v425 v431 v436) := by
  rw [k0_part68_eq_skeleton]; unfold k0_part68_skel
  repeat' first
    | with_reducible exact .pure _ | with_reducible refine .bind ?_ fun _ => ?_
    | with_reducible refine .ite ?_ ?_ | with_reducible refine .dite (fun _ => ?_) (fun _ => ?_) | split

theorem part69 {v324 v353 v461 v467 v473 v479 v481 c1_i16_235} (h : Holds c R arg2 arg3 arg4 arg5 arg6 arg7 arg8 arg9 arg10 arg11 arg12 arg13 arg14 arg15 arg16 arg17 arg18 arg19 arg20) :
    Stays (defs₀ (F := F)) 𝒱 c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v461 v467 v473 v479 v481 c1_i16_235) := by
  rw [k0_part69_eq_skeleton]; unfold k0_part69_skel
  repeat' first
    | with_reducible exact .pure _ | with_reducible refine .bind ?_ fun _ => ?_
    | with_reducible refine .ite ?_ ?_ | with_reducible refine .dite (fun _ => ?_) (fun _ => ?_) | split

theorem part70 {v324 v353 v503 v509 v515 v521 v526} (h : Holds c R arg2 arg3 arg4 arg5 arg6 arg7 arg8 arg9 arg10 arg11 arg12 arg13 arg14 arg15 arg16 arg17 arg18 arg19 arg20) :
    Stays (defs₀ (F := F)) 𝒱 c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v503 v509 v515 v521 v526) := by
  rw [k0_part70_eq_skeleton]; unfold k0_part70_skel
  repeat' first
    | with_reducible exact .pure _ | with_reducible refine .bind ?_ fun _ => ?_
    | with_reducible refine .ite ?_ ?_ | with_reducible refine .dite (fun _ => ?_) (fun _ => ?_) | split

theorem part71 {v324 v353 v551 v557 v563 v569 v571 c1_i16_265} (h : Holds c R arg2 arg3 arg4 arg5 arg6 arg7 arg8 arg9 arg10 arg11 arg12 arg13 arg14 arg15 arg16 arg17 arg18 arg19 arg20) :
    Stays (defs₀ (F := F)) 𝒱 c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v551 v557 v563 v569 v571 c1_i16_265) := by
  rw [k0_part71_eq_skeleton]; unfold k0_part71_skel
  repeat' first
    | with_reducible exact .pure _ | with_reducible refine .bind ?_ fun _ => ?_
    | with_reducible refine .ite ?_ ?_ | with_reducible refine .dite (fun _ => ?_) (fun _ => ?_) | split

theorem part72 {v324 v353 v593 v599 v605 v611 v616} (h : Holds c R arg2 arg3 arg4 arg5 arg6 arg7 arg8 arg9 arg10 arg11 arg12 arg13 arg14 arg15 arg16 arg17 arg18 arg19 arg20) :
    Stays (defs₀ (F := F)) 𝒱 c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v593 v599 v605 v611 v616) := by
  rw [k0_part72_eq_skeleton]; unfold k0_part72_skel
  repeat' first
    | with_reducible exact .pure _ | with_reducible refine .bind ?_ fun _ => ?_
    | with_reducible refine .ite ?_ ?_ | with_reducible refine .dite (fun _ => ?_) (fun _ => ?_) | split

theorem part73 {v324 v353 v641 v647 v653 v659 v661 c1_i16_295} (h : Holds c R arg2 arg3 arg4 arg5 arg6 arg7 arg8 arg9 arg10 arg11 arg12 arg13 arg14 arg15 arg16 arg17 arg18 arg19 arg20) :
    Stays (defs₀ (F := F)) 𝒱 c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v324 v353 v641 v647 v653 v659 v661 c1_i16_295) := by
  rw [k0_part73_eq_skeleton]; unfold k0_part73_skel
  repeat' first
    | with_reducible exact .pure _ | with_reducible refine .bind ?_ fun _ => ?_
    | with_reducible refine .ite ?_ ?_ | with_reducible refine .dite (fun _ => ?_) (fun _ => ?_) | split

theorem t12_trip {v66 v74 v75 c0_i32_27 c1_i32_28 k0_t10 arg22 v330 k acc} (h : Holds c R arg2 arg3 arg4 arg5 arg6 arg7 arg8 arg9 arg10 arg11 arg12 arg13 arg14 arg15 arg16 arg17 arg18 arg19 arg20) :
    Stays (defs₀ (F := F)) 𝒱 c R (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 k0_t10 arg22 v330 k acc) := by
  unfold k0_t12_body
  repeat' first
    | with_reducible exact part66 h | with_reducible exact part67 h | with_reducible exact part68 h
    | with_reducible exact part69 h | with_reducible exact part70 h | with_reducible exact part71 h
    | with_reducible exact part72 h | with_reducible exact part73 h | with_reducible exact .pure _
    | with_reducible refine .bind ?_ fun _ => ?_ | with_reducible refine .ite ?_ ?_
    | with_reducible refine .dite (fun _ => ?_) (fun _ => ?_) | split

theorem t10_trip {v66 v74 v75 c0_i32_27 c1_i32_28 v88_0 v88_1 v88_2 v88_3 k acc} (h : Holds c R arg2 arg3 arg4 arg5 arg6 arg7 arg8 arg9 arg10 arg11 arg12 arg13 arg14 arg15 arg16 arg17 arg18 arg19 arg20) :
    Stays (defs₀ (F := F)) 𝒱 c R (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28 v88_0 v88_1 v88_2 v88_3 k acc) := by
  unfold k0_t10_body
  repeat' first
    | with_reducible exact t11_trip h | with_reducible exact t12_trip h | with_reducible exact .pure _
    | with_reducible refine .bind ?_ fun _ => ?_ | with_reducible refine .loop _ _ _ fun _ _ => ?_
    | with_reducible refine .ite ?_ ?_ | with_reducible refine .dite (fun _ => ?_) (fun _ => ?_) | split

theorem part88 {v66 v74 v75 c0_i32_27 c1_i32_28} (h : Holds c R arg2 arg3 arg4 arg5 arg6 arg7 arg8 arg9 arg10 arg11 arg12 arg13 arg14 arg15 arg16 arg17 arg18 arg19 arg20) :
    Stays (defs₀ (F := F)) 𝒱 c R (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v66 v74 v75 c0_i32_27 c1_i32_28) := by
  rw [k0_part88_eq_skeleton]; unfold k0_part88_skel
  repeat' first
    | with_reducible exact t3_trip h | with_reducible exact t6_trip h | with_reducible exact t7_trip h
    | with_reducible exact t8_trip h | with_reducible exact t9_trip h | with_reducible exact t10_trip h
    | with_reducible exact .pure _ | with_reducible refine .bind ?_ fun _ => ?_
    | with_reducible refine .loop _ _ _ fun _ _ => ?_ | with_reducible refine .ite ?_ ?_
    | with_reducible refine .dite (fun _ => ?_) (fun _ => ?_) | split

end Cert.Proof.Attn

end
-- ==== Proof.AttnB.lean ====
/-
  The attention kernel keeps its memrefs: the mask, the attention loop and the whole body.
-/
module

public import proofs.«01_k».proof.Proof.Gen.Kernel.Skeleton
public import proofs.«01_k».proof.Proof.AttnA

@[expose] public section

set_option maxRecDepth 16384

noncomputable section

namespace Cert.Proof.Attn

open Cert.Kernel Cert.Kernel.Gen Cert.Proof.Safe
open Idealize.ShloMosaic Idealize.ShloMosaic.TcCoe Idealize.ShloMosaic.Tactic
open Idealize.SL Idealize.SL.RA Idealize.SL.BI
open Idealize.SL.BI.BIBase Idealize.SL.BI.Laws Idealize.SL.Sem
open Idealize.ShloMosaic.Rounds

variable {F : FTy → Type} [BitOps F]

variable {c : Dev nD} {R : sProp (MT nD τ sig Unit (Elt F) ℕ (UR sig nD τ) ℕ)} {𝒱 : Variants} {i : grid0.Coords}
  {arg2 : Memref sig .tc .vmem S2048x128 .bf16} {harg2 : arg2.IsWhole}
  {arg3 : Memref sig .tc .vmem S1024x128 .bf16} {harg3 : arg3.IsWhole}
  {arg4 : Memref sig .tc .vmem S128x128 .f32} {harg4 : arg4.IsWhole}
  {arg5 : Memref sig .tc .vmem S8192x512 .bf16} {harg5 : arg5.IsWhole}
  {arg6 : Memref sig .tc .vmem S8192x128 .bf16} {harg6 : arg6.IsWhole}
  {arg7 : Memref sig .tc .vmem S512x8192 .bf16} {harg7 : arg7.IsWhole}
  {arg8 : Memref sig .tc .vmem S128x2048 .bf16} {harg8 : arg8.IsWhole}
  {arg9 : Memref sig .tc .vmem S8192x128 .i32} {harg9 : arg9.IsWhole}
  {arg10 : Memref sig .tc .vmem S8192x128 .i16} {harg10 : arg10.IsWhole}
  {arg11 : Memref sig .tc .vmem S8192x128 .i16} {harg11 : arg11.IsWhole}
  {arg12 : Memref sig .tc .vmem S4x144x8192 .bf16} {harg12 : arg12.IsWhole}
  {arg13 : Memref sig .tc .vmem S1x128 .i32} {harg13 : arg13.IsWhole}
  {arg14 : Memref sig .tc .vmem S4x128x512 .bf16} {harg14 : arg14.IsWhole}
  {arg15 : Memref sig .tc .vmem S4x1x512 .f32} {harg15 : arg15.IsWhole}
  {arg16 : Memref sig .tc .vmem S4x144x512 .f32} {harg16 : arg16.IsWhole}
  {arg17 : Memref sig .tc .vmem S4x512x512 .f32} {harg17 : arg17.IsWhole}
  {arg18 : Memref sig .tc .vmem S4x512x512 .f32} {harg18 : arg18.IsWhole}
  {arg19 : Memref sig .tc .vmem S4x1x512 .f32} {harg19 : arg19.IsWhole}
  {arg20 : Memref sig .tc .vmem S4x1x512 .f32} {harg20 : arg20.IsWhole}

theorem t13_trip {v20 v27 v110_1 v112 v114 k acc} (h : Holds c R arg2 arg3 arg4 arg5 arg6 arg7 arg8 arg9 arg10 arg11 arg12 arg13 arg14 arg15 arg16 arg17 arg18 arg19 arg20) :
    Stays (defs₀ (F := F)) 𝒱 c R (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 k acc) := by
  unfold k0_t13_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t14_trip {v20 v27 v110_1 v112 v114 k acc} (h : Holds c R arg2 arg3 arg4 arg5 arg6 arg7 arg8 arg9 arg10 arg11 arg12 arg13 arg14 arg15 arg16 arg17 arg18 arg19 arg20) :
    Stays (defs₀ (F := F)) 𝒱 c R (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 k acc) := by
  unfold k0_t14_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t16_trip {v20 v27 v110_1 v112 v114 k0_t15 arg22 k acc} (h : Holds c R arg2 arg3 arg4 arg5 arg6 arg7 arg8 arg9 arg10 arg11 arg12 arg13 arg14 arg15 arg16 arg17 arg18 arg19 arg20) :
    Stays (defs₀ (F := F)) 𝒱 c R (k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 k0_t15 arg22 k acc) := by
  unfold k0_t16_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t17_trip {v20 v27 v110_1 v112 v114 k0_t15 arg22 k acc} (h : Holds c R arg2 arg3 arg4 arg5 arg6 arg7 arg8 arg9 arg10 arg11 arg12 arg13 arg14 arg15 arg16 arg17 arg18 arg19 arg20) :
    Stays (defs₀ (F := F)) 𝒱 c R (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 k0_t15 arg22 k acc) := by
  unfold k0_t17_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t15_trip {v20 v27 v110_1 v112 v114 v325 k acc} (h : Holds c R arg2 arg3 arg4 arg5 arg6 arg7 arg8 arg9 arg10 arg11 arg12 arg13 arg14 arg15 arg16 arg17 arg18 arg19 arg20) :
    Stays (defs₀ (F := F)) 𝒱 c R (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 v325 k acc) := by
  unfold k0_t15_body
  repeat' first
    | with_reducible exact t16_trip h | with_reducible exact t17_trip h | with_reducible exact .pure _
    | with_reducible refine .bind ?_ fun _ => ?_ | with_reducible refine .loop _ _ _ fun _ _ => ?_
    | with_reducible refine .ite ?_ ?_ | with_reducible refine .dite (fun _ => ?_) (fun _ => ?_) | split

theorem t18_trip {v20 v27 v110_1 v112 v114 v133 k acc} (h : Holds c R arg2 arg3 arg4 arg5 arg6 arg7 arg8 arg9 arg10 arg11 arg12 arg13 arg14 arg15 arg16 arg17 arg18 arg19 arg20) :
    Stays (defs₀ (F := F)) 𝒱 c R (k0_t18_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 v133 k acc) := by
  unfold k0_t18_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem t19_trip {v20 v27 v110_1 v112 v114 v133 k acc} (h : Holds c R arg2 arg3 arg4 arg5 arg6 arg7 arg8 arg9 arg10 arg11 arg12 arg13 arg14 arg15 arg16 arg17 arg18 arg19 arg20) :
    Stays (defs₀ (F := F)) 𝒱 c R (k0_t19_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114 v133 k acc) := by
  unfold k0_t19_body
  repeat' first
    | with_reducible exact .load h.h9 | with_reducible exact .store h.h9 | with_reducible exact .pure _
    | with_reducible refine .bind ?_ fun _ => ?_ | with_reducible refine .ite ?_ ?_
    | with_reducible refine .dite (fun _ => ?_) (fun _ => ?_) | split

theorem part89 {v20 v27 v110_1 v112 v114} (h : Holds c R arg2 arg3 arg4 arg5 arg6 arg7 arg8 arg9 arg10 arg11 arg12 arg13 arg14 arg15 arg16 arg17 arg18 arg19 arg20) :
    Stays (defs₀ (F := F)) 𝒱 c R (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v27 v110_1 v112 v114) := by
  rw [k0_part89_eq_skeleton]; unfold k0_part89_skel
  repeat' first
    | with_reducible exact t13_trip h | with_reducible exact t14_trip h | with_reducible exact t15_trip h
    | with_reducible exact t18_trip h | with_reducible exact t19_trip h | with_reducible exact .load h.h2
    | with_reducible exact .store h.h2 | with_reducible exact .load h.h13 | with_reducible exact .store h.h13
    | with_reducible exact .load h.h14 | with_reducible exact .store h.h14 | with_reducible exact .pure _
    | with_reducible refine .bind ?_ fun _ => ?_ | with_reducible refine .loop _ _ _ fun _ _ => ?_
    | with_reducible refine .ite ?_ ?_ | with_reducible refine .dite (fun _ => ?_) (fun _ => ?_) | split

theorem part90 {v143 v144} (h : Holds c R arg2 arg3 arg4 arg5 arg6 arg7 arg8 arg9 arg10 arg11 arg12 arg13 arg14 arg15 arg16 arg17 arg18 arg19 arg20) :
    Stays (defs₀ (F := F)) 𝒱 c R (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v143 v144) := by
  rw [k0_part90_eq_skeleton]; unfold k0_part90_skel
  repeat' first
    | with_reducible exact .load h.h2 | with_reducible exact .store h.h2 | with_reducible exact .load h.h14
    | with_reducible exact .store h.h14 | with_reducible exact .load h.h15 | with_reducible exact .store h.h15
    | with_reducible exact .load h.h16 | with_reducible exact .store h.h16 | with_reducible exact .pure _
    | with_reducible refine .bind ?_ fun _ => ?_ | with_reducible refine .ite ?_ ?_
    | with_reducible refine .dite (fun _ => ?_) (fun _ => ?_) | split

theorem part91 (h : Holds c R arg2 arg3 arg4 arg5 arg6 arg7 arg8 arg9 arg10 arg11 arg12 arg13 arg14 arg15 arg16 arg17 arg18 arg19 arg20) :
    Stays (defs₀ (F := F)) 𝒱 c R (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part91_eq_skeleton]; unfold k0_part91_skel
  repeat' first
    | with_reducible exact .load h.h2 | with_reducible exact .store h.h2 | with_reducible exact .load h.h14
    | with_reducible exact .store h.h14 | with_reducible exact .load h.h15 | with_reducible exact .store h.h15
    | with_reducible exact .load h.h16 | with_reducible exact .store h.h16 | with_reducible exact .pure _
    | with_reducible refine .bind ?_ fun _ => ?_ | with_reducible refine .ite ?_ ?_
    | with_reducible refine .dite (fun _ => ?_) (fun _ => ?_) | split

theorem part92 {v20 v195} (h : Holds c R arg2 arg3 arg4 arg5 arg6 arg7 arg8 arg9 arg10 arg11 arg12 arg13 arg14 arg15 arg16 arg17 arg18 arg19 arg20) :
    Stays (defs₀ (F := F)) 𝒱 c R (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v195) := by
  rw [k0_part92_eq_skeleton]; unfold k0_part92_skel
  repeat' first
    | with_reducible exact .load h.h5 | with_reducible exact .store h.h5 | with_reducible exact .load h.h9
    | with_reducible exact .store h.h9 | with_reducible exact .load h.h14 | with_reducible exact .store h.h14
    | with_reducible exact .load h.h15 | with_reducible exact .store h.h15 | with_reducible exact .load h.h16
    | with_reducible exact .store h.h16 | with_reducible exact .load h.h17 | with_reducible exact .store h.h17
    | with_reducible exact .load h.h19 | with_reducible exact .store h.h19 | with_reducible exact .pure _
    | with_reducible refine .bind ?_ fun _ => ?_ | with_reducible refine .ite ?_ ?_
    | with_reducible refine .dite (fun _ => ?_) (fun _ => ?_) | split

theorem part74 {v20 c0_i32_134 c1_i32_136 k0_t20} (h : Holds c R arg2 arg3 arg4 arg5 arg6 arg7 arg8 arg9 arg10 arg11 arg12 arg13 arg14 arg15 arg16 arg17 arg18 arg19 arg20) :
    Stays (defs₀ (F := F)) 𝒱 c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 c0_i32_134 c1_i32_136 k0_t20) := by
  rw [k0_part74_eq_skeleton]; unfold k0_part74_skel
  repeat' first
    | with_reducible exact .load h.h5 | with_reducible exact .store h.h5 | with_reducible exact .load h.h9
    | with_reducible exact .store h.h9 | with_reducible exact .load h.h14 | with_reducible exact .store h.h14
    | with_reducible exact .load h.h15 | with_reducible exact .store h.h15 | with_reducible exact .load h.h17
    | with_reducible exact .store h.h17 | with_reducible exact .load h.h19 | with_reducible exact .store h.h19
    | with_reducible exact .pure _ | with_reducible refine .bind ?_ fun _ => ?_
    | with_reducible refine .ite ?_ ?_ | with_reducible refine .dite (fun _ => ?_) (fun _ => ?_) | split

theorem part75 {v20 k0_t20 arg21 v341 v343 v346 v348 v349} (h : Holds c R arg2 arg3 arg4 arg5 arg6 arg7 arg8 arg9 arg10 arg11 arg12 arg13 arg14 arg15 arg16 arg17 arg18 arg19 arg20) :
    Stays (defs₀ (F := F)) 𝒱 c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t20 arg21 v341 v343 v346 v348 v349) := by
  rw [k0_part75_eq_skeleton]; unfold k0_part75_skel
  repeat' first
    | with_reducible exact .load h.h5 | with_reducible exact .store h.h5 | with_reducible exact .load h.h9
    | with_reducible exact .store h.h9 | with_reducible exact .load h.h12 | with_reducible exact .store h.h12
    | with_reducible exact .load h.h14 | with_reducible exact .store h.h14 | with_reducible exact .load h.h15
    | with_reducible exact .store h.h15 | with_reducible exact .load h.h16 | with_reducible exact .store h.h16
    | with_reducible exact .load h.h17 | with_reducible exact .store h.h17 | with_reducible exact .pure _
    | with_reducible refine .bind ?_ fun _ => ?_ | with_reducible refine .ite ?_ ?_
    | with_reducible refine .dite (fun _ => ?_) (fun _ => ?_) | split

theorem part76 {k0_t20 arg21 v383 v384} (h : Holds c R arg2 arg3 arg4 arg5 arg6 arg7 arg8 arg9 arg10 arg11 arg12 arg13 arg14 arg15 arg16 arg17 arg18 arg19 arg20) :
    Stays (defs₀ (F := F)) 𝒱 c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t20 arg21 v383 v384) := by
  rw [k0_part76_eq_skeleton]; unfold k0_part76_skel
  repeat' first
    | with_reducible exact .load h.h12 | with_reducible exact .store h.h12 | with_reducible exact .load h.h15
    | with_reducible exact .store h.h15 | with_reducible exact .load h.h16 | with_reducible exact .store h.h16
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part77 {v20 k0_t20 arg21 v398} (h : Holds c R arg2 arg3 arg4 arg5 arg6 arg7 arg8 arg9 arg10 arg11 arg12 arg13 arg14 arg15 arg16 arg17 arg18 arg19 arg20) :
    Stays (defs₀ (F := F)) 𝒱 c R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t20 arg21 v398) := by
  rw [k0_part77_eq_skeleton]; unfold k0_part77_skel
  repeat' first
    | with_reducible exact .load h.h5 | with_reducible exact .store h.h5 | with_reducible exact .load h.h9
    | with_reducible exact .store h.h9 | with_reducible exact .load h.h14 | with_reducible exact .store h.h14
    | with_reducible exact .load h.h15 | with_reducible exact .store h.h15 | with_reducible exact .load h.h17
    | with_reducible exact .store h.h17 | with_reducible exact .load h.h19 | with_reducible exact .store h.h19
    | with_reducible exact .pure _ | with_reducible refine .bind ?_ fun _ => ?_
    | with_reducible refine .ite ?_ ?_ | with_reducible refine .dite (fun _ => ?_) (fun _ => ?_) | split

theorem part78 {k0_t20 arg21 v445 v447 v450} (h : Holds c R arg2 arg3 arg4 arg5 arg6 arg7 arg8 arg9 arg10 arg11 arg12 arg13 arg14 arg15 arg16 arg17 arg18 arg19 arg20) :
    Stays (defs₀ (F := F)) 𝒱 c R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t20 arg21 v445 v447 v450) := by
  rw [k0_part78_eq_skeleton]; unfold k0_part78_skel
  repeat' first
    | with_reducible exact .load h.h12 | with_reducible exact .store h.h12 | with_reducible exact .load h.h15
    | with_reducible exact .store h.h15 | with_reducible exact .load h.h16 | with_reducible exact .store h.h16
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part79 {v20 k0_t20 arg21 v475 v477 v480 v482 v483} (h : Holds c R arg2 arg3 arg4 arg5 arg6 arg7 arg8 arg9 arg10 arg11 arg12 arg13 arg14 arg15 arg16 arg17 arg18 arg19 arg20) :
    Stays (defs₀ (F := F)) 𝒱 c R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t20 arg21 v475 v477 v480 v482 v483) := by
  rw [k0_part79_eq_skeleton]; unfold k0_part79_skel
  repeat' first
    | with_reducible exact .load h.h5 | with_reducible exact .store h.h5 | with_reducible exact .load h.h9
    | with_reducible exact .store h.h9 | with_reducible exact .load h.h12 | with_reducible exact .store h.h12
    | with_reducible exact .load h.h14 | with_reducible exact .store h.h14 | with_reducible exact .load h.h15
    | with_reducible exact .store h.h15 | with_reducible exact .load h.h16 | with_reducible exact .store h.h16
    | with_reducible exact .pure _ | with_reducible refine .bind ?_ fun _ => ?_
    | with_reducible refine .ite ?_ ?_ | with_reducible refine .dite (fun _ => ?_) (fun _ => ?_) | split

theorem t20_trip {v20 c0_i32_134 v225 c1_i32_135 k acc} (h : Holds c R arg2 arg3 arg4 arg5 arg6 arg7 arg8 arg9 arg10 arg11 arg12 arg13 arg14 arg15 arg16 arg17 arg18 arg19 arg20) :
    Stays (defs₀ (F := F)) 𝒱 c R (k0_t20_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 c0_i32_134 v225 c1_i32_135 k acc) := by
  unfold k0_t20_body
  repeat' first
    | with_reducible exact part74 h | with_reducible exact part75 h | with_reducible exact part76 h
    | with_reducible exact part77 h | with_reducible exact part78 h | with_reducible exact part79 h
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part80 {v20 v229 c1_i32_137 k0_t21} (h : Holds c R arg2 arg3 arg4 arg5 arg6 arg7 arg8 arg9 arg10 arg11 arg12 arg13 arg14 arg15 arg16 arg17 arg18 arg19 arg20) :
    Stays (defs₀ (F := F)) 𝒱 c R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v229 c1_i32_137 k0_t21) := by
  rw [k0_part80_eq_skeleton]; unfold k0_part80_skel
  repeat' first
    | with_reducible exact .load h.h5 | with_reducible exact .store h.h5 | with_reducible exact .load h.h9
    | with_reducible exact .store h.h9 | with_reducible exact .load h.h14 | with_reducible exact .store h.h14
    | with_reducible exact .load h.h15 | with_reducible exact .store h.h15 | with_reducible exact .load h.h17
    | with_reducible exact .store h.h17 | with_reducible exact .load h.h19 | with_reducible exact .store h.h19
    | with_reducible exact .pure _ | with_reducible refine .bind ?_ fun _ => ?_
    | with_reducible refine .ite ?_ ?_ | with_reducible refine .dite (fun _ => ?_) (fun _ => ?_) | split

theorem part81 {v20 k0_t21 arg21 v341 v343 v346 v348 v349} (h : Holds c R arg2 arg3 arg4 arg5 arg6 arg7 arg8 arg9 arg10 arg11 arg12 arg13 arg14 arg15 arg16 arg17 arg18 arg19 arg20) :
    Stays (defs₀ (F := F)) 𝒱 c R (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t21 arg21 v341 v343 v346 v348 v349) := by
  rw [k0_part81_eq_skeleton]; unfold k0_part81_skel
  repeat' first
    | with_reducible exact .load h.h5 | with_reducible exact .store h.h5 | with_reducible exact .load h.h9
    | with_reducible exact .store h.h9 | with_reducible exact .load h.h12 | with_reducible exact .store h.h12
    | with_reducible exact .load h.h14 | with_reducible exact .store h.h14 | with_reducible exact .load h.h15
    | with_reducible exact .store h.h15 | with_reducible exact .load h.h16 | with_reducible exact .store h.h16
    | with_reducible exact .load h.h17 | with_reducible exact .store h.h17 | with_reducible exact .pure _
    | with_reducible refine .bind ?_ fun _ => ?_ | with_reducible refine .ite ?_ ?_
    | with_reducible refine .dite (fun _ => ?_) (fun _ => ?_) | split

theorem part82 {k0_t21 arg21 v383 v384} (h : Holds c R arg2 arg3 arg4 arg5 arg6 arg7 arg8 arg9 arg10 arg11 arg12 arg13 arg14 arg15 arg16 arg17 arg18 arg19 arg20) :
    Stays (defs₀ (F := F)) 𝒱 c R (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t21 arg21 v383 v384) := by
  rw [k0_part82_eq_skeleton]; unfold k0_part82_skel
  repeat' first
    | with_reducible exact .load h.h12 | with_reducible exact .store h.h12 | with_reducible exact .load h.h15
    | with_reducible exact .store h.h15 | with_reducible exact .load h.h16 | with_reducible exact .store h.h16
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part83 {v20 k0_t21 arg21 v398} (h : Holds c R arg2 arg3 arg4 arg5 arg6 arg7 arg8 arg9 arg10 arg11 arg12 arg13 arg14 arg15 arg16 arg17 arg18 arg19 arg20) :
    Stays (defs₀ (F := F)) 𝒱 c R (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t21 arg21 v398) := by
  rw [k0_part83_eq_skeleton]; unfold k0_part83_skel
  repeat' first
    | with_reducible exact .load h.h5 | with_reducible exact .store h.h5 | with_reducible exact .load h.h9
    | with_reducible exact .store h.h9 | with_reducible exact .load h.h14 | with_reducible exact .store h.h14
    | with_reducible exact .load h.h15 | with_reducible exact .store h.h15 | with_reducible exact .load h.h17
    | with_reducible exact .store h.h17 | with_reducible exact .load h.h19 | with_reducible exact .store h.h19
    | with_reducible exact .pure _ | with_reducible refine .bind ?_ fun _ => ?_
    | with_reducible refine .ite ?_ ?_ | with_reducible refine .dite (fun _ => ?_) (fun _ => ?_) | split

theorem part84 {k0_t21 arg21 v445 v447 v450} (h : Holds c R arg2 arg3 arg4 arg5 arg6 arg7 arg8 arg9 arg10 arg11 arg12 arg13 arg14 arg15 arg16 arg17 arg18 arg19 arg20) :
    Stays (defs₀ (F := F)) 𝒱 c R (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t21 arg21 v445 v447 v450) := by
  rw [k0_part84_eq_skeleton]; unfold k0_part84_skel
  repeat' first
    | with_reducible exact .load h.h12 | with_reducible exact .store h.h12 | with_reducible exact .load h.h15
    | with_reducible exact .store h.h15 | with_reducible exact .load h.h16 | with_reducible exact .store h.h16
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part85 {v20 k0_t21 arg21 v475 v477 v480 v482 v483} (h : Holds c R arg2 arg3 arg4 arg5 arg6 arg7 arg8 arg9 arg10 arg11 arg12 arg13 arg14 arg15 arg16 arg17 arg18 arg19 arg20) :
    Stays (defs₀ (F := F)) 𝒱 c R (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 k0_t21 arg21 v475 v477 v480 v482 v483) := by
  rw [k0_part85_eq_skeleton]; unfold k0_part85_skel
  repeat' first
    | with_reducible exact .load h.h5 | with_reducible exact .store h.h5 | with_reducible exact .load h.h9
    | with_reducible exact .store h.h9 | with_reducible exact .load h.h12 | with_reducible exact .store h.h12
    | with_reducible exact .load h.h14 | with_reducible exact .store h.h14 | with_reducible exact .load h.h15
    | with_reducible exact .store h.h15 | with_reducible exact .load h.h16 | with_reducible exact .store h.h16
    | with_reducible exact .pure _ | with_reducible refine .bind ?_ fun _ => ?_
    | with_reducible refine .ite ?_ ?_ | with_reducible refine .dite (fun _ => ?_) (fun _ => ?_) | split

theorem t21_trip {v20 c0_i32_134 v225 c1_i32_135 v229 k acc} (h : Holds c R arg2 arg3 arg4 arg5 arg6 arg7 arg8 arg9 arg10 arg11 arg12 arg13 arg14 arg15 arg16 arg17 arg18 arg19 arg20) :
    Stays (defs₀ (F := F)) 𝒱 c R (k0_t21_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 c0_i32_134 v225 c1_i32_135 v229 k acc) := by
  unfold k0_t21_body
  repeat' first
    | with_reducible exact part80 h | with_reducible exact part81 h | with_reducible exact part82 h
    | with_reducible exact part83 h | with_reducible exact part84 h | with_reducible exact part85 h
    | with_reducible exact .load h.h17 | with_reducible exact .store h.h17 | with_reducible exact .load h.h19
    | with_reducible exact .store h.h19 | with_reducible exact .pure _
    | with_reducible refine .bind ?_ fun _ => ?_ | with_reducible refine .ite ?_ ?_
    | with_reducible refine .dite (fun _ => ?_) (fun _ => ?_) | split

theorem part93 {v20 c0_i32_134 v225 c1_i32_135} (h : Holds c R arg2 arg3 arg4 arg5 arg6 arg7 arg8 arg9 arg10 arg11 arg12 arg13 arg14 arg15 arg16 arg17 arg18 arg19 arg20) :
    Stays (defs₀ (F := F)) 𝒱 c R (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 c0_i32_134 v225 c1_i32_135) := by
  rw [k0_part93_eq_skeleton]; unfold k0_part93_skel
  repeat' first
    | with_reducible exact t20_trip h | with_reducible exact t21_trip h | with_reducible exact .load h.h8
    | with_reducible exact .store h.h8 | with_reducible exact .load h.h16 | with_reducible exact .store h.h16
    | with_reducible exact .pure _ | with_reducible refine .bind ?_ fun _ => ?_
    | with_reducible refine .loop _ _ _ fun _ _ => ?_ | with_reducible refine .ite ?_ ?_
    | with_reducible refine .dite (fun _ => ?_) (fun _ => ?_) | split

theorem part94 {v257} (h : Holds c R arg2 arg3 arg4 arg5 arg6 arg7 arg8 arg9 arg10 arg11 arg12 arg13 arg14 arg15 arg16 arg17 arg18 arg19 arg20) :
    Stays (defs₀ (F := F)) 𝒱 c R (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v257) := by
  rw [k0_part94_eq_skeleton]; unfold k0_part94_skel
  repeat' first
    | with_reducible exact .load h.h8 | with_reducible exact .store h.h8 | with_reducible exact .load h.h16
    | with_reducible exact .store h.h16 | with_reducible exact .pure _
    | with_reducible refine .bind ?_ fun _ => ?_ | with_reducible refine .ite ?_ ?_
    | with_reducible refine .dite (fun _ => ?_) (fun _ => ?_) | split

theorem body (h : Holds c R arg2 arg3 arg4 arg5 arg6 arg7 arg8 arg9 arg10 arg11 arg12 arg13 arg14 arg15 arg16 arg17 arg18 arg19 arg20) :
    Stays (defs₀ (F := F)) 𝒱 c R (cc0_sparse_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [cc0_sparse_attn_eq_skeleton]; unfold cc0_sparse_attn_skel
  repeat' first
    | with_reducible exact part86 h | with_reducible exact part87 h | with_reducible exact part88 h
    | with_reducible exact part89 h | with_reducible exact part90 h | with_reducible exact part91 h
    | with_reducible exact part92 h | with_reducible exact part93 h | with_reducible exact part94 h
    | with_reducible exact .load h.h8 | with_reducible exact .store h.h8 | with_reducible exact .load h.h16
    | with_reducible exact .store h.h16 | with_reducible exact .pure _
    | with_reducible refine .bind ?_ fun _ => ?_ | with_reducible refine .ite ?_ ?_
    | with_reducible refine .dite (fun _ => ?_) (fun _ => ?_) | split

end Cert.Proof.Attn

end
-- ==== Proof.AttnFrame.lean ====
/-
  The frame of the sparse attention call: from any memory it runs to its end on every core, every input array ends as
  it was, and every semaphore counter is at zero. The proof data says nothing of what the body leaves in a buffer (`after`
  is the relation that always holds): the body obligation is that the kernel keeps the assertion that it holds its
  nineteen memrefs (`Proof/AttnB.lean` `body`), whatever their contents.
-/
module

public import proofs.«01_k».proof.Defs
public import proofs.«01_k».proof.Proof.AttnB
public import proofs.«01_k».proof.Proof.Gen.Kernel.Frame

@[expose] public section

set_option maxRecDepth 16384

noncomputable section

namespace Cert.Proof.Attn

open Cert.Kernel Cert.Kernel.Gen Cert.Proof.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: the arrays as the region finds them; of what the body leaves in a staging buffer nothing is said; the
    scratch at any contents throughout. -/
def rdats (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- The seven staging buffers of point `t`, each held at some contents. -/
def stages (c : Dev nD) (t : Fin cfg0.N) : sProp 𝕄 :=
  iprop(Held (F := F) c ((cfg0.win 0).stage (cfg0.slots t 0)) ∗ Held (F := F) c ((cfg0.win 1).stage (cfg0.slots t 1)) ∗ Held (F := F) c ((cfg0.win 2).stage (cfg0.slots t 2)) ∗ Held (F := F) c ((cfg0.win 3).stage (cfg0.slots t 3)) ∗ Held (F := F) c ((cfg0.win 4).stage (cfg0.slots t 4)) ∗ Held (F := F) c ((cfg0.win 5).stage (cfg0.slots t 5)) ∗ Held (F := F) c ((cfg0.win 6).stage (cfg0.slots t 6)))

/-- The twelve scratch buffers, each held at some contents. -/
def scratch (c : Dev nD) : sProp 𝕄 :=
  iprop(Held (F := F) c (Memref.whole cc0_scratch0) ∗ Held (F := F) c (Memref.whole cc0_scratch1) ∗ Held (F := F) c (Memref.whole cc0_scratch2) ∗ Held (F := F) c (Memref.whole cc0_scratch3) ∗ Held (F := F) c (Memref.whole cc0_scratch4) ∗ Held (F := F) c (Memref.whole cc0_scratch5) ∗ Held (F := F) c (Memref.whole cc0_scratch6) ∗ Held (F := F) c (Memref.whole cc0_scratch7) ∗ Held (F := F) c (Memref.whole cc0_scratch8) ∗ Held (F := F) c (Memref.whole cc0_scratch9) ∗ Held (F := F) c (Memref.whole cc0_scratch10) ∗ Held (F := F) c (Memref.whole cc0_scratch11))

theorem held_whole (c : Dev nD) (b : Ref sig .tc) :
    (Held (F := F) c (Memref.whole b) : sProp 𝕄) = iprop(∃ f : Buf (Elt F) ((c : Thread nD τ).loc b), ((c : Thread nD τ).loc b) ↦{fullShare} f) := by
  unfold Held
  rw [Memref.view_whole, View.set_whole]

theorem scratch_eq (c : Dev nD) :
    (Pipeline.scopedRest (Ix := Unit) (Name := ℕ) (U := UR sig nD τ) (Lvl := ℕ) (Val := Elt F) spec0 c : sProp 𝕄) = scratch c := by
  rw [Gen.scopedRest0_eq]
  unfold scratch
  simp only [held_whole]

theorem sound_body (c : Dev nD) (t : Fin cfg0.N) :
    Stays (defs₀ (F := F)) Variants.none c iprop(stages (F := F) c t ∗ scratch c) (defs₀ (F := F) .tc cfg0.body (cfg0.bodyArgs t (cfg0.slots t))) := by
  unfold defs₀
  rw [Defs.onTc_tc]
  unfold stages scratch
  exact body ⟨(.left .head), (.left (.tail .head)), (.left (.tail (.tail .head))), (.left (.tail (.tail (.tail .head)))), (.left (.tail (.tail (.tail (.tail .head))))), (.left (.tail (.tail (.tail (.tail (.tail .head)))))), (.left (.tail (.tail (.tail (.tail (.tail (.tail .self))))))), (.tail .head), (.tail (.tail .head)), (.tail (.tail (.tail .head))), (.tail (.tail (.tail (.tail .head)))), (.tail (.tail (.tail (.tail (.tail .head))))), (.tail (.tail (.tail (.tail (.tail (.tail .head)))))), (.tail (.tail (.tail (.tail (.tail (.tail (.tail .head))))))), (.tail (.tail (.tail (.tail (.tail (.tail (.tail (.tail .head)))))))), (.tail (.tail (.tail (.tail (.tail (.tail (.tail (.tail (.tail .head))))))))), (.tail (.tail (.tail (.tail (.tail (.tail (.tail (.tail (.tail (.tail .head)))))))))), (.tail (.tail (.tail (.tail (.tail (.tail (.tail (.tail (.tail (.tail (.tail .head))))))))))), (.tail (.tail (.tail (.tail (.tail (.tail (.tail (.tail (.tail (.tail (.tail (.tail .self))))))))))))⟩

theorem share_eq (c : Dev nD) (w : Fin cfg0.W) : (rdats m c).share w = fullShare := by
  unfold RDat.share
  split <;> rfl

/-- The staging buffers as the pipeline hands them over, at contents it names. -/
theorem stages_of_owns (c : Dev nD) (t : Fin cfg0.N) (Y : (w : Fin cfg0.W) → (cfg0.win w).block.Idx → Elt F (cfg0.win w).elt) :
    (bigSep Finset.univ (fun w : Fin cfg0.W => owns (c.tc : Thread nD τ) ((cfg0.win w).stage (cfg0.slots t w)) fullShare (Y w)) : sProp 𝕄)
      ⊢ stages (F := F) c t := by
  unfold stages
  refine BIBase.Entails.trans (bigSep_mono (fun w _ => held_of_owns (F := F) ((cfg0.win w).stage (cfg0.slots t w)) (Y w))) ?_
  rw [Gen.bigSep_W0]

/-- and handed back, at whatever they hold. -/
theorem owns_of_stages (c : Dev nD) (t : Fin cfg0.N) (Y : (w : Fin cfg0.W) → (cfg0.win w).block.Idx → Elt F (cfg0.win w).elt) :
    stages (F := F) c t ⊢ (bigSep Finset.univ (fun w : Fin cfg0.W =>
      iprop(∃ X, ⌜(rdats m c).after w t (Y w) X⌝ ∗ owns (c.tc : Thread nD τ) ((cfg0.win w).stage (cfg0.slots t w)) fullShare X)) : sProp 𝕄) := by
  unfold stages
  refine BIBase.Entails.trans ?_ (bigSep_mono (fun w _ => owns_of_held (F := F) ((cfg0.win w).stage (cfg0.slots t w))))
  rw [Gen.bigSep_W0]

theorem body_obligation (c : Dev nD) : (rdats m c).BodyObligation defs₀ Variants.none () Set.univ := by
  intro t Y _
  have hS := sound_body (F := F) c t
  unfold Stays at hS
  have hφ : ∀ u, (rdats m c).Φ u = Pipeline.ΦA spec0 c := fun _ => rfl
  rw [hφ, hφ]
  unfold Pipeline.ΦA
  rw [scratch_eq]
  have ho : (rdats m c).owesAt () t.succ = (rdats m c).owesAt () t.castSucc := rfl
  rw [ho]
  have hin := stages_of_owns (F := F) c t Y
  have hout := owns_of_stages m c t Y
  refine BIBase.Entails.trans (Q := iprop((stages (F := F) c t ∗ scratch c) ∗ ((∃ r, prngReg c r) ∗ (rdats m c).owesAt () t.castSucc))) ?_ ?_
  · iintro ⟨⟨Hs, Hp⟩, Ho, Hw⟩
    isplitr [Hp Ho]
    · isplitr [Hs]
      · iapply hin
        iexact Hw
      · iexact Hs
    · isplitl [Hp] <;> iassumption
  · refine (sep_mono_left hS).trans ((wp_frame_r _ _ _).trans (wp_mono _ _ _ fun _ => ?_))
    iintro ⟨⟨Hw, Hs⟩, Hp, Ho⟩
    isplitl [Hs Hp]
    · isplitl [Hs] <;> iassumption
    · isplitl [Ho]
      · iexact Ho
      · iapply hout
        iexact Hw

/-- The run, with the counters. -/
theorem run_main : θ_run defs (onTc (τ := τ) (main (F := F))) (s₀ m ρ)
    (fun r => RDat.FramePost (cfgs 0) (rdats m) (Gen.V m) r ∧ r.2.sem = fun _ => 0) :=
  Pipeline.RDat.θ_run_frame cfgs 0 Gen.launch0 defs₀ Variants.none (rdats m) m ρ main (body_obligation m) (share_eq m) (fun _ _ => rfl)
    (Gen.V m) (Gen.hmain m Variants.none) (fun _ _ => rfl) (fun _ _ => rfl) _ (fun _ h => h)

/-- The frame claim. -/
theorem frame_kernel : Cert.quiescent_Kernel := fun m ρ _ =>
  (θ_run defs _ _).mono (fun r h => ⟨fun c =>
    ⟨RDat.FramePost.arr_in h.1 c 0 rfl, RDat.FramePost.arr_in h.1 c 1 rfl, RDat.FramePost.arr_in h.1 c 2 rfl,
     RDat.FramePost.arr_in h.1 c 3 rfl, RDat.FramePost.arr_in h.1 c 4 rfl, RDat.FramePost.arr_in h.1 c 5 rfl⟩, h.2⟩) (run_main (F := Bits) m ρ)

end Cert.Proof.Attn

end
-- ==== Proof.GateUpRun.lean ====
/-
  The body of the gate-up call, run once on arbitrary staging buffers: at a point whose second coordinate is zero it first
  fills its scratch with the normalised rows, at any other it finds the scratch as it was left; then it stores the gated
  product. The two runs give what each buffer ends with; the frame follows from them at any float values.
-/
module

public import proofs.«01_k».proof.Defs
public import proofs.«01_k».proof.Proof.Gen.Kernel2Ideal.Frame
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.GateUp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F]

local notation "𝕄" => MT nD τ sig Unit (Elt F) ℕ (UR sig nD τ) ℕ

/-- The point is the first of its row of blocks: its second coordinate is zero. -/
abbrev first (i : grid0.Coords) : Prop :=
  (Scalar.cmpi .ne (Scalar.extui (Scalar.cmpi .eq (BitVec.ofNat 32 (i 1).val) 0#32)) 0#32) = 1#1

theorem first_iff (t : Fin cfg0.N) : first (grid0.coords t) ↔ t.val % 22 = 0 := by
  have ht : t.val < 704 := Nat.lt_of_lt_of_eq t.isLt N_0
  have e1 : (grid0.coords t 1).val = t.val / 1 % 22 := Pipeline.Grid.coords_val t 1 (by decide) rfl
  simp only [first, e1]
  word_cmp

set_option maxHeartbeats 1000000 in
/-- The body at a first point: the scratch, at anything before, ends with one store in it, and so does the result's buffer. -/
def runFirst (c : Dev nD) (i : grid0.Coords) (a2 : Memref sig .tc .vmem S512x4096 .f32) (h2 : a2.IsWhole) (a3 : Memref sig .tc .vmem S1x4096 .f32) (h3 : a3.IsWhole)
    (a4 : Memref sig .tc .vmem S4096x512 .bf16) (h4 : a4.IsWhole) (a5 : Memref sig .tc .vmem S4096x512 .bf16) (h5 : a5.IsWhole)
    (a6 : Memref sig .tc .vmem S512x512 .bf16) (h6 : a6.IsWhole) (a7 : Memref sig .tc .vmem S512x4096 .bf16) (h7 : a7.IsWhole) (hc : first i)
    (x0 : Vec F S512x4096 .f32) (x1 : Vec F S1x4096 .f32) (x2 : Vec F S4096x512 .bf16) (x3 : Vec F S4096x512 .bf16) :
    Σ' (L : List (View.Piece (Elt F) S512x512 .bf16)), { LS : List (View.Piece (Elt F) S512x4096 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3
                ∗ (∃ f, a6.view.loc (c : Thread nD τ) ↦[a6.view.set]{fullShare} a6.view.writes (Elt F) f L)
                ∗ (∃ f, a7.view.loc (c : Thread nD τ) ↦[a7.view.set]{fullShare} a7.view.writes (Elt F) f LS)) -∗ K ⟨⟩))
          ⊢ wp frame (wpE (defs₀ (F := F)) Variants.none c none) E (cc0_ffn_gateup i a2 h2 a3 h3 a4 h4 a5 h5 a6 h6 a7 h7) K } := by
  refine ⟨?_, ?_, fun E K => ?run⟩
  case run =>
    simp only [cc0_ffn_gateup_eq_skeleton]; unfold cc0_ffn_gateup_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := h2.eq_unread hf0; obtain rfl := h3.eq_unread hf1; obtain rfl := h4.eq_unread hf2; obtain rfl := h5.eq_unread hf3
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; iexact HS0

set_option maxHeartbeats 1000000 in
/-- The body at any other point: the scratch is read and left as found. -/
def runLater (c : Dev nD) (i : grid0.Coords) (a2 : Memref sig .tc .vmem S512x4096 .f32) (h2 : a2.IsWhole) (a3 : Memref sig .tc .vmem S1x4096 .f32) (h3 : a3.IsWhole)
    (a4 : Memref sig .tc .vmem S4096x512 .bf16) (h4 : a4.IsWhole) (a5 : Memref sig .tc .vmem S4096x512 .bf16) (h5 : a5.IsWhole)
    (a6 : Memref sig .tc .vmem S512x512 .bf16) (h6 : a6.IsWhole) (a7 : Memref sig .tc .vmem S512x4096 .bf16) (h7 : a7.IsWhole) (hc : ¬first i)
    (x0 : Vec F S512x4096 .f32) (x1 : Vec F S1x4096 .f32) (x2 : Vec F S4096x512 .bf16) (x3 : Vec F S4096x512 .bf16) (xs : Vec F S512x4096 .bf16) :
    { L : List (View.Piece (Elt F) S512x512 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3
                ∗ (∃ f, a6.view.loc (c : Thread nD τ) ↦[a6.view.set]{fullShare} a6.view.writes (Elt F) f L)
                ∗ owns (c : Thread nD τ) a7 fullShare xs) -∗ K ⟨⟩))
          ⊢ wp frame (wpE (defs₀ (F := F)) Variants.none c none) E (cc0_ffn_gateup i a2 h2 a3 h3 a4 h4 a5 h5 a6 h6 a7 h7) K } := by
  refine ⟨?_, fun E K => ?run⟩
  case run =>
    simp only [cc0_ffn_gateup_eq_skeleton]; unfold cc0_ffn_gateup_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := h2.eq_unread hf0; obtain rfl := h3.eq_unread hf1; obtain rfl := h4.eq_unread hf2; obtain rfl := h5.eq_unread hf3
    obtain rfl := h7.eq_unread hfs0
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; isplitr; · ipureintro; exact h7.read_unread _
    iexact HS0

end Cert.Proof.GateUp

end
-- ==== Proof.GateUpFrame.lean ====
/-
  The frame of the gate/up call, at any float values: from any memory it runs to its end on every core, every argument
  array ends as it was, and every semaphore counter is at zero. First the body's two cases are restated with the contents
  of its buffers (`stepFirst`, `stepLater`): a first point leaves the normalised rows in the scratch and the gated product
  of those rows in the result's buffer, any other point the gated product of the rows the scratch holds. The frame then says
  nothing of what is left in a buffer (`after` is the relation that always holds).
-/
module

public import proofs.«01_k».proof.Defs
public import proofs.«01_k».proof.Proof.GateUpRun
public import Idealize.ShloMosaic.Lib.VecWindow
public import Idealize.ShloMosaic.Lib.Pipeline.ValueKit

@[expose] public section

set_option maxRecDepth 16384

noncomputable section

namespace Cert.Proof.GateUp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F]

local notation "𝕄" => MT nD τ sig Unit (Elt F) ℕ (UR sig nD τ) ℕ

section Step

variable (c : Dev nD) (i : grid0.Coords) (a2 : Memref sig .tc .vmem S512x4096 .f32) (h2 : a2.IsWhole) (a3 : Memref sig .tc .vmem S1x4096 .f32) (h3 : a3.IsWhole)
    (a4 : Memref sig .tc .vmem S4096x512 .bf16) (h4 : a4.IsWhole) (a5 : Memref sig .tc .vmem S4096x512 .bf16) (h5 : a5.IsWhole)
    (a6 : Memref sig .tc .vmem S512x512 .bf16) (h6 : a6.IsWhole) (a7 : Memref sig .tc .vmem S512x4096 .bf16) (h7 : a7.IsWhole)
    (x0 : Vec F S512x4096 .f32) (x1 : Vec F S1x4096 .f32) (x2 : Vec F S4096x512 .bf16) (x3 : Vec F S4096x512 .bf16) (xs : Vec F S512x4096 .bf16)

/-- A whole buffer holding `x`, loaded at its own sizes, gives `x`. -/
theorem load_whole {s : Shape} {e : EltTy} (a : Memref sig .tc .vmem s e) (h : a.IsWhole) (x : Vec F s e) {off : Fin s.rank → ℕ}
    (inb : ∀ k, off k + s.size k ≤ s.size k) :
    a.view.readAt (Elt F) (Rect.unit off s.size inb).toLoadRect (h.unread x) = x :=
  (View.readAt_full a.view _ inb).trans (h.read_unread x)

theorem scratch_first (hc : first i) (f) :
    a7.view.read (Elt F) (a7.view.writes (Elt F) f (runFirst c i a2 h2 a3 h3 a4 h4 a5 h5 a6 h6 a7 h7 hc x0 x1 x2 x3).2.1) = k0_pay1 x0 x1 :=
  (View.read_writes_full a7.view f inb_S512x4096_S512x4096_0_0 _ []).trans
    (congrArg₂ k0_pay1 (load_whole a2 h2 x0 inb_S512x4096_S512x4096_0_0) (load_whole a3 h3 x1 inb_S1x4096_S1x4096_0_0))

theorem result_first (hc : first i) (f) :
    a6.view.read (Elt F) (a6.view.writes (Elt F) f (runFirst c i a2 h2 a3 h3 a4 h4 a5 h5 a6 h6 a7 h7 hc x0 x1 x2 x3).1) = k0_pay2 (k0_pay1 x0 x1) x2 x3 := by
  refine (View.read_writes_full a6.view f inb_S512x512_S512x512_0_0 _ []).trans ?_
  rw [load_whole a4 h4 x2 inb_S4096x512_S4096x512_0_0, load_whole a5 h5 x3 inb_S4096x512_S4096x512_0_0]
  refine congrArg (fun h => k0_pay2 h x2 x3) ?_
  unfold runFirst.sl.v3 runFirst.sl.HS0_1
  refine (View.readCov_full a7.view inb_S512x4096_S512x4096_0_0 inb_S512x4096_S512x4096_0_0 _ []).trans ?_
  exact congrArg₂ k0_pay1 (load_whole a2 h2 x0 inb_S512x4096_S512x4096_0_0) (load_whole a3 h3 x1 inb_S1x4096_S1x4096_0_0)

theorem result_later (hc : ¬first i) (f) :
    a6.view.read (Elt F) (a6.view.writes (Elt F) f (runLater c i a2 h2 a3 h3 a4 h4 a5 h5 a6 h6 a7 h7 hc x0 x1 x2 x3 xs).1) = k0_pay2 xs x2 x3 := by
  refine (View.read_writes_full a6.view f inb_S512x512_S512x512_0_0 _ []).trans ?_
  rw [load_whole a4 h4 x2 inb_S4096x512_S4096x512_0_0, load_whole a5 h5 x3 inb_S4096x512_S4096x512_0_0]
  exact congrArg (fun h => k0_pay2 h x2 x3) (load_whole a7 h7 xs inb_S512x4096_S512x4096_0_0)

/-- A first point: the scratch ends at the normalised rows, the result's buffer at their gated product. -/
theorem stepFirst (hc : first i) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (k0_pay2 (k0_pay1 x0 x1) x2 x3)
            ∗ owns (c : Thread nD τ) a7 fullShare (k0_pay1 x0 x1)) -∗ K ⟨⟩))
      ⊢ wp frame (wpE (defs₀ (F := F)) Variants.none c none) E (cc0_ffn_gateup i a2 h2 a3 h3 a4 h4 a5 h5 a6 h6 a7 h7) K := by
  iintro ⟨H0, H1, H2, H3, H4, HS, Hk⟩
  iapply ((runFirst c i a2 h2 a3 h3 a4 h4 a5 h5 a6 h6 a7 h7 hc x0 x1 x2 x3).2.2 E K)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%f4, H4⟩, ⟨%fs, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact result_first c i a2 h2 a3 h3 a4 h4 a5 h5 a6 h6 a7 h7 x0 x1 x2 x3 hc f4
  · unfold owns; iexists _; isplitr
    swap; · iexact HS
    ipureintro; exact scratch_first c i a2 h2 a3 h3 a4 h4 a5 h5 a6 h6 a7 h7 x0 x1 x2 x3 hc fs

/-- Any other point: the scratch is left as found, the result's buffer ends at the gated product of its rows. -/
theorem stepLater (hc : ¬first i) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ owns (c : Thread nD τ) a7 fullShare xs
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (k0_pay2 xs x2 x3)
            ∗ owns (c : Thread nD τ) a7 fullShare xs) -∗ K ⟨⟩))
      ⊢ wp frame (wpE (defs₀ (F := F)) Variants.none c none) E (cc0_ffn_gateup i a2 h2 a3 h3 a4 h4 a5 h5 a6 h6 a7 h7) K := by
  iintro ⟨H0, H1, H2, H3, H4, HS, Hk⟩
  iapply ((runLater c i a2 h2 a3 h3 a4 h4 a5 h5 a6 h6 a7 h7 hc x0 x1 x2 x3 xs).2 E K)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%f4, H4⟩, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact result_later c i a2 h2 a3 h3 a4 h4 a5 h5 a6 h6 a7 h7 x0 x1 x2 x3 xs hc f4
  · iexact HS

end Step

variable (m : (ℓ : Loc nD τ sig) → Buf (Elt F) ℓ) (ρ : Dev nD → PrngReg)

/-- The proof data: the arrays as the region finds them; of what the body leaves in a staging buffer nothing is said; the
    scratch at any contents throughout. -/
def rdats (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- The scratch at any contents, and the generator register at some state. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

theorem share_eq (c : Dev nD) (w : Fin cfg0.W) : (rdats m c).share w = fullShare := by
  unfold RDat.share
  split <;> rfl

/-- The body table's row at a point's slots is the body. -/
theorem row (t : Fin cfg0.N) : defs₀ (F := F) .tc cfg0.body (cfg0.bodyArgs t (cfg0.slots t)) = bodyAt0 t := by
  unfold defs₀; rw [Defs.onTc_tc]

theorem body_obligation (c : Dev nD) : (rdats m c).BodyObligation defs₀ Variants.none () Set.univ := by
  intro t Y _
  rw [bigSep_W0, bigSep_W0, row]
  have hφ : ∀ u, (rdats m c).Φ u = Pipeline.ΦA spec0 c := fun _ => rfl
  rw [hφ, hφ, PhiA_eq]
  rw [show (rdats m c).owesAt () t.succ = (rdats m c).owesAt () t.castSucc from rfl]
  unfold bodyAt0
  by_cases h : first (grid0.coords t)
  · iintro ⟨⟨HS, Hg⟩, Ho, H0, H1, H2, H3, H4⟩
    iapply (stepFirst c (grid0.coords t) _ _ _ _ _ _ _ _ _ _ _ _ (Y 0) (Y 1) (Y 2) (Y 3) h Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    iexists (k0_pay2 (k0_pay1 (Y 0) (Y 1)) (Y 2) (Y 3)); isplitr; · ipureintro; trivial
    iexact H4
  · iintro ⟨⟨⟨%xs, HS⟩, Hg⟩, Ho, H0, H1, H2, H3, H4⟩
    iapply (stepLater c (grid0.coords t) _ _ _ _ _ _ _ _ _ _ _ _ (Y 0) (Y 1) (Y 2) (Y 3) xs h Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    iexists (k0_pay2 xs (Y 2) (Y 3)); isplitr; · ipureintro; trivial
    iexact H4

/-- The run, with the counters. -/
theorem run_main : θ_run defs (onTc (τ := τ) (main (F := F))) (s₀ m ρ)
    (fun r => RDat.FramePost (cfgs 0) (rdats m) (Gen.V m) r ∧ r.2.sem = fun _ => 0) :=
  Pipeline.RDat.θ_run_frame cfgs 0 Gen.launch0 defs₀ Variants.none (rdats m) m ρ main (body_obligation m) (share_eq m) (fun _ _ => rfl)
    (Gen.V m) (Gen.hmain m Variants.none) (fun _ _ => rfl) (fun _ _ => rfl) _ (fun _ h => h)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩, h.2⟩) (run_main m ρ)

end Cert.Proof.GateUp

end
-- ==== Proof.InProjRun.lean ====
/-
  The body of the input projection's call, run once on arbitrary staging buffers. The second grid coordinate chooses what a
  point stores: at the first the scratch is filled with the normalised rows and the index keys and weights are stored, at the first
  two the queries, at the third the keys and values, at the fourth the index queries, at the last two the pooled channels.
  Each run gives what the buffers it stores into end with, as lists of stores.
-/
module

public import proofs.«01_k».proof.Defs
public import proofs.«01_k».proof.Proof.Gen.Kernel7Ideal.Frame
public import proofs.«01_k».proof.Proof.Gen.Kernel7Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F]

local notation "𝕄" => MT nD τ sig Unit (Elt F) ℕ (UR sig nD τ) ℕ

set_option maxHeartbeats 4000000 in
/-- The body at a first point: the scratch ends with the normalised rows, and the queries, index keys and index weights are stored. -/
def run0 (c : Dev nD) (i : grid0.Coords) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : k0_cond1 i = 1#1) (c2 : k0_cond2 i = 1#1) (c3 : ¬ k0_cond3 i = 1#1) (c4 : ¬ k0_cond4 i = 1#1) (c5 : ¬ k0_cond5 i = 1#1)
    (x2 : Vec F S1x4096 .f32) (x3 : Vec F S4096x1024 .bf16) (x4 : Vec F S4096x256 .bf16) (x6 : Vec F S3x512x128 .f32) (x7 : Vec F S2x16x512 .f32) (x9 : Vec F S512x4096 .f32) :
    Σ' (L10 : List (View.Piece (Elt F) S1024x512 .bf16)), Σ' (L14 : List (View.Piece (Elt F) S512x128 .bf16)), Σ' (L15 : List (View.Piece (Elt F) S128x512 .f32)), { L17 : List (View.Piece (Elt F) S512x4096 .bf16) //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a6 fullShare x6 ∗ owns (c : Thread nD τ) a7 fullShare x7 ∗ owns (c : Thread nD τ) a9 fullShare x9 ∗ (∃ d, owns (c : Thread nD τ) a10 fullShare d) ∗ (∃ d, owns (c : Thread nD τ) a14 fullShare d) ∗ (∃ d, owns (c : Thread nD τ) a15 fullShare d) ∗ (∃ d, owns (c : Thread nD τ) a17 fullShare d)
            ∗ (iprop(owns (c : Thread nD τ) a2 fullShare x2 ∗ owns (c : Thread nD τ) a3 fullShare x3 ∗ owns (c : Thread nD τ) a4 fullShare x4 ∗ owns (c : Thread nD τ) a6 fullShare x6 ∗ owns (c : Thread nD τ) a7 fullShare x7 ∗ owns (c : Thread nD τ) a9 fullShare x9 ∗ (∃ f, a10.view.loc (c : Thread nD τ) ↦[a10.view.set]{fullShare} a10.view.writes (Elt F) f L10) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a17.view.loc (c : Thread nD τ) ↦[a17.view.set]{fullShare} a17.view.writes (Elt F) f L17)) -∗ K ⟨⟩))
          ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton]; unfold k0_part1_skel k0_part2_skel k0_part3_skel k0_part4_skel k0_part5_skel
    unfold owns
    iintro ⟨⟨%f2, %hf2, H2⟩, ⟨%f3, %hf3, H3⟩, ⟨%f4, %hf4, H4⟩, ⟨%f6, %hf6, H6⟩, ⟨%f7, %hf7, H7⟩, ⟨%f9, %hf9, H9⟩, ⟨%d10, %f10, -, H10⟩, ⟨%d14, %f14, -, H14⟩, ⟨%d15, %f15, -, H15⟩, ⟨%d17, %f17, -, H17⟩, Hk⟩
    obtain rfl := h2.eq_unread hf2; obtain rfl := h3.eq_unread hf3; obtain rfl := h4.eq_unread hf4; obtain rfl := h6.eq_unread hf6; obtain rfl := h7.eq_unread hf7; obtain rfl := h9.eq_unread hf9
    sl_exec (disch := first | sl_exact c1 | sl_exact c2 | sl_exact c3 | sl_exact c4 | sl_exact c5)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H6]
    · iexists _; isplitr; · ipureintro; exact h6.read_unread _
      iexact H6
    isplitl [H7]
    · iexists _; isplitr; · ipureintro; exact h7.read_unread _
      iexact H7
    isplitl [H9]
    · iexists _; isplitr; · ipureintro; exact h9.read_unread _
      iexact H9
    isplitl [H10]
    · iexists _; iexact H10
    isplitl [H14]
    · iexists _; iexact H14
    isplitl [H15]
    · iexists _; iexact H15
    iexists _; iexact H17

set_option maxHeartbeats 4000000 in
/-- The body at a second point: the queries are stored. -/
def run1 (c : Dev nD) (i : grid0.Coords) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : k0_cond2 i = 1#1) (c3 : ¬ k0_cond3 i = 1#1) (c4 : ¬ k0_cond4 i = 1#1) (c5 : ¬ k0_cond5 i = 1#1)
    (x3 : Vec F S4096x1024 .bf16) (x7 : Vec F S2x16x512 .f32) (x17 : Vec F S512x4096 .bf16) :
    { L10 : List (View.Piece (Elt F) S1024x512 .bf16) //
      ∀ (E : Set ℕ) (K : PUnit → sProp 𝕄),
        iprop(owns (c : Thread nD τ) a3 fullShare x3 ∗ owns (c : Thread nD τ) a7 fullShare x7 ∗ owns (c : Thread nD τ) a17 fullShare x17 ∗ (∃ d, owns (c : Thread nD τ) a10 fullShare d)
            ∗ (iprop(owns (c : Thread nD τ) a3 fullShare x3 ∗ owns (c : Thread nD τ) a7 fullShare x7 ∗ owns (c : Thread nD τ) a17 fullShare x17 ∗ (∃ f, a10.view.loc (c : Thread nD τ) ↦[a10.view.set]{fullShare} a10.view.writes (Elt F) f L10)) -∗ K ⟨⟩))
          ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17) K } := by
  refine ⟨?_, fun E K => ?run⟩
  case run =>
    simp only [cc0_inproj_eq_skeleton]; unfold cc0_inproj_skel
    simp only [k0_part2_eq_skeleton, k0_part3_eq_skeleton, k0_part4_eq_skeleton, k0_part5_eq_skeleton]; unfold k0_part2_skel k0_part3_skel k0_part4_skel k0_part5_skel
    unfold owns
    iintro ⟨⟨%f3, %hf3, H3⟩, ⟨%f7, %hf7, H7⟩, ⟨%f17, %hf17, H17⟩, ⟨%d10, %f10, -, H10⟩, Hk⟩
    obtain rfl := h3.eq_unread hf3; obtain rfl := h7.eq_unread hf7; obtain rfl := h17.eq_unread hf17
    sl_exec (disch := first | sl_exact c1 | sl_exact c2 | sl_exact c3 | sl_exact c4 | sl_exact c5)
    sl_step
    iapply Hk
    isplitl [H3]
    · iexists _; isplitr; · ipureintro; exact h3.read_unread _
      iexact H3
    isplitl [H7]
    · iexists _; isplitr; · ipureintro; exact h7.read_unread _
      iexact H7
    isplitl [H17]
    · iexists _; isplitr; · ipureintro; exact h17.read_unread _
      iexact H17
    iexists _; iexact H10

set_option maxHeartbeats 4000000 in
/-- The body at a third point: the keys and the values are stored. -/
def run2 (c : Dev nD) (i : grid0.Coords) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : k0_cond3 i = 1#1) (c4 : ¬ k0_cond4 i = 1#1) (c5 : ¬ k0_cond5 i = 1#1)
    (x3 : Vec F S4096x1024 .bf16) (x5 : Vec F S3x512x128 .f32) (x17 : Vec F S512x4096 .bf16) :
    Σ' (L11 : List (View.Piece (Elt F) S512x512 .bf16)), { L12 : List (View.Piece (Elt F) S512x512 .bf16) //
      ∀ (E : Set ℕ) (K : PUnit → sProp 𝕄),
        iprop(owns (c : Thread nD τ) a3 fullShare x3 ∗ owns (c : Thread nD τ) a5 fullShare x5 ∗ owns (c : Thread nD τ) a17 fullShare x17 ∗ (∃ d, owns (c : Thread nD τ) a11 fullShare d) ∗ (∃ d, owns (c : Thread nD τ) a12 fullShare d)
            ∗ (iprop(owns (c : Thread nD τ) a3 fullShare x3 ∗ owns (c : Thread nD τ) a5 fullShare x5 ∗ owns (c : Thread nD τ) a17 fullShare x17 ∗ (∃ f, a11.view.loc (c : Thread nD τ) ↦[a11.view.set]{fullShare} a11.view.writes (Elt F) f L11) ∗ (∃ f, a12.view.loc (c : Thread nD τ) ↦[a12.view.set]{fullShare} a12.view.writes (Elt F) f L12)) -∗ K ⟨⟩))
          ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17) K } := by
  refine ⟨?_, ?_, fun E K => ?run⟩
  case run =>
    simp only [cc0_inproj_eq_skeleton]; unfold cc0_inproj_skel
    simp only [k0_part6_eq_skeleton, k0_part7_eq_skeleton]; unfold k0_part6_skel k0_part7_skel
    unfold owns
    iintro ⟨⟨%f3, %hf3, H3⟩, ⟨%f5, %hf5, H5⟩, ⟨%f17, %hf17, H17⟩, ⟨%d11, %f11, -, H11⟩, ⟨%d12, %f12, -, H12⟩, Hk⟩
    obtain rfl := h3.eq_unread hf3; obtain rfl := h5.eq_unread hf5; obtain rfl := h17.eq_unread hf17
    sl_exec (disch := first | sl_exact c1 | sl_exact c2 | sl_exact c3 | sl_exact c4 | sl_exact c5)
    sl_step
    iapply Hk
    isplitl [H3]
    · iexists _; isplitr; · ipureintro; exact h3.read_unread _
      iexact H3
    isplitl [H5]
    · iexists _; isplitr; · ipureintro; exact h5.read_unread _
      iexact H5
    isplitl [H17]
    · iexists _; isplitr; · ipureintro; exact h17.read_unread _
      iexact H17
    isplitl [H11]
    · iexists _; iexact H11
    iexists _; iexact H12

set_option maxHeartbeats 4000000 in
/-- The body at a fourth point: the index queries are stored. -/
def run3 (c : Dev nD) (i : grid0.Coords) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : ¬ k0_cond3 i = 1#1) (c4 : k0_cond4 i = 1#1) (c5 : ¬ k0_cond5 i = 1#1)
    (x3 : Vec F S4096x1024 .bf16) (x8 : Vec F S2x8x512 .f32) (x17 : Vec F S512x4096 .bf16) :
    { L13 : List (View.Piece (Elt F) S1024x512 .bf16) //
      ∀ (E : Set ℕ) (K : PUnit → sProp 𝕄),
        iprop(owns (c : Thread nD τ) a3 fullShare x3 ∗ owns (c : Thread nD τ) a8 fullShare x8 ∗ owns (c : Thread nD τ) a17 fullShare x17 ∗ (∃ d, owns (c : Thread nD τ) a13 fullShare d)
            ∗ (iprop(owns (c : Thread nD τ) a3 fullShare x3 ∗ owns (c : Thread nD τ) a8 fullShare x8 ∗ owns (c : Thread nD τ) a17 fullShare x17 ∗ (∃ f, a13.view.loc (c : Thread nD τ) ↦[a13.view.set]{fullShare} a13.view.writes (Elt F) f L13)) -∗ K ⟨⟩))
          ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17) K } := by
  refine ⟨?_, fun E K => ?run⟩
  case run =>
    simp only [cc0_inproj_eq_skeleton]; unfold cc0_inproj_skel
    simp only [k0_part8_eq_skeleton, k0_part9_eq_skeleton, k0_part10_eq_skeleton, k0_part11_eq_skeleton]; unfold k0_part8_skel k0_part9_skel k0_part10_skel k0_part11_skel
    unfold owns
    iintro ⟨⟨%f3, %hf3, H3⟩, ⟨%f8, %hf8, H8⟩, ⟨%f17, %hf17, H17⟩, ⟨%d13, %f13, -, H13⟩, Hk⟩
    obtain rfl := h3.eq_unread hf3; obtain rfl := h8.eq_unread hf8; obtain rfl := h17.eq_unread hf17
    sl_exec (disch := first | sl_exact c1 | sl_exact c2 | sl_exact c3 | sl_exact c4 | sl_exact c5)
    sl_step
    iapply Hk
    isplitl [H3]
    · iexists _; isplitr; · ipureintro; exact h3.read_unread _
      iexact H3
    isplitl [H8]
    · iexists _; isplitr; · ipureintro; exact h8.read_unread _
      iexact H8
    isplitl [H17]
    · iexists _; isplitr; · ipureintro; exact h17.read_unread _
      iexact H17
    iexists _; iexact H13

set_option maxHeartbeats 4000000 in
/-- The body at a fifth or sixth point: the pooled channels are stored. -/
def run4 (c : Dev nD) (i : grid0.Coords) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : ¬ k0_cond3 i = 1#1) (c4 : ¬ k0_cond4 i = 1#1) (c5 : k0_cond5 i = 1#1)
    (x3 : Vec F S4096x1024 .bf16) (x17 : Vec F S512x4096 .bf16) :
    { L16 : List (View.Piece (Elt F) S512x1024 .f32) //
      ∀ (E : Set ℕ) (K : PUnit → sProp 𝕄),
        iprop(owns (c : Thread nD τ) a3 fullShare x3 ∗ owns (c : Thread nD τ) a17 fullShare x17 ∗ (∃ d, owns (c : Thread nD τ) a16 fullShare d)
            ∗ (iprop(owns (c : Thread nD τ) a3 fullShare x3 ∗ owns (c : Thread nD τ) a17 fullShare x17 ∗ (∃ f, a16.view.loc (c : Thread nD τ) ↦[a16.view.set]{fullShare} a16.view.writes (Elt F) f L16)) -∗ K ⟨⟩))
          ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17) K } := by
  refine ⟨?_, fun E K => ?run⟩
  case run =>
    simp only [cc0_inproj_eq_skeleton]; unfold cc0_inproj_skel
    unfold owns
    iintro ⟨⟨%f3, %hf3, H3⟩, ⟨%f17, %hf17, H17⟩, ⟨%d16, %f16, -, H16⟩, Hk⟩
    obtain rfl := h3.eq_unread hf3; obtain rfl := h17.eq_unread hf17
    sl_exec (disch := first | sl_exact c1 | sl_exact c2 | sl_exact c3 | sl_exact c4 | sl_exact c5)
    sl_step
    iapply Hk
    isplitl [H3]
    · iexists _; isplitr; · ipureintro; exact h3.read_unread _
      iexact H3
    isplitl [H17]
    · iexists _; isplitr; · ipureintro; exact h17.read_unread _
      iexact H17
    iexists _; iexact H16

end Cert.Proof.InProj

end
-- ==== Proof.InProjFrame.lean ====
/-
  The frame of the input projection's call, at any float values: from any memory it runs to its end on every core, every argument
  array ends as it was, and every semaphore counter is at zero. Nothing is said of what is left in a buffer (`after` is the relation
  that always holds).
-/
module

public import proofs.«01_k».proof.Defs
public import proofs.«01_k».proof.Proof.InProjRun
public import Idealize.ShloMosaic.Lib.VecWindow
public import Idealize.ShloMosaic.Lib.Pipeline.ValueKit

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F]

local notation "𝕄" => MT nD τ sig Unit (Elt F) ℕ (UR sig nD τ) ℕ

/-- Which of the body's five cases a point is. -/
theorem cases : ∀ t : Fin cfg0.N, (k0_cond1 (grid0.coords t) = 1#1 ↔ t.val % 6 = 0) ∧ (k0_cond2 (grid0.coords t) = 1#1 ↔ t.val % 6 ≤ 1)
    ∧ (k0_cond3 (grid0.coords t) = 1#1 ↔ t.val % 6 = 2) ∧ (k0_cond4 (grid0.coords t) = 1#1 ↔ t.val % 6 = 3)
    ∧ (k0_cond5 (grid0.coords t) = 1#1 ↔ 4 ≤ t.val % 6) :=
  (by decide +kernel : ∀ t : Fin grid0.N, _)

/-- A buffer that a list of stores was made into holds what they leave; what is known of that is known of the buffer. -/
theorem stored (c : Dev nD) {s : Shape} {e : EltTy} (a : Memref sig .tc .vmem s e) (L : List (View.Piece (Elt F) s e)) (P : Vec F s e → Prop)
    (hP : ∀ f, P (a.view.read (Elt F) (a.view.writes (Elt F) f L))) :
    (iprop(∃ f, a.view.loc (c : Thread nD τ) ↦[a.view.set]{fullShare} a.view.writes (Elt F) f L) : sProp 𝕄)
      ⊢ iprop(∃ X, ⌜P X⌝ ∗ owns (c : Thread nD τ) a fullShare X) := by
  iintro ⟨%f, H⟩
  iexists (a.view.read (Elt F) (a.view.writes (Elt F) f L))
  isplitr
  · ipureintro; exact hP f
  · unfold owns; iexists _; isplitr
    swap; · iexact H
    ipureintro; rfl

variable (m : (ℓ : Loc nD τ sig) → Buf (Elt F) ℓ) (ρ : Dev nD → PrngReg)

/-- The proof data: the arrays as the region finds them; of what the body leaves in a staging buffer nothing is said; the
    scratch at any contents throughout. -/
def rdats (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- The scratch at any contents, and the generator register at some state. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

theorem share_eq (c : Dev nD) (w : Fin cfg0.W) : (rdats m c).share w = fullShare := by
  unfold RDat.share
  split <;> rfl

/-- The body table's row at a point's slots is the body. -/
theorem row (t : Fin cfg0.N) : defs₀ (F := F) .tc cfg0.body (cfg0.bodyArgs t (cfg0.slots t)) = bodyAt0 t := by
  unfold defs₀; rw [Defs.onTc_tc]

/-- The scratch after a list of stores. -/
theorem scratch_any (c : Dev nD) (L : List (View.Piece (Elt F) S512x4096 .bf16)) :
    (iprop(∃ f, (Memref.whole cc0_scratch0).view.loc (c : Thread nD τ) ↦[(Memref.whole cc0_scratch0).view.set]{fullShare} (Memref.whole cc0_scratch0).view.writes (Elt F) f L) : sProp 𝕄)
      ⊢ iprop(∃ d, owns (c : Thread nD τ) (Memref.whole cc0_scratch0) fullShare d) := by
  iintro H
  icases (stored (F := F) c (Memref.whole cc0_scratch0) L (fun _ => True) (fun _ => trivial)) $$ H with ⟨%X, -, H⟩
  iexists X; iexact H

theorem body_obligation (c : Dev nD) : (rdats m c).BodyObligation defs₀ Variants.none () Set.univ := by
  intro t Y _
  rw [bigSep_W0, bigSep_W0, row]
  have hφ : ∀ u, (rdats m c).Φ u = Pipeline.ΦA spec0 c := fun _ => rfl
  rw [hφ, hφ, PhiA_eq]
  rw [show (rdats m c).owesAt () t.succ = (rdats m c).owesAt () t.castSucc from rfl]
  unfold bodyAt0
  have h := cases t
  obtain hj | hj | hj | hj | hj : t.val % 6 = 0 ∨ t.val % 6 = 1 ∨ t.val % 6 = 2 ∨ t.val % 6 = 3 ∨ 4 ≤ t.val % 6 := by omega
  · iintro ⟨⟨⟨%xs, HS⟩, Hg⟩, Ho, H0, H1, H2, H3, H4, H5, H6, H7, H8, H9, H10, H11, H12, H13, H14⟩
    iapply ((run0 (F := F) c (grid0.coords t) _ _ _ _ _ _ _ _ _ _ _ _ _ _ _ _ _ _ _ _ _ _ _ _ _ _ _ _ _ _ _ _ (h.1.mpr (by omega)) (h.2.1.mpr (by omega)) (fun e => absurd (h.2.2.1.mp e) (by omega)) (fun e => absurd (h.2.2.2.1.mp e) (by omega)) (fun e => absurd (h.2.2.2.2.mp e) (by omega)) (Y 0) (Y 1) (Y 2) (Y 4) (Y 5) (Y 7)).2.2.2.2 Set.univ _)
    isplitl [H0]; · iexact H0
    isplitl [H1]; · iexact H1
    isplitl [H2]; · iexact H2
    isplitl [H4]; · iexact H4
    isplitl [H5]; · iexact H5
    isplitl [H7]; · iexact H7
    isplitl [H8]; · iexists _; iexact H8
    isplitl [H12]; · iexists _; iexact H12
    isplitl [H13]; · iexists _; iexact H13
    isplitl [HS]; · iexists _; iexact HS
    iintro ⟨H0, H1, H2, H4, H5, H7, H8, H12, H13, HS⟩
    isplitl [HS Hg]
    · isplitl [HS]
      · iapply (scratch_any (F := F) c _); iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iapply (stored (F := F) c (stage0_8 (cfg0.slots t 8)) _ (fun X => (rdats m c).after 8 t (Y 8) X) (fun _ => trivial)); iexact H8
    isplitl [H9]
    · iexists (Y 9); isplitr; · ipureintro; trivial
      iexact H9
    isplitl [H10]
    · iexists (Y 10); isplitr; · ipureintro; trivial
      iexact H10
    isplitl [H11]
    · iexists (Y 11); isplitr; · ipureintro; trivial
      iexact H11
    isplitl [H12]
    · iapply (stored (F := F) c (stage0_12 (cfg0.slots t 12)) _ (fun X => (rdats m c).after 12 t (Y 12) X) (fun _ => trivial)); iexact H12
    isplitl [H13]
    · iapply (stored (F := F) c (stage0_13 (cfg0.slots t 13)) _ (fun X => (rdats m c).after 13 t (Y 13) X) (fun _ => trivial)); iexact H13
    iexists (Y 14); isplitr; · ipureintro; trivial
    iexact H14
  · iintro ⟨⟨⟨%xs, HS⟩, Hg⟩, Ho, H0, H1, H2, H3, H4, H5, H6, H7, H8, H9, H10, H11, H12, H13, H14⟩
    iapply ((run1 (F := F) c (grid0.coords t) _ _ _ _ _ _ _ _ _ _ _ _ _ _ _ _ _ _ _ _ _ _ _ _ _ _ _ _ _ _ _ _ (fun e => absurd (h.1.mp e) (by omega)) (h.2.1.mpr (by omega)) (fun e => absurd (h.2.2.1.mp e) (by omega)) (fun e => absurd (h.2.2.2.1.mp e) (by omega)) (fun e => absurd (h.2.2.2.2.mp e) (by omega)) (Y 1) (Y 5) xs).2 Set.univ _)
    isplitl [H1]; · iexact H1
    isplitl [H5]; · iexact H5
    isplitl [HS]; · iexact HS
    isplitl [H8]; · iexists _; iexact H8
    iintro ⟨H1, H5, HS, H8⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iapply (stored (F := F) c (stage0_8 (cfg0.slots t 8)) _ (fun X => (rdats m c).after 8 t (Y 8) X) (fun _ => trivial)); iexact H8
    isplitl [H9]
    · iexists (Y 9); isplitr; · ipureintro; trivial
      iexact H9
    isplitl [H10]
    · iexists (Y 10); isplitr; · ipureintro; trivial
      iexact H10
    isplitl [H11]
    · iexists (Y 11); isplitr; · ipureintro; trivial
      iexact H11
    isplitl [H12]
    · iexists (Y 12); isplitr; · ipureintro; trivial
      iexact H12
    isplitl [H13]
    · iexists (Y 13); isplitr; · ipureintro; trivial
      iexact H13
    iexists (Y 14); isplitr; · ipureintro; trivial
    iexact H14
  · iintro ⟨⟨⟨%xs, HS⟩, Hg⟩, Ho, H0, H1, H2, H3, H4, H5, H6, H7, H8, H9, H10, H11, H12, H13, H14⟩
    iapply ((run2 (F := F) c (grid0.coords t) _ _ _ _ _ _ _ _ _ _ _ _ _ _ _ _ _ _ _ _ _ _ _ _ _ _ _ _ _ _ _ _ (fun e => absurd (h.1.mp e) (by omega)) (fun e => absurd (h.2.1.mp e) (by omega)) (h.2.2.1.mpr (by omega)) (fun e => absurd (h.2.2.2.1.mp e) (by omega)) (fun e => absurd (h.2.2.2.2.mp e) (by omega)) (Y 1) (Y 3) xs).2.2 Set.univ _)
    isplitl [H1]; · iexact H1
    isplitl [H3]; · iexact H3
    isplitl [HS]; · iexact HS
    isplitl [H9]; · iexists _; iexact H9
    isplitl [H10]; · iexists _; iexact H10
    iintro ⟨H1, H3, HS, H9, H10⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iexists (Y 8); isplitr; · ipureintro; trivial
      iexact H8
    isplitl [H9]
    · iapply (stored (F := F) c (stage0_9 (cfg0.slots t 9)) _ (fun X => (rdats m c).after 9 t (Y 9) X) (fun _ => trivial)); iexact H9
    isplitl [H10]
    · iapply (stored (F := F) c (stage0_10 (cfg0.slots t 10)) _ (fun X => (rdats m c).after 10 t (Y 10) X) (fun _ => trivial)); iexact H10
    isplitl [H11]
    · iexists (Y 11); isplitr; · ipureintro; trivial
      iexact H11
    isplitl [H12]
    · iexists (Y 12); isplitr; · ipureintro; trivial
      iexact H12
    isplitl [H13]
    · iexists (Y 13); isplitr; · ipureintro; trivial
      iexact H13
    iexists (Y 14); isplitr; · ipureintro; trivial
    iexact H14
  · iintro ⟨⟨⟨%xs, HS⟩, Hg⟩, Ho, H0, H1, H2, H3, H4, H5, H6, H7, H8, H9, H10, H11, H12, H13, H14⟩
    iapply ((run3 (F := F) c (grid0.coords t) _ _ _ _ _ _ _ _ _ _ _ _ _ _ _ _ _ _ _ _ _ _ _ _ _ _ _ _ _ _ _ _ (fun e => absurd (h.1.mp e) (by omega)) (fun e => absurd (h.2.1.mp e) (by omega)) (fun e => absurd (h.2.2.1.mp e) (by omega)) (h.2.2.2.1.mpr (by omega)) (fun e => absurd (h.2.2.2.2.mp e) (by omega)) (Y 1) (Y 6) xs).2 Set.univ _)
    isplitl [H1]; · iexact H1
    isplitl [H6]; · iexact H6
    isplitl [HS]; · iexact HS
    isplitl [H11]; · iexists _; iexact H11
    iintro ⟨H1, H6, HS, H11⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iexists (Y 8); isplitr; · ipureintro; trivial
      iexact H8
    isplitl [H9]
    · iexists (Y 9); isplitr; · ipureintro; trivial
      iexact H9
    isplitl [H10]
    · iexists (Y 10); isplitr; · ipureintro; trivial
      iexact H10
    isplitl [H11]
    · iapply (stored (F := F) c (stage0_11 (cfg0.slots t 11)) _ (fun X => (rdats m c).after 11 t (Y 11) X) (fun _ => trivial)); iexact H11
    isplitl [H12]
    · iexists (Y 12); isplitr; · ipureintro; trivial
      iexact H12
    isplitl [H13]
    · iexists (Y 13); isplitr; · ipureintro; trivial
      iexact H13
    iexists (Y 14); isplitr; · ipureintro; trivial
    iexact H14
  · iintro ⟨⟨⟨%xs, HS⟩, Hg⟩, Ho, H0, H1, H2, H3, H4, H5, H6, H7, H8, H9, H10, H11, H12, H13, H14⟩
    iapply ((run4 (F := F) c (grid0.coords t) _ _ _ _ _ _ _ _ _ _ _ _ _ _ _ _ _ _ _ _ _ _ _ _ _ _ _ _ _ _ _ _ (fun e => absurd (h.1.mp e) (by omega)) (fun e => absurd (h.2.1.mp e) (by omega)) (fun e => absurd (h.2.2.1.mp e) (by omega)) (fun e => absurd (h.2.2.2.1.mp e) (by omega)) (h.2.2.2.2.mpr (by omega)) (Y 1) xs).2 Set.univ _)
    isplitl [H1]; · iexact H1
    isplitl [HS]; · iexact HS
    isplitl [H14]; · iexists _; iexact H14
    iintro ⟨H1, HS, H14⟩
    isplitl [HS Hg]
    · isplitl [HS]
      · iexists _; iexact HS
      · iexact Hg
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iexists (Y 8); isplitr; · ipureintro; trivial
      iexact H8
    isplitl [H9]
    · iexists (Y 9); isplitr; · ipureintro; trivial
      iexact H9
    isplitl [H10]
    · iexists (Y 10); isplitr; · ipureintro; trivial
      iexact H10
    isplitl [H11]
    · iexists (Y 11); isplitr; · ipureintro; trivial
      iexact H11
    isplitl [H12]
    · iexists (Y 12); isplitr; · ipureintro; trivial
      iexact H12
    isplitl [H13]
    · iexists (Y 13); isplitr; · ipureintro; trivial
      iexact H13
    iapply (stored (F := F) c (stage0_14 (cfg0.slots t 14)) _ (fun X => (rdats m c).after 14 t (Y 14) X) (fun _ => trivial)); iexact H14

/-- The run, with the counters. -/
theorem run_main : θ_run defs (onTc (τ := τ) (main (F := F))) (s₀ m ρ)
    (fun r => RDat.FramePost (cfgs 0) (rdats m) (Gen.V m) r ∧ r.2.sem = fun _ => 0) :=
  Pipeline.RDat.θ_run_frame cfgs 0 Gen.launch0 defs₀ Variants.none (rdats m) m ρ main (body_obligation m) (share_eq m) (fun _ _ => rfl)
    (Gen.V m) (Gen.hmain m Variants.none) (fun _ _ => rfl) (fun _ _ => rfl) _ (fun _ h => h)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩, h.2⟩) (run_main m ρ)

end Cert.Proof.InProj

end
-- ==== Proof.Frames.lean ====
/-
  The frames of the calls whose pipeline is a plain one: from any memory they run to their end on every core, every
  argument ends as it was, and every semaphore counter is at zero. One run serves both readings of the numbers.
-/
module

public import proofs.«01_k».proof.Defs
public import proofs.«01_k».proof.Proof.Gen.Kernel2
public import proofs.«01_k».proof.Proof.GateUpFrame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel7
public import proofs.«01_k».proof.Proof.InProjFrame

@[expose] public section

set_option maxRecDepth 16384

noncomputable section

namespace Cert.Proof.Frames

open Idealize.ShloMosaic Idealize.ShloMosaic.TcCoe Idealize.SL.Sem

/-- The two readings of the program have the same body table. -/
theorem gateUp_defs {F : FTy → Type} [FloatOps F] : Cert.Kernel2.defs (F := F) = Cert.Kernel2Ideal.defs (F := F) :=
  congrArg (Pipeline.defs (Cert.Kernel2Ideal.pcfgs (F := F))) (congrArg Defs.onTc (funext fun l => funext fun a => match l, a with
    | 0, (t, s) => rfl
    | ⟨_ + 1, h⟩, _ => absurd h (Nat.not_lt.2 (Nat.le_add_left _ _))))

/-- The gate and up products, over bit patterns. -/
theorem gateUp : Cert.quiescent_Kernel2 := by
  intro m ρ _
  rw [gateUp_defs]
  exact Cert.Proof.GateUp.frame (F := Bits) m ρ

/-- The gate and up products, over extended reals. -/
theorem gateUpIdeal : Cert.quiescent_Kernel2Ideal := fun m ρ _ => Cert.Proof.GateUp.frame (F := Ideal) m ρ

/-- The two readings of the program have the same body table. -/
theorem down_defs {F : FTy → Type} [FloatOps F] : Cert.Kernel3.defs (F := F) = Cert.Kernel3Ideal.defs (F := F) :=
  congrArg (Pipeline.defs (Cert.Kernel3Ideal.pcfgs (F := F))) (congrArg Defs.onTc (funext fun l => funext fun a => match l, a with
    | 0, (t, s) => rfl
    | ⟨_ + 1, h⟩, _ => absurd h (Nat.not_lt.2 (Nat.le_add_left _ _))))

/-- The down projection, over bit patterns. -/
theorem down : Cert.quiescent_Kernel3 := by
  intro m ρ _
  rw [down_defs]
  exact Cert.Kernel3Ideal.Gen.frame (F := Bits) m ρ

/-- The down projection, over extended reals. -/
theorem downIdeal : Cert.quiescent_Kernel3Ideal := fun m ρ _ => Cert.Kernel3Ideal.Gen.frame (F := Ideal) m ρ

/-- The two readings of the program have the same body table. -/
theorem outProj_defs {F : FTy → Type} [FloatOps F] : Cert.Kernel4.defs (F := F) = Cert.Kernel4Ideal.defs (F := F) :=
  congrArg (Pipeline.defs (Cert.Kernel4Ideal.pcfgs (F := F))) (congrArg Defs.onTc (funext fun l => funext fun a => match l, a with
    | 0, (t, s) => rfl
    | ⟨_ + 1, h⟩, _ => absurd h (Nat.not_lt.2 (Nat.le_add_left _ _))))

/-- The output projection, over bit patterns. -/
theorem outProj : Cert.quiescent_Kernel4 := by
  intro m ρ _
  rw [outProj_defs]
  exact Cert.Kernel4Ideal.Gen.frame (F := Bits) m ρ

/-- The output projection, over extended reals. -/
theorem outProjIdeal : Cert.quiescent_Kernel4Ideal := fun m ρ _ => Cert.Kernel4Ideal.Gen.frame (F := Ideal) m ρ

/-- The two readings of the program have the same body table. -/
theorem finalNorm_defs {F : FTy → Type} [FloatOps F] : Cert.Kernel5.defs (F := F) = Cert.Kernel5Ideal.defs (F := F) :=
  congrArg (Pipeline.defs (Cert.Kernel5Ideal.pcfgs (F := F))) (congrArg Defs.onTc (funext fun l => funext fun a => match l, a with
    | 0, (t, s) => rfl
    | ⟨_ + 1, h⟩, _ => absurd h (Nat.not_lt.2 (Nat.le_add_left _ _))))

/-- The final normalisation, over bit patterns. -/
theorem finalNorm : Cert.quiescent_Kernel5 := by
  intro m ρ _
  rw [finalNorm_defs]
  exact Cert.Kernel5Ideal.Gen.frame (F := Bits) m ρ

/-- The final normalisation, over extended reals. -/
theorem finalNormIdeal : Cert.quiescent_Kernel5Ideal := fun m ρ _ => Cert.Kernel5Ideal.Gen.frame (F := Ideal) m ρ

/-- The two readings of the program have the same body table. -/
theorem inProj_defs {F : FTy → Type} [FloatOps F] : Cert.Kernel7.defs (F := F) = Cert.Kernel7Ideal.defs (F := F) :=
  congrArg (Pipeline.defs (Cert.Kernel7Ideal.pcfgs (F := F))) (congrArg Defs.onTc (funext fun l => funext fun a => match l, a with
    | 0, (t, s) => rfl
    | ⟨_ + 1, h⟩, _ => absurd h (Nat.not_lt.2 (Nat.le_add_left _ _))))

set_option maxHeartbeats 4000000 in
/-- The input projection, over bit patterns. -/
theorem inProj : Cert.quiescent_Kernel7 := by
  intro m ρ _
  rw [inProj_defs]
  exact Cert.Proof.InProj.frame (F := Bits) m ρ

/-- The input projection, over extended reals. -/
theorem inProjIdeal : Cert.quiescent_Kernel7Ideal := fun m ρ _ => Cert.Proof.InProj.frame (F := Ideal) m ρ

end Cert.Proof.Frames

end
-- ==== Proof.GateUpPoint.lean ====
/-
  The values of the gate/up call over extended reals. The scratch holds a block of normalised rows for the twenty-two
  points that share it; each point leaves the gated product of those rows with its block of columns of the two weight
  matrices. The last block of columns overhangs the arrays: what lies past the end is unknown, and what is written of the
  result does not depend on it.
-/
module

public import Idealize.ShloMosaic.Lib.Pipeline.ValueKit
public import proofs.«01_k».proof.Defs
public import proofs.«01_k».proof.Proof.GateUpFrame
public import proofs.«01_k».proof.Proof.Gen.Reference2Ideal.Run

@[expose] public section

set_option maxRecDepth 16384

noncomputable section

namespace Cert.Proof.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

/-- A row divided by its root mean square, times the gain, at place `k`. -/
def normed (x g : Fin 4096 → EReal) (k : Fin 4096) : EReal :=
  x k * Ideal.rsqrt (Ideal.div (∑ j : Fin 4096, x j * x j) (Ideal.ofBits FTy.f32 1166016512#32)
    + Ideal.ofBits FTy.f32 897988541#32) * g k

/-- The gate's product through `z ↦ z / (1 + exp (-z))`, times the other product. -/
def gated (h wg wu : Fin 4096 → EReal) : EReal :=
  (∑ k : Fin 4096, h k * wg k) * Ideal.div 1
    (1 + Ideal.exp (-(∑ k : Fin 4096, h k * wg k))) * (∑ k : Fin 4096, h k * wu k)

section
open Cert.Reference2Ideal Cert.Reference2Ideal.Gen
/-- The reference's result as one term over its argument arrays. -/
abbrev REF (X0 : FVec Ideal S2x8192x4096 .f32) (X1 : FVec Ideal S1x4096 .f32) (X2 : FVec Ideal S1x4096x11008 .f32) (X3 : FVec Ideal S1x4096x11008 .f32) : FVec Ideal S16384x11008 .bf16 :=
  truncf .bf16 (shapeCast _ (mulf (mulf (Host.dotGeneral dot_S2x8192x4096_S4096x11008_S2x8192x11008_2_0_01_1_n_n none (mulf (mulf X0 (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X0 X0) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ X1 shapeCasts_S1x4096_S4096)))) (shapeCast _ X2 shapeCasts_S1x4096x11008_S4096x11008)) (Host.divf (broadcastInDim S2x8192x11008 ![] bcast_S_S2x8192x11008 (constant S_ .f32 0x3F800000#32)) (addf (broadcastInDim S2x8192x11008 ![] bcast_S_S2x8192x11008 (constant S_ .f32 0x3F800000#32)) (Host.exp (Host.negf (Host.dotGeneral dot_S2x8192x4096_S4096x11008_S2x8192x11008_2_0_01_1_n_n none (mulf (mulf X0 (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X0 X0) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ X1 shapeCasts_S1x4096_S4096)))) (shapeCast _ X2 shapeCasts_S1x4096x11008_S4096x11008))))))) (Host.dotGeneral dot_S2x8192x4096_S4096x11008_S2x8192x11008_2_0_01_1_n_n none (mulf (mulf X0 (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X0 X0) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ X1 shapeCasts_S1x4096_S4096)))) (shapeCast _ X3 shapeCasts_S1x4096x11008_S4096x11008))) shapeCasts_S2x8192x11008_S16384x11008) bitsLt_bf16_f32
end

/-- The reference at a place. -/
theorem href (X0 : FVec Ideal Cert.Reference2Ideal.S2x8192x4096 .f32) (X1 : FVec Ideal Cert.Reference2Ideal.S1x4096 .f32)
    (X2 X3 : FVec Ideal Cert.Reference2Ideal.S1x4096x11008 .f32) (y : Cert.Reference2Ideal.S16384x11008.Idx) (b : Fin 2) (s : Fin 8192) (d : Fin 11008)
    (h0 : (y 0).val = b.val * 8192 + s.val) (h1 : (y 1).val = d.val) :
    REF X0 X1 X2 X3 y = gated (normed (fun k => X0 (ix3 b s k)) (fun k => X1 (ix2 0 k))) (fun k => X2 (ix3 0 k d)) (fun k => X3 (ix3 0 k d)) := by
  unfold gated normed
  pointwise [REF]

  blk_point []

section
open Cert.Kernel2Ideal Cert.Kernel2Ideal.Gen

/-- The first payload at a place. -/
theorem hnorm (A : FVec Ideal S512x4096 .f32) (B : FVec Ideal S1x4096 .f32) (y) : k0_pay1 (F := Ideal) A B y
    = normed (fun k => A (ix2 (y 0) k)) (fun k => B (ix2 0 k)) (y 1) := by
  unfold normed
  pointwise [k0_pay1]

/-- The second payload at a place. -/
theorem hpay (H : FVec Ideal S512x4096 .bf16) (W U : FVec Ideal S4096x512 .bf16) (y) : k0_pay2 (F := Ideal) H W U y
    = gated (fun k => H (ix2 (y 0) k)) (fun k => W (ix2 k (y 1))) (fun k => U (ix2 k (y 1))) := by
  unfold gated
  pointwise [k0_pay2]
  rw [sub_eq_add_neg, zero_add]

variable (m : (ℓ : Loc nD τ sig) → Buf (Elt Ideal) ℓ) (ρ : Dev nD → PrngReg)

theorem idx : ∀ t : Fin cfg0.N, win0_0.index t = ![t.val / 22, 0] ∧ win0_1.index t = ![0, 0] ∧ win0_2.index t = ![0, t.val % 22]
    ∧ win0_3.index t = ![0, t.val % 22] ∧ win0_4.index t = ![t.val / 22, t.val % 22] :=
  (by decide +kernel : ∀ t : Fin grid0.N, _)

/-- Input block 0 at a place. -/
theorem in0 (c : Dev nD) (t : Fin cfg0.N) (y : S512x4096.Idx) (b : Fin 2) (s : Fin 8192) (d : Fin 4096)
    (h0 : t.val / 22 * 512 + (y 0).val = b.val * 8192 + s.val) (h1 : (y 1).val = d.val) :
    iblk m c 0 t y = m ((c : Thread nD τ).loc main_arg0) (ix3 b s d) := by
  blk_point [iblk, V, idx t]

/-- Input block 1 at a place. -/
theorem in1 (c : Dev nD) (t : Fin cfg0.N) (y : S1x4096.Idx) (d : Fin 4096) (h1 : (y 1).val = d.val) :
    iblk m c 1 t y = m ((c : Thread nD τ).loc main_arg1) (ix2 0 d) := by
  blk_point [iblk, V, idx t]

/-- Input block 2 at a place inside the array. -/
theorem in2 (c : Dev nD) (t : Fin cfg0.N) (y : (win0_2.xblock (grid0.coords t)).Idx) (k : Fin 4096) (d : Fin 11008)
    (h0 : (y 0).val = k.val) (h1 : t.val % 22 * 512 + (y 1).val = d.val) :
    iblk m c 2 t y = m ((c : Thread nD τ).loc main_arg2) (ix3 0 k d) := by
  blk_point [iblk, V, idx t]

/-- Input block 3 at a place inside the array. -/
theorem in3 (c : Dev nD) (t : Fin cfg0.N) (y : (win0_3.xblock (grid0.coords t)).Idx) (k : Fin 4096) (d : Fin 11008)
    (h0 : (y 0).val = k.val) (h1 : t.val % 22 * 512 + (y 1).val = d.val) :
    iblk m c 3 t y = m ((c : Thread nD τ).loc main_arg3) (ix3 0 k d) := by
  blk_point [iblk, V, idx t]

/-- How much of each block the transfers move. -/
theorem moved : ∀ t : Fin cfg0.N, win0_2.xsize (grid0.coords t) 0 = 4096 ∧ win0_2.xsize (grid0.coords t) 1 = min 512 (11008 - t.val % 22 * 512)
    ∧ win0_3.xsize (grid0.coords t) 0 = 4096 ∧ win0_3.xsize (grid0.coords t) 1 = min 512 (11008 - t.val % 22 * 512)
    ∧ win0_4.xsize (grid0.coords t) 0 = 512 ∧ win0_4.xsize (grid0.coords t) 1 = min 512 (11008 - t.val % 22 * 512) :=
  (by decide +kernel : ∀ t : Fin grid0.N, _)

/-- The gate's block of columns, whatever lies past the array's end, at a place inside the array. -/
theorem gateCols (c : Dev nD) (t : Fin cfg0.N) (x : S4096x512.Idx → EReal) (k : Fin 4096) (j : Fin 512) (d : Fin 11008)
    (h : t.val % 22 * 512 + j.val = d.val) :
    win0_2.fill (grid0.coords t) x (iblk m c 2 t) (ix2 k j) = m ((c : Thread nD τ).loc main_arg2) (ix3 0 k d) := by
  have hm : win0_2.moved (grid0.coords t) (ix2 k j) = true := (win0_2.moved_iff _ _).mpr fun a => by
    match a with
    | ⟨0, _⟩ => exact lt_of_lt_of_eq k.isLt (moved t).1.symm
    | ⟨1, _⟩ => exact lt_of_lt_of_eq (show j.val < min 512 (11008 - t.val % 22 * 512) by omega) (moved t).2.1.symm
  unfold Pipeline.Window.fill
  rw [dif_pos hm]
  exact in2 m c t _ k d rfl h

/-- The other weight's. -/
theorem upCols (c : Dev nD) (t : Fin cfg0.N) (x : S4096x512.Idx → EReal) (k : Fin 4096) (j : Fin 512) (d : Fin 11008)
    (h : t.val % 22 * 512 + j.val = d.val) :
    win0_3.fill (grid0.coords t) x (iblk m c 3 t) (ix2 k j) = m ((c : Thread nD τ).loc main_arg3) (ix3 0 k d) := by
  have hm : win0_3.moved (grid0.coords t) (ix2 k j) = true := (win0_3.moved_iff _ _).mpr fun a => by
    match a with
    | ⟨0, _⟩ => exact lt_of_lt_of_eq k.isLt (moved t).2.2.1.symm
    | ⟨1, _⟩ => exact lt_of_lt_of_eq (show j.val < min 512 (11008 - t.val % 22 * 512) by omega) (moved t).2.2.2.1.symm
  unfold Pipeline.Window.fill
  rw [dif_pos hm]
  exact in3 m c t _ k d rfl h

/-- The normalised rows of a point. -/
def rows (c : Dev nD) (t : Fin cfg0.N) : FVec Ideal S512x4096 .bf16 := k0_pay1 (F := Ideal) (iblk m c 0 t) (iblk m c 1 t)

/-- They are those of the point before, but where a new block of rows begins. -/
theorem rows_before (c : Dev nD) (t p : Fin cfg0.N) (hp : p.val + 1 = t.val) (ht : ¬ t.val % 22 = 0) : rows m c p = rows m c t := by
  have hN : t.val < 704 := lt_of_lt_of_eq t.isLt N_0
  refine congrArg₂ (k0_pay1 (F := Ideal)) (funext fun y => ?_) (funext fun y => ?_)
  · have hy0 : (y 0).val < 512 := (y 0).isLt
    have hy1 : (y 1).val < 4096 := (y 1).isLt
    obtain ⟨b, hb⟩ : ∃ b : Fin 2, b.val = (t.val / 22 * 512 + (y 0).val) / 8192 := ⟨⟨_, by omega⟩, rfl⟩
    obtain ⟨s, hs⟩ : ∃ s : Fin 8192, s.val = (t.val / 22 * 512 + (y 0).val) % 8192 := ⟨⟨_, by omega⟩, rfl⟩
    exact (in0 m c p y b s ⟨_, hy1⟩ (by omega) rfl).trans (in0 m c t y b s ⟨_, hy1⟩ (by omega) rfl).symm
  · exact (in1 m c p y ⟨_, (y 1).isLt⟩ rfl).trans (in1 m c t y ⟨_, (y 1).isLt⟩ rfl).symm

theorem gated_congr {h h' g g' u u' : Fin 4096 → EReal} (hh : h = h') (hg : g = g') (hu : u = u') : gated h g u = gated h' g' u' := by
  subst hh hg hu; rfl

/-- A row of the normalised rows. -/
theorem cols_rows (c : Dev nD) (t : Fin cfg0.N) (i : Fin 512) (b : Fin 2) (s : Fin 8192) (h : t.val / 22 * 512 + i.val = b.val * 8192 + s.val) :
    (fun k => rows m c t (ix2 i k))
      = normed (fun k => m ((c : Thread nD τ).loc main_arg0) (ix3 b s k)) (fun k => m ((c : Thread nD τ).loc main_arg1) (ix2 0 k)) := by
  funext k
  refine (hnorm _ _ _).trans ?_
  exact congrArg₂ (fun p q => normed p q k) (funext fun j => in0 m c t _ b s j h rfl) (funext fun j => in1 m c t _ j rfl)

/-- Where the result's block lies in the result. -/
theorem emb0 (t : Fin cfg0.N) (y : (win0_4.xblock (grid0.coords t)).Idx) :
    (((cfg0.win 4).blk t).view.emb y (0 : Fin 2)).val = t.val / 22 * 512 + (y (0 : Fin 2)).val := by
  blk_simp [idx t]

theorem emb1 (t : Fin cfg0.N) (y : (win0_4.xblock (grid0.coords t)).Idx) :
    (((cfg0.win 4).blk t).view.emb y (1 : Fin 2)).val = t.val % 22 * 512 + (y (1 : Fin 2)).val := by
  blk_simp [idx t]

/-- What one grid point computes at a place of its block inside the array is the reference's entry there, whatever lies
    past the ends of the weights' blocks. -/
theorem point (c : Dev nD) (t : Fin cfg0.N) (x2 x3 : S4096x512.Idx → EReal) (y : (win0_4.xblock (grid0.coords t)).Idx) :
    k0_pay2 (F := Ideal) (rows m c t) (win0_2.fill (grid0.coords t) x2 (iblk m c 2 t)) (win0_3.fill (grid0.coords t) x3 (iblk m c 3 t))
        (win0_4.xinj (grid0.coords t) y)
      = REF (m ((c : Thread nD τ).loc main_arg0)) (m ((c : Thread nD τ).loc main_arg1)) (m ((c : Thread nD τ).loc main_arg2))
          (m ((c : Thread nD τ).loc main_arg3)) (((cfg0.win 4).blk t).view.emb y) := by
  have ht : t.val < 704 := lt_of_lt_of_eq t.isLt N_0
  have hy0 : (y 0).val < 512 := lt_of_lt_of_eq (y 0).isLt (moved t).2.2.2.2.1
  have hy1 : (y 1).val < min 512 (11008 - t.val % 22 * 512) := lt_of_lt_of_eq (y 1).isLt (moved t).2.2.2.2.2
  obtain ⟨b, hb⟩ : ∃ b : Fin 2, b.val = (t.val / 22 * 512 + (y 0).val) / 8192 := ⟨⟨_, by omega⟩, rfl⟩
  obtain ⟨s, hs⟩ : ∃ s : Fin 8192, s.val = (t.val / 22 * 512 + (y 0).val) % 8192 := ⟨⟨_, by omega⟩, rfl⟩
  obtain ⟨d, hd⟩ : ∃ d : Fin 11008, d.val = t.val % 22 * 512 + (y 1).val := ⟨⟨_, by omega⟩, rfl⟩
  have hr : t.val / 22 * 512 + (y 0).val = b.val * 8192 + s.val := by omega
  exact (hpay _ _ _ _).trans ((gated_congr (cols_rows m c t _ b s hr) (funext fun k => gateCols m c t x2 k _ d hd.symm)
    (funext fun k => upCols m c t x3 k _ d hd.symm)).trans
    (href _ _ _ _ _ b s d ((emb0 t y).trans hr) ((emb1 t y).trans hd.symm)).symm)

end
end Cert.Proof.GateUp
end
-- ==== Proof.GateUp.lean ====
/-
  The gate/up call over extended reals, run: the proof data with the contents of every buffer (of the blocks that overhang
  the arrays, on the part inside), the body's obligation from its two cases, the result array, and the agreement with the
  reference.
-/
module

public import proofs.«01_k».proof.Proof.GateUpPoint
public import Idealize.ShloMosaic.Lib.Pipeline.Covers

@[expose] public section

set_option maxRecDepth 16384

noncomputable section

namespace Cert.Proof.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

section
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-- The gate's block of columns, zero past the array's end. -/
def gateBlock (c : Dev nD) (t : Fin cfg0.N) : FVec Ideal S4096x512 .bf16 :=
  win0_2.fill (grid0.coords t) (fun _ => (0 : EReal)) (iblk m c 2 t)

/-- The other weight's. -/
def upBlock (c : Dev nD) (t : Fin cfg0.N) : FVec Ideal S4096x512 .bf16 :=
  win0_3.fill (grid0.coords t) (fun _ => (0 : EReal)) (iblk m c 3 t)

/-- What is known of the scratch before point `n`: from the first point on it holds the rows of the point before. -/
def held (c : Dev nD) (n : ℕ) : sProp 𝕄 :=
  iprop((∃ X, ⌜∀ p : Fin cfg0.N, p.val + 1 = n → X = rows m c p⌝ ∗ owns (c : Thread nD τ) (Memref.whole cc0_scratch0) fullShare X)
    ∗ (∃ r, prngReg c r))

/-- The proof data: the arrays as the region finds them; after a point the inputs' buffers at their blocks and the result's
    at the gated product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gateBlock m c t
    | ⟨3, _⟩ => upBlock m c t
    | ⟨4, _⟩ => k0_pay2 (F := Ideal) (rows m c t) (gateBlock m c t) (upBlock m c t)
  Φ n := held m c n.val
  q _ := fullShare
  owed _ := 0

theorem before0 (c : Dev nD) (t : Fin cfg0.N) (d) : (dats m 0 c).before 0 t d = iblk m c 0 t :=
  before0_0_of m (dats m 0 c) rfl (fun _ => rfl) t d

theorem before1 (c : Dev nD) (t : Fin cfg0.N) (d) : (dats m 0 c).before 1 t d = iblk m c 1 t :=
  before0_1_of m (dats m 0 c) rfl (fun _ => rfl) t d

theorem before2 (c : Dev nD) (t : Fin cfg0.N) (d) : (dats m 0 c).before 2 t d = win0_2.fill (grid0.coords t) d (iblk m c 2 t) := by
  unfold Dat.before; rw [if_pos (fetch0_2 t)]; rfl

theorem before3 (c : Dev nD) (t : Fin cfg0.N) (d) : (dats m 0 c).before 3 t d = win0_3.fill (grid0.coords t) d (iblk m c 3 t) := by
  unfold Dat.before; rw [if_pos (fetch0_3 t)]; rfl

theorem after2 (c : Dev nD) (t : Fin cfg0.N) : (dats m 0 c).after 2 t = gateBlock m c t := by
  dsimp only [dats]

theorem after3 (c : Dev nD) (t : Fin cfg0.N) : (dats m 0 c).after 3 t = upBlock m c t := by
  dsimp only [dats]

/-- The buffers of a point, as the body leaves them. -/
theorem leaves2 (c : Dev nD) (t : Fin cfg0.N) (d) : (owns (c : Thread nD τ) (stage0_2 (cfg0.slots t 2)) fullShare (win0_2.fill (grid0.coords t) d (iblk m c 2 t)) : sProp 𝕄)
    ⊢ iprop(∃ d, owns (c : Thread nD τ) (stage0_2 (cfg0.slots t 2)) fullShare ((win0 2).fill (grid0.coords t) d ((win0 2).cut (grid0.coords t) ((dats m 0 c).after 2 t)))) := by
  have h : win0_2.cut (grid0.coords t) (gateBlock m c t) = iblk m c 2 t := win0_2.cut_fill _ _ _
  rw [after2]
  have h' : (win0 2).cut (grid0.coords t) (gateBlock m c t) = iblk m c 2 t := h
  rw [h']
  iintro H
  iexists d
  iexact H

theorem leaves3 (c : Dev nD) (t : Fin cfg0.N) (d) : (owns (c : Thread nD τ) (stage0_3 (cfg0.slots t 3)) fullShare (win0_3.fill (grid0.coords t) d (iblk m c 3 t)) : sProp 𝕄)
    ⊢ iprop(∃ d, owns (c : Thread nD τ) (stage0_3 (cfg0.slots t 3)) fullShare ((win0 3).fill (grid0.coords t) d ((win0 3).cut (grid0.coords t) ((dats m 0 c).after 3 t)))) := by
  have h : win0_3.cut (grid0.coords t) (upBlock m c t) = iblk m c 3 t := win0_3.cut_fill _ _ _
  rw [after3]
  have h' : (win0 3).cut (grid0.coords t) (upBlock m c t) = iblk m c 3 t := h
  rw [h']
  iintro H
  iexists d
  iexact H

theorem leaves4 (c : Dev nD) (t : Fin cfg0.N) (x2 x3 : S4096x512.Idx → EReal) :
    (owns (c : Thread nD τ) (stage0_4 (cfg0.slots t 4)) fullShare
      (k0_pay2 (F := Ideal) (rows m c t) (win0_2.fill (grid0.coords t) x2 (iblk m c 2 t)) (win0_3.fill (grid0.coords t) x3 (iblk m c 3 t))) : sProp 𝕄)
    ⊢ iprop(∃ d, owns (c : Thread nD τ) (stage0_4 (cfg0.slots t 4)) fullShare ((win0 4).fill (grid0.coords t) d ((win0 4).cut (grid0.coords t) ((dats m 0 c).after 4 t)))) := by
  have h : (win0 4).fill (α := EReal) (grid0.coords t) (k0_pay2 (F := Ideal) (rows m c t) (win0_2.fill (grid0.coords t) x2 (iblk m c 2 t)) (win0_3.fill (grid0.coords t) x3 (iblk m c 3 t)))
      ((win0 4).cut (grid0.coords t) ((dats m 0 c).after 4 t))
      = k0_pay2 (F := Ideal) (rows m c t) (win0_2.fill (grid0.coords t) x2 (iblk m c 2 t)) (win0_3.fill (grid0.coords t) x3 (iblk m c 3 t)) :=
    win0_4.fill_congr_cut (α := EReal) _ (funext fun y => (point m c t x2 x3 y).trans (point m c t _ _ y).symm)
  iintro H
  iexists (k0_pay2 (F := Ideal) (rows m c t) (win0_2.fill (grid0.coords t) x2 (iblk m c 2 t)) (win0_3.fill (grid0.coords t) x3 (iblk m c 3 t)))
  rw [h]
  iexact H

/-- The scratch after a point. -/
theorem held_succ (c : Dev nD) (t : Fin cfg0.N) :
    iprop(owns (c : Thread nD τ) (Memref.whole cc0_scratch0) fullShare (rows m c t) ∗ (∃ r, prngReg c r)) ⊢ (held m c (t.val + 1) : sProp 𝕄) := by
  unfold held
  iintro ⟨H, Hg⟩
  isplitl [H]
  · iexists (rows m c t)
    isplitr
    · ipureintro
      intro p hp
      rw [show p = t from Fin.ext (by omega)]
    · iexact H
  · iexact Hg

theorem body_values (c : Dev nD) : BodyObligationLoose (dats m 0 c) (defs₀ (F := Ideal)) Variants.none () Set.univ := by
  intro t
  rw [bigSep_W0, bigSep_W0, row]
  simp only
  rw [show (dats m 0 c).owesAt () t.succ = (dats m 0 c).owesAt () t.castSucc from rfl,
    show (dats m 0 c).Φ t.succ = held m c (t.val + 1) from rfl,
    show (dats m 0 c).Φ t.castSucc = held m c t.val from rfl]
  unfold bodyAt0
  by_cases h : first (grid0.coords t)
  · rw [show (held m c t.val : sProp 𝕄) = iprop((∃ X, ⌜∀ p : Fin cfg0.N, p.val + 1 = t.val → X = rows m c p⌝ ∗ owns (c : Thread nD τ) (Memref.whole cc0_scratch0) fullShare X)
      ∗ (∃ r, prngReg c r)) from rfl]
    iintro ⟨⟨⟨%xs, -, HS⟩, Hg⟩, Ho, ⟨%d0, H0⟩, ⟨%d1, H1⟩, ⟨%d2, H2⟩, ⟨%d3, H3⟩, ⟨%d4, H4⟩⟩
    rw [before0 m c t d0, before1 m c t d1, before2 m c t d2, before3 m c t d3]
    iapply (stepFirst (F := Ideal) c (grid0.coords t) _ _ _ _ _ _ _ _ _ _ _ _ (iblk m c 0 t) (iblk m c 1 t)
      (win0_2.fill (grid0.coords t) d2 (iblk m c 2 t)) (win0_3.fill (grid0.coords t) d3 (iblk m c 3 t)) h Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · iapply (held_succ m c t)
      isplitl [HS]
      · iexact HS
      · iexact Hg
    isplitl [Ho]; · iexact Ho
    isplitl [H0]; · iexact H0
    isplitl [H1]; · iexact H1
    isplitl [H2]; · iapply (leaves2 m c t d2); iexact H2
    isplitl [H3]; · iapply (leaves3 m c t d3); iexact H3
    iapply (leaves4 m c t d2 d3); iexact H4
  · rw [show (held m c t.val : sProp 𝕄) = iprop((∃ X, ⌜∀ p : Fin cfg0.N, p.val + 1 = t.val → X = rows m c p⌝ ∗ owns (c : Thread nD τ) (Memref.whole cc0_scratch0) fullShare X)
      ∗ (∃ r, prngReg c r)) from rfl]
    iintro ⟨⟨⟨%xs, %hxs, HS⟩, Hg⟩, Ho, ⟨%d0, H0⟩, ⟨%d1, H1⟩, ⟨%d2, H2⟩, ⟨%d3, H3⟩, ⟨%d4, H4⟩⟩
    have ht : ¬ t.val % 22 = 0 := fun e => h ((first_iff t).mpr e)
    have hN : t.val < cfg0.N := t.isLt
    obtain rfl : xs = rows m c t := (hxs ⟨t.val - 1, by omega⟩ (by show t.val - 1 + 1 = t.val; omega)).trans
      (rows_before m c t ⟨t.val - 1, by omega⟩ (by show t.val - 1 + 1 = t.val; omega) ht)
    rw [before0 m c t d0, before1 m c t d1, before2 m c t d2, before3 m c t d3]
    iapply (stepLater (F := Ideal) c (grid0.coords t) _ _ _ _ _ _ _ _ _ _ _ _ (iblk m c 0 t) (iblk m c 1 t)
      (win0_2.fill (grid0.coords t) d2 (iblk m c 2 t)) (win0_3.fill (grid0.coords t) d3 (iblk m c 3 t)) (rows m c t) h Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · iapply (held_succ m c t)
      isplitl [HS]
      · iexact HS
      · iexact Hg
    isplitl [Ho]; · iexact Ho
    isplitl [H0]; · iexact H0
    isplitl [H1]; · iexact H1
    isplitl [H2]; · iapply (leaves2 m c t d2); iexact H2
    isplitl [H3]; · iapply (leaves3 m c t d3); iexact H3
    iapply (leaves4 m c t d2 d3); iexact H4

theorem enter (c : Dev nD) : Pipeline.ΦA spec0 c ⊢ (dats m 0 c).Φ 0 := by
  rw [PhiA_eq, show (dats m 0 c).Φ 0 = held m c 0 from rfl]
  unfold held
  iintro ⟨⟨%X, HS⟩, Hg⟩
  isplitl [HS]
  · iexists X
    isplitr
    · ipureintro
      intro p hp
      exact absurd hp (Nat.succ_ne_zero _)
    · iexact HS
  · iexact Hg

theorem leave (c : Dev nD) : (dats m 0 c).Φ (Fin.last cfg0.N) ⊢ Pipeline.ΦA spec0 c := by
  rw [PhiA_eq, show (dats m 0 c).Φ (Fin.last cfg0.N) = held m c cfg0.N from rfl]
  unfold held
  iintro ⟨⟨%X, -, HS⟩, Hg⟩
  isplitl [HS]
  · iexists X; iexact HS
  · iexact Hg

set_option backward.isDefEq.respectTransparency.types false in
/-- The run: every array of the pipeline at what the proof data says, every other as the region found it. -/
theorem run_values : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_values m c) (hshare := fun c => (dats m 0 c).share_full fun _ => rfl)
    (howed := fun _ _ => rfl) (V := V m) (hmain := hmain m Variants.none) (hA := fun _ _ => rfl) (hin := enter m) (hout := leave m)

/-- The blocks of the result reach every place of it. -/
theorem covers : (cfg0.win 4).Covers :=
  Pipeline.Window.covers_of_index_surj _ rfl (by decide) fun β => by
    have h0 : (β (0 : Fin 2)).val < 32 := lt_of_lt_of_eq (β (0 : Fin 2)).isLt (by decide)
    have h1 : (β (1 : Fin 2)).val < 22 := lt_of_lt_of_eq (β (1 : Fin 2)).isLt (by decide)
    refine ⟨⟨(β (0 : Fin 2)).val * 22 + (β (1 : Fin 2)).val, lt_of_lt_of_eq (by omega) N_0.symm⟩, fun a => ?_⟩
    refine (congrFun (idx _).2.2.2.2 a).trans ?_
    match a with
    | ⟨0, _⟩ => exact (show ((β (0 : Fin 2)).val * 22 + (β (1 : Fin 2)).val) / 22 = (β (0 : Fin 2)).val by omega)
    | ⟨1, _⟩ => exact (show ((β (0 : Fin 2)).val * 22 + (β (1 : Fin 2)).val) % 22 = (β (1 : Fin 2)).val by omega)

/-- The result array after the last grid point. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) :=
  (dats m 0 c).arrAt_eq_of_covers 4 _ covers fun t _ y => point m c t _ _ y

/-- The run, read at the result and the arguments. -/
theorem run_result : θ_run defs (onTc (τ := τ) (main (F := Ideal))) ⟨m, fun _ => 0, ρ⟩ (fun r => ∀ c : Dev nD,
      r.2.mem ((c.tc : Thread nD τ).loc main_v7) = REF (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 4).trans (final m c),
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩) (run_values m ρ)

end

/-- The reference ends on every core, with its arguments unchanged and every semaphore counter at zero. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The call and the reference leave the same result when their arguments agree. -/
theorem algebraic : Cert.algebraic_Kernel2Ideal_Reference2Ideal := by
  intro m ρ m' ρ' _ hagree
  refine ⟨fun c => REF (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)), ?_, ?_⟩
  · exact run_result m ρ
  · refine (θ_run Cert.Reference2Ideal.defs _ _).mono (fun r h c => ⟨(h c).1.trans ?_, (h c).2⟩)
      (Cert.Reference2Ideal.Value.run (F := Ideal) m' ρ')
    rw [(hagree c).1, (hagree c).2.1, (hagree c).2.2.1, (hagree c).2.2.2]

end Cert.Proof.GateUp

end
-- ==== Proof.Down.lean ====
/-
  The down projection: two grid points add the two halves of each contraction to the residual; together they are the one
  contraction of the reference.
-/
module

public import Idealize.ShloMosaic.Lib.Pipeline.ValueKit
public import proofs.«01_k».proof.Defs
public import proofs.«01_k».proof.Proof.Gen.Kernel3Ideal.Value
public import proofs.«01_k».proof.Proof.Gen.Reference3Ideal.Run

@[expose] public section

set_option maxRecDepth 16384

noncomputable section

namespace Cert.Proof.Down

open Idealize.ShloMosaic Idealize.ShloMosaic.TcCoe Idealize.SL.Sem
open Idealize.ShloMosaic.Pipeline (Dat)

section
open Cert.Reference3Ideal Cert.Reference3Ideal.Gen
/-- The reference's result as one term over its argument arrays. -/
abbrev REF (X0 : FVec Ideal S2x8192x11008 .f32) (X1 : FVec Ideal S1x11008x4096 .f32) (X2 : FVec Ideal S2x8192x4096 .f32) : FVec Ideal S16384x4096 .f32 :=
  shapeCast _ (addf X2 (Host.dotGeneral dot_S2x8192x11008_S11008x4096_S2x8192x4096_2_0_01_1_n_n none X0 (shapeCast _ X1 shapeCasts_S1x11008x4096_S11008x4096))) shapeCasts_S2x8192x4096_S16384x4096
end

section
open Cert.Kernel3Ideal Cert.Kernel3Ideal.Gen

variable (m : (ℓ : Loc nD τ sig) → Buf (Elt Ideal) ℓ) (ρ : Dev nD → PrngReg)

theorem idx : ∀ t : Fin cfg0.N, win0_0.index t = ![t.val / 8, t.val % 2] ∧ win0_1.index t = ![t.val % 2, t.val / 2 % 4]
    ∧ win0_2.index t = ![t.val / 8, t.val / 2 % 4] ∧ win0_3.index t = ![t.val / 8, t.val / 2 % 4] :=
  (by decide +kernel : ∀ t : Fin grid0.N, _)

/-- The payload that adds a contraction, at a place. -/
theorem hpay (A : FVec Ideal S512x1024 .f32) (B : FVec Ideal S512x5504 .bf16) (W : FVec Ideal S5504x1024 .bf16) (y) :
    k0_pay2 (F := Ideal) A B W y = A y + ∑ k : Fin 5504, B (ix2 (y 0) k) * W (ix2 k (y 1)) := by
  pointwise [k0_pay2]

/-- The first payload at a place: the residual as it is. -/
theorem hstart (A : FVec Ideal S512x1024 .f32) (y) : k0_pay1 (F := Ideal) A y = A y := by
  pointwise [k0_pay1]

/-- The reference at a place. -/
theorem href (X0 X1 X2) (y : Cert.Reference3Ideal.S16384x4096.Idx) (b : Fin 2) (s : Fin 8192) (d : Fin 4096)
    (h0 : (y 0).val = b.val * 8192 + s.val) (h1 : (y 1).val = d.val) : REF X0 X1 X2 y
      = X2 (ix3 b s d) + ∑ k : Fin 11008, X0 (ix3 b s k) * X1 (ix3 0 k d) := by
  pointwise [REF]
  blk_point []

/-- Input block 0 at a place. -/
theorem in0 (c : Dev nD) (t : Fin cfg0.N) (y : S512x5504.Idx) (b : Fin 2) (s : Fin 8192) (d : Fin 11008)
    (h0 : t.val / 8 * 512 + (y 0).val = b.val * 8192 + s.val) (h1 : t.val % 2 * 5504 + (y 1).val = d.val) :
    iblk m c 0 t y = m ((c : Thread nD τ).loc main_arg0) (ix3 b s d) := by
  blk_point [iblk, V, idx t]

/-- Input block 1 at a place. -/
theorem in1 (c : Dev nD) (t : Fin cfg0.N) (y : S5504x1024.Idx) (k : Fin 11008) (d : Fin 4096)
    (h0 : t.val % 2 * 5504 + (y 0).val = k.val) (h1 : t.val / 2 % 4 * 1024 + (y 1).val = d.val) :
    iblk m c 1 t y = m ((c : Thread nD τ).loc main_arg1) (ix3 0 k d) := by
  blk_point [iblk, V, idx t]

/-- Input block 2 at a place. -/
theorem in2 (c : Dev nD) (t : Fin cfg0.N) (y : S512x1024.Idx) (b : Fin 2) (s : Fin 8192) (d : Fin 4096)
    (h0 : t.val / 8 * 512 + (y 0).val = b.val * 8192 + s.val) (h1 : t.val / 2 % 4 * 1024 + (y 1).val = d.val) :
    iblk m c 2 t y = m ((c : Thread nD τ).loc main_arg2) (ix3 b s d) := by
  blk_point [iblk, V, idx t]

/-- A sum over 11008 places is the sum over the first 5504 and the last 5504. -/
theorem halves (f : Fin 11008 → EReal) : ∑ k, f k
    = (∑ k : Fin 5504, f ⟨k.val, by omega⟩) + ∑ k : Fin 5504, f ⟨5504 + k.val, by omega⟩ :=
  Fin.sum_univ_add (a := 5504) (b := 5504) f

/-- What two neighbouring grid points compute at a place of their block is the reference's entry there. -/
theorem point (c : Dev nD) (p t : Fin cfg0.N) (hp : p.val + 1 = t.val) (h1 : t.val % 2 = 1) (y : S512x1024.Idx) :
    k0_pay2 (F := Ideal) (k0_pay2 (F := Ideal) (k0_pay1 (F := Ideal) (iblk m c 2 p)) (iblk m c 0 p) (iblk m c 1 p))
        (iblk m c 0 t) (iblk m c 1 t) y
      = REF (m ((c : Thread nD τ).loc main_arg0)) (m ((c : Thread nD τ).loc main_arg1)) (m ((c : Thread nD τ).loc main_arg2))
          (((cfg0.win 3).blk t).view.emb y) := by
  have ht : t.val < 256 := lt_of_lt_of_eq t.isLt N_0
  have hy0 : (y 0).val < 512 := (y 0).isLt
  have hy1 : (y 1).val < 1024 := (y 1).isLt
  obtain ⟨b, hb⟩ : ∃ b : Fin 2, b.val = (t.val / 8 * 512 + (y 0).val) / 8192 := ⟨⟨_, by omega⟩, rfl⟩
  obtain ⟨s, hs⟩ : ∃ s : Fin 8192, s.val = (t.val / 8 * 512 + (y 0).val) % 8192 := ⟨⟨_, by omega⟩, rfl⟩
  obtain ⟨d, hd⟩ : ∃ d : Fin 4096, d.val = t.val / 2 % 4 * 1024 + (y 1).val := ⟨⟨_, by omega⟩, rfl⟩
  have hr : t.val / 8 * 512 + (y 0).val = b.val * 8192 + s.val := by omega
  have hr' : p.val / 8 * 512 + (y 0).val = b.val * 8192 + s.val := by omega
  have hd' : p.val / 2 % 4 * 1024 + (y 1).val = d.val := by omega
  rw [hpay, hpay, hstart, href _ _ _ _ b s d (by blk_simp [idx t]; omega) (by blk_simp [idx t]; omega),
    in2 m c p y b s d hr' hd', halves, add_assoc]
  refine congrArg₂ (fun a b : EReal => a + b) rfl (congrArg₂ (fun a b : EReal => a + b) ?_ ?_)
  · exact Finset.sum_congr rfl fun k _ => congrArg₂ (fun a b : EReal => a * b)
      (in0 m c p _ b s ⟨k.val, by omega⟩ hr' (by show p.val % 2 * 5504 + k.val = k.val; omega))
      (in1 m c p _ ⟨k.val, by omega⟩ d (by show p.val % 2 * 5504 + k.val = k.val; omega) hd')
  · exact Finset.sum_congr rfl fun k _ => congrArg₂ (fun a b : EReal => a * b)
      (in0 m c t _ b s ⟨5504 + k.val, by omega⟩ hr (by show t.val % 2 * 5504 + k.val = 5504 + k.val; omega))
      (in1 m c t _ ⟨5504 + k.val, by omega⟩ d (by show t.val % 2 * 5504 + k.val = 5504 + k.val; omega) hd.symm)

/-- The result array after the last grid point. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 : t.val % 2 = 1 := (flush0_3 t).mp hf
  have h0 : ¬ t.val % 2 = 0 := by omega
  have hb : t.val - 1 < cfg0.N := Nat.lt_of_le_of_lt (Nat.sub_le _ _) t.isLt
  rw [after0_3, outsAt0_B m c t h0 h1, outsAt0_A m c ⟨t.val - 1, hb⟩ (by show (t.val - 1) % 2 = 0; omega) (by show ¬ (t.val - 1) % 2 = 1; omega)]
  frame_out
  rw [show ∀ X, View.read (Elt Ideal) (View.whole cc0_scratch0) ((Memref.isWhole_whole cc0_scratch0).unread X) = X from
    fun X => (Memref.isWhole_whole cc0_scratch0).read_unread X]
  exact point m c ⟨t.val - 1, hb⟩ t (by show t.val - 1 + 1 = t.val; omega) h1 y

end

/-- The reference ends on every core, with its arguments unchanged and every semaphore counter at zero. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The call and the reference leave the same result when their arguments agree. -/
theorem algebraic : Cert.algebraic_Kernel3Ideal_Reference3Ideal := by
  intro m ρ m' ρ' _ hagree
  refine ⟨fun c => REF (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)), ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    rw [(hagree c).1, (hagree c).2.1, (hagree c).2.2]

end Cert.Proof.Down

end
-- ==== Proof.OutProj.lean ====
/-
  The output projection: the two half contractions of the call together are the one contraction of the reference over the
  concatenated features, plus the residual.
-/
module

public import Idealize.ShloMosaic.Lib.Pipeline.ValueKit
public import proofs.«01_k».proof.Defs
public import proofs.«01_k».proof.Proof.Gen.Kernel4Ideal.Value
public import proofs.«01_k».proof.Proof.Gen.Reference4Ideal.Run

@[expose] public section

set_option maxRecDepth 16384

noncomputable section

namespace Cert.Proof.OutProj

open Idealize.ShloMosaic Idealize.ShloMosaic.TcCoe Idealize.SL.Sem
open Idealize.ShloMosaic.Pipeline (Dat)

section
open Cert.Reference4Ideal Cert.Reference4Ideal.Gen
/-- The reference's result as one term over its argument arrays. -/
abbrev REF (X0 : FVec Ideal S2x8192x2048 .f32) (X1 : FVec Ideal S2x8192x2048 .f32) (X2 : FVec Ideal S1x4096x4096 .f32) (X3 : FVec Ideal S2x8192x4096 .f32) : FVec Ideal S16384x4096 .f32 :=
  shapeCast _ (addf X3 (Host.dotGeneral dot_S2x8192x4096_S4096x4096_S2x8192x4096_2_0_01_1_n_n none (concatenate S2x8192x4096 2 [⟨S2x8192x2048, X0⟩, ⟨S2x8192x2048, X1⟩] concatenates_S2x8192x2048_S2x8192x2048_S2x8192x4096_d2) (shapeCast _ X2 shapeCasts_S1x4096x4096_S4096x4096))) shapeCasts_S2x8192x4096_S16384x4096
end

section
open Cert.Kernel4Ideal Cert.Kernel4Ideal.Gen

variable (m : (ℓ : Loc nD τ sig) → Buf (Elt Ideal) ℓ) (ρ : Dev nD → PrngReg)

theorem idx : ∀ t : Fin cfg0.N, win0_0.index t = ![t.val / 4, 0] ∧ win0_1.index t = ![t.val / 4, 0]
    ∧ win0_2.index t = ![0, t.val % 4] ∧ win0_3.index t = ![1, t.val % 4] ∧ win0_4.index t = ![t.val / 4, t.val % 4]
    ∧ win0_5.index t = ![t.val / 4, t.val % 4] :=
  (by decide +kernel : ∀ t : Fin grid0.N, _)

/-- The payload at a place. -/
theorem hpay (A : FVec Ideal S512x1024 .f32) (B : FVec Ideal S512x2048 .bf16) (W : FVec Ideal S2048x1024 .bf16)
    (C : FVec Ideal S512x2048 .bf16) (W' : FVec Ideal S2048x1024 .bf16) (y) : k0_pay1 (F := Ideal) A B W C W' y
      = A y + (∑ k : Fin 2048, B (ix2 (y 0) k) * W (ix2 k (y 1))) + ∑ k : Fin 2048, C (ix2 (y 0) k) * W' (ix2 k (y 1)) := by
  pointwise [k0_pay1]

/-- The reference at a place. -/
theorem href (X0 X1 X2 X3) (y : Cert.Reference4Ideal.S16384x4096.Idx) (b : Fin 2) (s : Fin 8192) (d : Fin 4096)
    (h0 : (y 0).val = b.val * 8192 + s.val) (h1 : (y 1).val = d.val) : REF X0 X1 X2 X3 y
      = X3 (ix3 b s d) + ((∑ k : Fin 2048, X0 (ix3 b s k) * X2 (ix3 0 ⟨k.val, by omega⟩ d))
        + ∑ k : Fin 2048, X1 (ix3 b s k) * X2 (ix3 0 ⟨2048 + k.val, by omega⟩ d)) := by
  pointwise [REF]
  blk_point []

/-- Input block 0 at a place. -/
theorem in0 (c : Dev nD) (t : Fin cfg0.N) (y : S512x2048.Idx) (b : Fin 2) (s : Fin 8192) (d : Fin 2048)
    (h0 : t.val / 4 * 512 + (y 0).val = b.val * 8192 + s.val) (h1 : (y 1).val = d.val) :
    iblk m c 0 t y = m ((c : Thread nD τ).loc main_arg0) (ix3 b s d) := by
  blk_point [iblk, V, idx t]

/-- Input block 1 at a place. -/
theorem in1 (c : Dev nD) (t : Fin cfg0.N) (y : S512x2048.Idx) (b : Fin 2) (s : Fin 8192) (d : Fin 2048)
    (h0 : t.val / 4 * 512 + (y 0).val = b.val * 8192 + s.val) (h1 : (y 1).val = d.val) :
    iblk m c 1 t y = m ((c : Thread nD τ).loc main_arg1) (ix3 b s d) := by
  blk_point [iblk, V, idx t]

/-- Input block 2 at a place. -/
theorem in2 (c : Dev nD) (t : Fin cfg0.N) (y : S2048x1024.Idx) (k : Fin 4096) (d : Fin 4096)
    (h0 : (y 0).val = k.val) (h1 : t.val % 4 * 1024 + (y 1).val = d.val) :
    iblk m c 2 t y = m ((c : Thread nD τ).loc main_arg2) (ix3 0 k d) := by
  blk_point [iblk, V, idx t]

/-- Input block 3 at a place. -/
theorem in3 (c : Dev nD) (t : Fin cfg0.N) (y : S2048x1024.Idx) (k : Fin 4096) (d : Fin 4096)
    (h0 : 2048 + (y 0).val = k.val) (h1 : t.val % 4 * 1024 + (y 1).val = d.val) :
    iblk m c 3 t y = m ((c : Thread nD τ).loc main_arg2) (ix3 0 k d) := by
  blk_point [iblk, V, idx t]

/-- Input block 4 at a place. -/
theorem in4 (c : Dev nD) (t : Fin cfg0.N) (y : S512x1024.Idx) (b : Fin 2) (s : Fin 8192) (d : Fin 4096)
    (h0 : t.val / 4 * 512 + (y 0).val = b.val * 8192 + s.val) (h1 : t.val % 4 * 1024 + (y 1).val = d.val) :
    iblk m c 4 t y = m ((c : Thread nD τ).loc main_arg3) (ix3 b s d) := by
  blk_point [iblk, V, idx t]

/-- What one grid point computes at a place of its block is the reference's entry there. -/
theorem point (c : Dev nD) (t : Fin cfg0.N) (y : S512x1024.Idx) :
    k0_pay1 (F := Ideal) (iblk m c 4 t) (iblk m c 0 t) (iblk m c 2 t) (iblk m c 1 t) (iblk m c 3 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  have ht : t.val < 128 := lt_of_lt_of_eq t.isLt N_0
  have hy0 : (y 0).val < 512 := (y 0).isLt
  have hy1 : (y 1).val < 1024 := (y 1).isLt
  obtain ⟨b, hb⟩ : ∃ b : Fin 2, b.val = (t.val / 4 * 512 + (y 0).val) / 8192 := ⟨⟨_, by omega⟩, rfl⟩
  obtain ⟨s, hs⟩ : ∃ s : Fin 8192, s.val = (t.val / 4 * 512 + (y 0).val) % 8192 := ⟨⟨_, by omega⟩, rfl⟩
  obtain ⟨d, hd⟩ : ∃ d : Fin 4096, d.val = t.val % 4 * 1024 + (y 1).val := ⟨⟨_, by omega⟩, rfl⟩
  have hr : t.val / 4 * 512 + (y 0).val = b.val * 8192 + s.val := by omega
  rw [hpay, href _ _ _ _ _ b s d (by blk_simp [idx t]; omega) (by blk_simp [idx t]; omega), in4 m c t y b s d hr hd.symm, add_assoc]
  refine congrArg₂ (fun a b : EReal => a + b) rfl (congrArg₂ (fun a b : EReal => a + b) ?_ ?_)
  · exact Finset.sum_congr rfl fun k _ => congrArg₂ (fun a b : EReal => a * b)
      (in0 m c t _ b s k hr rfl) (in2 m c t _ ⟨k.val, by omega⟩ d rfl hd.symm)
  · exact Finset.sum_congr rfl fun k _ => congrArg₂ (fun a b : EReal => a * b)
      (in1 m c t _ b s k hr rfl) (in3 m c t _ ⟨2048 + k.val, by omega⟩ d rfl hd.symm)

/-- The result array after the last grid point. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]
  frame_out
  exact point m c t y

end

/-- The reference ends on every core, with its arguments unchanged and every semaphore counter at zero. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The call and the reference leave the same result when their arguments agree. -/
theorem algebraic : Cert.algebraic_Kernel4Ideal_Reference4Ideal := by
  intro m ρ m' ρ' _ hagree
  refine ⟨fun c => REF (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)), ?_, ?_⟩
  · exact (θ_run Cert.Kernel4Ideal.defs _ _).mono (fun r h c => ⟨(h c).1.trans (final m c), (h c).2⟩)
      (Cert.Kernel4Ideal.Value.run_blocks (F := Ideal) m ρ)
  · refine (θ_run Cert.Reference4Ideal.defs _ _).mono (fun r h c => ⟨(h c).1.trans ?_, (h c).2⟩)
      (Cert.Reference4Ideal.Value.run (F := Ideal) m' ρ')
    rw [(hagree c).1, (hagree c).2.1, (hagree c).2.2.1, (hagree c).2.2.2]

end Cert.Proof.OutProj

end
-- ==== Proof.Final.lean ====
/-
  The final normalisation: the call leaves, in every entry, what the plain formula of the reference gives there.
-/
module

public import Idealize.ShloMosaic.Lib.Pipeline.ValueKit
public import proofs.«01_k».proof.Defs
public import proofs.«01_k».proof.Proof.Gen.Kernel5Ideal.Value
public import proofs.«01_k».proof.Proof.Gen.Reference5Ideal.Run

@[expose] public section

set_option maxRecDepth 16384

noncomputable section

namespace Cert.Proof.Final

open Idealize.ShloMosaic Idealize.ShloMosaic.TcCoe Idealize.SL.Sem
open Idealize.ShloMosaic.Pipeline (Dat)

section
open Cert.Reference5Ideal Cert.Reference5Ideal.Gen
/-- The reference's result as one term over its argument arrays. -/
abbrev REF (X0 : FVec Ideal S2x8192x4096 .f32) (X1 : FVec Ideal S4096 .f32) : FVec Ideal S16384x4096 .f32 :=
  shapeCast _ (mulf (mulf X0 (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X0 X0) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 X1))) shapeCasts_S2x8192x4096_S16384x4096
end

section
open Cert.Kernel5Ideal Cert.Kernel5Ideal.Gen

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] :=
  (by decide +kernel : ∀ t : Fin grid0.N, _)

/-- The payload at a place. -/
theorem hpay (A : FVec Ideal S256x4096 .f32) (B : FVec Ideal S1x4096 .f32) (y) : k0_pay1 (F := Ideal) A B y
    = A y * Ideal.rsqrt (Ideal.div (∑ x : Fin 4096, A (ix2 (y 0) x) * A (ix2 (y 0) x)) (Ideal.ofBits FTy.f32 1166016512#32)
        + Ideal.ofBits FTy.f32 897988541#32) * B (ix2 0 (y 1)) := by
  pointwise [k0_pay1]

/-- The reference at a place. -/
theorem href (A : FVec Ideal Cert.Reference5Ideal.S2x8192x4096 .f32) (B : FVec Ideal Cert.Reference5Ideal.S4096 .f32)
    (y : Cert.Reference5Ideal.S16384x4096.Idx) (b : Fin 2) (s : Fin 8192) (d : Fin 4096)
    (h0 : (y 0).val = b.val * 8192 + s.val) (h1 : (y 1).val = d.val) :
    REF A B y = A (ix3 b s d) * Ideal.rsqrt (Ideal.div (∑ x : Fin 4096, A (ix3 b s x) * A (ix3 b s x))
        (Ideal.ofBits FTy.f32 1166016512#32) + Ideal.ofBits FTy.f32 897988541#32) * B (ix1 d) := by
  pointwise [REF]
  blk_point []

/-- Input block 0 at a place. -/
theorem in0 (c : Dev nD) (t : Fin cfg0.N) (y : S256x4096.Idx) (b : Fin 2) (s : Fin 8192) (d : Fin 4096)
    (h0 : t.val * 256 + (y 0).val = b.val * 8192 + s.val) (h1 : (y 1).val = d.val) :
    iblk m c 0 t y = m ((c : Thread nD τ).loc main_arg0) (ix3 b s d) := by
  blk_point [iblk, V, idx t]

/-- Input block 1 at a place. -/
theorem in1 (c : Dev nD) (t : Fin cfg0.N) (y : S1x4096.Idx) (d : Fin 4096) (h1 : (y 1).val = d.val) :
    iblk m c 1 t y = m ((c : Thread nD τ).loc main_arg1) (ix1 d) := by
  blk_point [iblk, V, idx t]

/-- What one grid point computes at a place of its block is the reference's entry there. -/
theorem point (c : Dev nD) (t : Fin cfg0.N) (y : S256x4096.Idx) :
    k0_pay1 (F := Ideal) (iblk m c 0 t) (iblk m c 1 t) y
      = REF (m ((c : Thread nD τ).loc main_arg0)) (m ((c : Thread nD τ).loc main_arg1)) (((cfg0.win 2).blk t).view.emb y) := by
  have ht : t.val < 64 := lt_of_lt_of_eq t.isLt N_0
  have hy0 : (y 0).val < 256 := (y 0).isLt
  have hy1 : (y 1).val < 4096 := (y 1).isLt
  obtain ⟨b, hb⟩ : ∃ b : Fin 2, b.val = (t.val * 256 + (y 0).val) / 8192 := ⟨⟨_, by omega⟩, rfl⟩
  obtain ⟨s, hs⟩ : ∃ s : Fin 8192, s.val = (t.val * 256 + (y 0).val) % 8192 := ⟨⟨_, by omega⟩, rfl⟩
  have hr : t.val * 256 + (y 0).val = b.val * 8192 + s.val := by omega
  rw [hpay, href _ _ _ b s ⟨(y 1).val, hy1⟩ (by blk_simp [idx t]; omega) (by blk_simp [idx t] <;> try omega),
    in0 m c t y b s ⟨(y 1).val, hy1⟩ hr rfl, in1 m c t _ ⟨(y 1).val, hy1⟩ rfl]
  refine congrArg₂ (fun a b : EReal => a * b) (congrArg₂ (fun a b : EReal => a * b) rfl (congrArg Ideal.rsqrt
    (congrArg₂ (fun a b : EReal => a + b) (congrArg₂ Ideal.div ?_ rfl) rfl))) rfl
  exact Finset.sum_congr rfl fun x _ => congrArg₂ (fun a b : EReal => a * b) (in0 m c t _ b s x hr rfl) (in0 m c t _ b s x hr rfl)

/-- The result array after the last grid point. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end

/-- The reference ends on every core, with its arguments unchanged and every semaphore counter at zero. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The call and the reference leave the same result when their arguments agree. -/
theorem algebraic : Cert.algebraic_Kernel5Ideal_Reference5Ideal := by
  intro m ρ m' ρ' _ hagree
  refine ⟨fun c => REF (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)), ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Value.run (F := Ideal) m' ρ')
    rw [(hagree c).1, (hagree c).2]

end Cert.Proof.Final

end
-- ==== Proof.InProjTiles.lean ====
/-
  What the body of the input projection's call computes, at a place: the normalised rows, their products with the weights, and the
  tiles of queries, keys, values and index queries, each as a function of the row's products and of the tables of cosines and sines.
-/
module

public import proofs.«01_k».proof.Defs
public import Idealize.ShloMosaic.Lib.Pipeline.ValueKit
public import proofs.«01_k».proof.Proof.Gen.Kernel7Ideal.Skeleton

@[expose] public section

set_option maxRecDepth 16384

noncomputable section

namespace Cert.Proof.InProj

open Idealize.ShloMosaic Idealize.ShloMosaic.TcCoe Idealize.ShloMosaic.Tactic
open Cert.Kernel7Ideal Cert.Kernel7Ideal.Gen

/-- A row divided by its root mean square, times the gain, at place `k`. -/
def normed (x g : Fin 4096 → EReal) (k : Fin 4096) : EReal :=
  x k * Ideal.rsqrt (Ideal.div (∑ j : Fin 4096, x j * x j) (Ideal.ofBits FTy.f32 1166016512#32)
    + Ideal.ofBits FTy.f32 897988541#32) * g k

/-- The rotary embedding of one head's channels `Z`, at channel `e`: the first `half` channels and the next are turned together, the
    others stay. -/
def rope (half : ℕ) (Z cs sn : ℕ → EReal) (e : ℕ) : EReal :=
  if e < half then Z e * cs e - Z (e + half) * sn e
  else if e < 2 * half then Z e * cs (e - half) + Z (e - half) * sn (e - half)
  else Z e

/-- The same as a sum of three products, the channels rotated by `half` places each way, with one row of a table each. -/
def rolled (half : ℕ) (Z A B C : ℕ → EReal) (e : ℕ) : EReal :=
  Z e * A e + Z ((e + half) % 128) * B e + Z ((e + (128 - half)) % 128) * C e

/-- A number below `n`, as the one that equals it modulo `n`. -/
theorem mk_eq_ofNat {n : ℕ} [NeZero n] {a b : ℕ} (ha : a < n) (h : a = b) : (⟨a, ha⟩ : Fin n) = Fin.ofNat n b := by
  subst h
  exact Fin.ext (Nat.mod_eq_of_lt ha).symm

theorem eq_ofNat {n : ℕ} [NeZero n] (a : Fin n) {b : ℕ} (h : a.val = b) : a = Fin.ofNat n b := mk_eq_ofNat a.isLt h

theorem at2 {a n : ℕ} [NeZero n] (z : (⟨2, ![a, n]⟩ : Shape).Idx → EReal) (r : Fin a) (p : Fin n) {b : ℕ} (h : p.val = b) :
    z (ix2 r p) = z (ix2 r (Fin.ofNat n b)) := by rw [eq_ofNat p h]

theorem at3 {a c n : ℕ} [NeZero n] (z : (⟨3, ![a, c, n]⟩ : Shape).Idx → EReal) (q : Fin a) (r : Fin c) (p : Fin n) {b : ℕ} (h : p.val = b) :
    z (ix3 q r p) = z (ix3 q r (Fin.ofNat n b)) := by rw [eq_ofNat p h]

/-- Three products, place by place. -/
theorem three {a b c d e f a' b' c' d' e' f' : EReal} (h1 : a = a') (h2 : b = b') (h3 : c = c') (h4 : d = d') (h5 : e = e') (h6 : f = f') :
    a * b + c * d + e * f = a' * b' + c' * d' + e' * f' := by
  rw [h1, h2, h3, h4, h5, h6]

/-- The constant that scales the queries. -/
abbrev qScale : EReal := Ideal.ofBits FTy.f32 1040356334#32
/-- The constant that scales the index weights. -/
abbrev iwScale : EReal := Ideal.ofBits FTy.f32 1023410176#32

theorem rows_at (A : FVec Ideal S512x4096 .f32) (B : FVec Ideal S1x4096 .f32) (y) : k0_pay10 (F := Ideal) A B y
    = normed (fun k => A (ix2 (y 0) k)) (fun k => B (ix2 0 k)) (y 1) := by
  unfold normed
  pointwise [k0_pay10]

theorem prod_at (H : FVec Ideal S512x4096 .bf16) (W : FVec Ideal S4096x1024 .bf16) (y) : k0_pay3 (F := Ideal) H W y
    = (∑ k : Fin 4096, H (ix2 (y 0) k) * W (ix2 k (y 1)) : EReal) := by
  pointwise [k0_pay3]

theorem small_at (H : FVec Ideal S512x4096 .bf16) (W : FVec Ideal S4096x256 .bf16) (y) : k0_pay11 (F := Ideal) H W y
    = (∑ k : Fin 4096, H (ix2 (y 0) k) * W (ix2 k (y 1)) : EReal) := by
  pointwise [k0_pay11]

theorem iw_at (z : FVec Ideal S512x256 .f32) (y : S128x512.Idx) : k0_pay2 (F := Ideal) z y
    = (z (ix2 (y 1) (Fin.ofNat 256 (128 + (y 0).val))) : EReal) * iwScale := by
  have hy : (y 0).val < 128 := (y 0).isLt
  pointwise [k0_pay2]
  congr <;> first | omega | (apply mk_eq_ofNat; omega)

theorem sums {n : ℕ} [NeZero n] (H : S512x4096.Idx → EReal) (W : (⟨2, ![4096, n]⟩ : Shape).Idx → EReal) (r : Fin 512) (p : Fin n) {b : ℕ} (h : p.val = b) :
    (∑ k : Fin 4096, H (ix2 r k) * W (ix2 k p) : EReal) = ∑ k : Fin 4096, H (ix2 r k) * W (ix2 k (Fin.ofNat n b)) := by
  rw [eq_ofNat p h]

theorem ik_at (H : FVec Ideal S512x4096 .bf16) (W : FVec Ideal S4096x256 .bf16) (A B C : FVec Ideal S1x512x128 .f32) (y : S512x128.Idx) :
    k0_pay1 (F := Ideal) (k0_pay13 H W A B) (k0_pay14 H W) C y
    = rolled 8 (fun e => k0_pay11 (F := Ideal) H W (ix2 (y 0) (Fin.ofNat 256 e))) (fun e => A (ix3 0 (y 0) (Fin.ofNat 128 e)))
      (fun e => B (ix3 0 (y 0) (Fin.ofNat 128 e))) (fun e => C (ix3 0 (y 0) (Fin.ofNat 128 e))) (y 1).val := by
  have hy : (y 1).val < 128 := (y 1).isLt
  simp only [rolled, small_at]
  pointwise [k0_pay1, k0_pay13, k0_pay14, k0_pay12, k0_pay11]
  exact three (sums H W _ _ (by first | rfl | omega | (simp only []; omega))) (at3 A _ _ _ rfl) (sums H W _ _ (by first | rfl | omega | (simp only []; omega))) (at3 B _ _ _ rfl) (sums H W _ _ (by first | rfl | omega | (simp only []; omega))) (at3 C _ _ _ rfl)

theorem tileQ0 (z : FVec Ideal S512x1024 .f32) (A B : FVec Ideal S1x16x512 .f32) (y : S128x512.Idx) : k0_pay15 (F := Ideal) z A B y
    = rope 16 (fun e => (z (ix2 (y 1) (Fin.ofNat 1024 (0 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay15]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay15]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay15]
    split_ifs <;> first | omega | (congr <;> first | omega | (apply mk_eq_ofNat; omega) | (apply eq_ofNat; omega) | (funext k; congr <;> first | omega | (apply mk_eq_ofNat; omega)))

theorem tileQ1 (z : FVec Ideal S512x1024 .f32) (A B : FVec Ideal S1x16x512 .f32) (y : S128x512.Idx) : k0_pay16 (F := Ideal) z A B y
    = rope 16 (fun e => (z (ix2 (y 1) (Fin.ofNat 1024 (128 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay16]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay16]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay16]
    split_ifs <;> first | omega | (congr <;> first | omega | (apply mk_eq_ofNat; omega) | (apply eq_ofNat; omega) | (funext k; congr <;> first | omega | (apply mk_eq_ofNat; omega)))

theorem tileQ2 (z : FVec Ideal S512x1024 .f32) (A B : FVec Ideal S1x16x512 .f32) (y : S128x512.Idx) : k0_pay17 (F := Ideal) z A B y
    = rope 16 (fun e => (z (ix2 (y 1) (Fin.ofNat 1024 (256 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay17]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay17]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay17]
    split_ifs <;> first | omega | (congr <;> first | omega | (apply mk_eq_ofNat; omega) | (apply eq_ofNat; omega) | (funext k; congr <;> first | omega | (apply mk_eq_ofNat; omega)))

theorem tileQ3 (z : FVec Ideal S512x1024 .f32) (A B : FVec Ideal S1x16x512 .f32) (y : S128x512.Idx) : k0_pay18 (F := Ideal) z A B y
    = rope 16 (fun e => (z (ix2 (y 1) (Fin.ofNat 1024 (384 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay18]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay18]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay18]
    split_ifs <;> first | omega | (congr <;> first | omega | (apply mk_eq_ofNat; omega) | (apply eq_ofNat; omega) | (funext k; congr <;> first | omega | (apply mk_eq_ofNat; omega)))

theorem tileQ4 (z : FVec Ideal S512x1024 .f32) (A B : FVec Ideal S1x16x512 .f32) (y : S128x512.Idx) : k0_pay19 (F := Ideal) z A B y
    = rope 16 (fun e => (z (ix2 (y 1) (Fin.ofNat 1024 (512 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay19]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay19]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay19]
    split_ifs <;> first | omega | (congr <;> first | omega | (apply mk_eq_ofNat; omega) | (apply eq_ofNat; omega) | (funext k; congr <;> first | omega | (apply mk_eq_ofNat; omega)))

theorem tileQ5 (z : FVec Ideal S512x1024 .f32) (A B : FVec Ideal S1x16x512 .f32) (y : S128x512.Idx) : k0_pay20 (F := Ideal) z A B y
    = rope 16 (fun e => (z (ix2 (y 1) (Fin.ofNat 1024 (640 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay20]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay20]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay20]
    split_ifs <;> first | omega | (congr <;> first | omega | (apply mk_eq_ofNat; omega) | (apply eq_ofNat; omega) | (funext k; congr <;> first | omega | (apply mk_eq_ofNat; omega)))

theorem tileQ6 (z : FVec Ideal S512x1024 .f32) (A B : FVec Ideal S1x16x512 .f32) (y : S128x512.Idx) : k0_pay21 (F := Ideal) z A B y
    = rope 16 (fun e => (z (ix2 (y 1) (Fin.ofNat 1024 (768 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay21]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay21]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay21]
    split_ifs <;> first | omega | (congr <;> first | omega | (apply mk_eq_ofNat; omega) | (apply eq_ofNat; omega) | (funext k; congr <;> first | omega | (apply mk_eq_ofNat; omega)))

theorem tileQ7 (z : FVec Ideal S512x1024 .f32) (A B : FVec Ideal S1x16x512 .f32) (y : S128x512.Idx) : k0_pay22 (F := Ideal) z A B y
    = rope 16 (fun e => (z (ix2 (y 1) (Fin.ofNat 1024 (896 + e))) : EReal) * qScale) (fun f => A (ix3 0 (Fin.ofNat 16 f) (y 1)))
      (fun f => B (ix3 0 (Fin.ofNat 16 f) (y 1))) (y 0).val := by
  have hy : (y 0).val < 128 := (y 0).isLt
  unfold rope
  rcases lt_or_ge (y 0).val 16 with h | h
  · rw [if_pos h]
    pointwise [k0_pay22]
    split_ifs <;> first | omega | (congr <;> first | omega | (apply mk_eq_ofNat; omega) | (apply eq_ofNat; omega) | (funext k; congr <;> first | omega | (apply mk_eq_ofNat; omega)))
  rcases lt_or_ge (y 0).val (2 * 16) with h' | h'
  · rw [if_neg (Nat.not_lt.mpr h), if_pos h']
    pointwise [k0_pay22]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay22]
    split_ifs <;> first | omega | (congr <;> first | omega | (apply mk_eq_ofNat; omega) | (apply eq_ofNat; omega) | (funext k; congr <;> first | omega | (apply mk_eq_ofNat; omega)))

theorem tileK0 (z : FVec Ideal S512x1024 .f32) (A B C : FVec Ideal S1x512x128 .f32) (y : S512x128.Idx) : k0_pay23 (F := Ideal) z A B C y
    = rolled 16 (fun e => z (ix2 (y 0) (Fin.ofNat 1024 (0 + e)))) (fun e => A (ix3 0 (y 0) (Fin.ofNat 128 e)))
      (fun e => B (ix3 0 (y 0) (Fin.ofNat 128 e))) (fun e => C (ix3 0 (y 0) (Fin.ofNat 128 e))) (y 1).val := by
  have hy : (y 1).val < 128 := (y 1).isLt
  simp only [rolled]
  pointwise [k0_pay23]
  exact three (at2 z _ _ (by first | rfl | omega | (simp only []; omega))) (at3 A _ _ _ rfl) (at2 z _ _ (by first | rfl | omega | (simp only []; omega))) (at3 B _ _ _ rfl) (at2 z _ _ (by first | rfl | omega | (simp only []; omega))) (at3 C _ _ _ rfl)

theorem tileK1 (z : FVec Ideal S512x1024 .f32) (A B C : FVec Ideal S1x512x128 .f32) (y : S512x128.Idx) : k0_pay24 (F := Ideal) z A B C y
    = rolled 16 (fun e => z (ix2 (y 0) (Fin.ofNat 1024 (128 + e)))) (fun e => A (ix3 0 (y 0) (Fin.ofNat 128 e)))
      (fun e => B (ix3 0 (y 0) (Fin.ofNat 128 e))) (fun e => C (ix3 0 (y 0) (Fin.ofNat 128 e))) (y 1).val := by
  have hy : (y 1).val < 128 := (y 1).isLt
  simp only [rolled]
  pointwise [k0_pay24]
  exact three (at2 z _ _ (by first | rfl | omega | (simp only []; omega))) (at3 A _ _ _ rfl) (at2 z _ _ (by first | rfl | omega | (simp only []; omega))) (at3 B _ _ _ rfl) (at2 z _ _ (by first | rfl | omega | (simp only []; omega))) (at3 C _ _ _ rfl)

theorem tileK2 (z : FVec Ideal S512x1024 .f32) (A B C : FVec Ideal S1x512x128 .f32) (y : S512x128.Idx) : k0_pay25 (F := Ideal) z A B C y
    = rolled 16 (fun e => z (ix2 (y 0) (Fin.ofNat 1024 (256 + e)))) (fun e => A (ix3 0 (y 0) (Fin.ofNat 128 e)))
      (fun e => B (ix3 0 (y 0) (Fin.ofNat 128 e))) (fun e => C (ix3 0 (y 0) (Fin.ofNat 128 e))) (y 1).val := by
  have hy : (y 1).val < 128 := (y 1).isLt
  simp only [rolled]
  pointwise [k0_pay25]
  exact three (at2 z _ _ (by first | rfl | omega | (simp only []; omega))) (at3 A _ _ _ rfl) (at2 z _ _ (by first | rfl | omega | (simp only []; omega))) (at3 B _ _ _ rfl) (at2 z _ _ (by first | rfl | omega | (simp only []; omega))) (at3 C _ _ _ rfl)

theorem tileK3 (z : FVec Ideal S512x1024 .f32) (A B C : FVec Ideal S1x512x128 .f32) (y : S512x128.Idx) : k0_pay26 (F := Ideal) z A B C y
    = rolled 16 (fun e => z (ix2 (y 0) (Fin.ofNat 1024 (384 + e)))) (fun e => A (ix3 0 (y 0) (Fin.ofNat 128 e)))
      (fun e => B (ix3 0 (y 0) (Fin.ofNat 128 e))) (fun e => C (ix3 0 (y 0) (Fin.ofNat 128 e))) (y 1).val := by
  have hy : (y 1).val < 128 := (y 1).isLt
  simp only [rolled]
  pointwise [k0_pay26]
  exact three (at2 z _ _ (by first | rfl | omega | (simp only []; omega))) (at3 A _ _ _ rfl) (at2 z _ _ (by first | rfl | omega | (simp only []; omega))) (at3 B _ _ _ rfl) (at2 z _ _ (by first | rfl | omega | (simp only []; omega))) (at3 C _ _ _ rfl)

theorem tileV0 (H : FVec Ideal S512x4096 .bf16) (W : FVec Ideal S4096x1024 .bf16) (y : S128x512.Idx) : k0_pay4 (F := Ideal) H W y
    = k0_pay3 (F := Ideal) H W (ix2 (y 1) (Fin.ofNat 1024 (512 + (y 0).val))) := by
  have hy : (y 0).val < 128 := (y 0).isLt
  rw [prod_at]
  pointwise [k0_pay4, k0_pay3]
  congr <;> first | omega | (apply mk_eq_ofNat; omega) | (apply eq_ofNat; omega) | (funext k; congr <;> first | omega | (apply mk_eq_ofNat; omega))

theorem tileV1 (H : FVec Ideal S512x4096 .bf16) (W : FVec Ideal S4096x1024 .bf16) (y : S128x512.Idx) : k0_pay5 (F := Ideal) H W y
    = k0_pay3 (F := Ideal) H W (ix2 (y 1) (Fin.ofNat 1024 (640 + (y 0).val))) := by
  have hy : (y 0).val < 128 := (y 0).isLt
  rw [prod_at]
  pointwise [k0_pay5, k0_pay3]
  congr <;> first | omega | (apply mk_eq_ofNat; omega) | (apply eq_ofNat; omega) | (funext k; congr <;> first | omega | (apply mk_eq_ofNat; omega))

theorem tileV2 (H : FVec Ideal S512x4096 .bf16) (W : FVec Ideal S4096x1024 .bf16) (y : S128x512.Idx) : k0_pay6 (F := Ideal) H W y
    = k0_pay3 (F := Ideal) H W (ix2 (y 1) (Fin.ofNat 1024 (768 + (y 0).val))) := by
  have hy : (y 0).val < 128 := (y 0).isLt
  rw [prod_at]
  pointwise [k0_pay6, k0_pay3]
  congr <;> first | omega | (apply mk_eq_ofNat; omega) | (apply eq_ofNat; omega) | (funext k; congr <;> first | omega | (apply mk_eq_ofNat; omega))

theorem tileV3 (H : FVec Ideal S512x4096 .bf16) (W : FVec Ideal S4096x1024 .bf16) (y : S128x512.Idx) : k0_pay7 (F := Ideal) H W y
    = k0_pay3 (F := Ideal) H W (ix2 (y 1) (Fin.ofNat 1024 (896 + (y 0).val))) := by
  have hy : (y 0).val < 128 := (y 0).isLt
  rw [prod_at]
  pointwise [k0_pay7, k0_pay3]
  congr <;> first | omega | (apply mk_eq_ofNat; omega) | (apply eq_ofNat; omega) | (funext k; congr <;> first | omega | (apply mk_eq_ofNat; omega))

theorem tileI0 (z : FVec Ideal S512x1024 .f32) (A B : FVec Ideal S1x8x512 .f32) (y : S128x512.Idx) : k0_pay27 (F := Ideal) z A B y
    = rope 8 (fun e => z (ix2 (y 1) (Fin.ofNat 1024 (0 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay27]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay27]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay27]
    split_ifs <;> first | omega | (congr <;> first | omega | (apply mk_eq_ofNat; omega) | (apply eq_ofNat; omega) | (funext k; congr <;> first | omega | (apply mk_eq_ofNat; omega)))

theorem tileI1 (z : FVec Ideal S512x1024 .f32) (A B : FVec Ideal S1x8x512 .f32) (y : S128x512.Idx) : k0_pay39 (F := Ideal) (k0_pay28 z) (k0_pay29 A) (k0_pay30 B) (k0_pay33 z A B) (k0_pay34 z A B) (k0_pay35 z) (k0_pay36 z) (k0_pay37 z) (k0_pay38 z A) y
    = rope 8 (fun e => z (ix2 (y 1) (Fin.ofNat 1024 (128 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay39, k0_pay28, k0_pay29, k0_pay30, k0_pay31, k0_pay32, k0_pay33, k0_pay34, k0_pay35, k0_pay36, k0_pay37, k0_pay38]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay39, k0_pay28, k0_pay29, k0_pay30, k0_pay31, k0_pay32, k0_pay33, k0_pay34, k0_pay35, k0_pay36, k0_pay37, k0_pay38]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay39, k0_pay28, k0_pay29, k0_pay30, k0_pay31, k0_pay32, k0_pay33, k0_pay34, k0_pay35, k0_pay36, k0_pay37, k0_pay38]
    split_ifs <;> first | omega | (congr <;> first | omega | (apply mk_eq_ofNat; omega) | (apply eq_ofNat; omega) | (funext k; congr <;> first | omega | (apply mk_eq_ofNat; omega)))

theorem tileI2 (z : FVec Ideal S512x1024 .f32) (A B : FVec Ideal S1x8x512 .f32) (y : S128x512.Idx) : k0_pay40 (F := Ideal) z A B y
    = rope 8 (fun e => z (ix2 (y 1) (Fin.ofNat 1024 (256 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay40]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay40]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay40]
    split_ifs <;> first | omega | (congr <;> first | omega | (apply mk_eq_ofNat; omega) | (apply eq_ofNat; omega) | (funext k; congr <;> first | omega | (apply mk_eq_ofNat; omega)))

theorem tileI3 (z : FVec Ideal S512x1024 .f32) (A B : FVec Ideal S1x8x512 .f32) (y : S128x512.Idx) : k0_pay44 (F := Ideal) (k0_pay41 z) (k0_pay42 A) (k0_pay43 B) y
    = rope 8 (fun e => z (ix2 (y 1) (Fin.ofNat 1024 (384 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay44, k0_pay41, k0_pay42, k0_pay43]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay44, k0_pay41, k0_pay42, k0_pay43]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay44, k0_pay41, k0_pay42, k0_pay43]
    split_ifs <;> first | omega | (congr <;> first | omega | (apply mk_eq_ofNat; omega) | (apply eq_ofNat; omega) | (funext k; congr <;> first | omega | (apply mk_eq_ofNat; omega)))

theorem tileI4 (z : FVec Ideal S512x1024 .f32) (A B : FVec Ideal S1x8x512 .f32) (y : S128x512.Idx) : k0_pay45 (F := Ideal) z A B y
    = rope 8 (fun e => z (ix2 (y 1) (Fin.ofNat 1024 (512 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay45]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay45]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay45]
    split_ifs <;> first | omega | (congr <;> first | omega | (apply mk_eq_ofNat; omega) | (apply eq_ofNat; omega) | (funext k; congr <;> first | omega | (apply mk_eq_ofNat; omega)))

theorem tileI5 (z : FVec Ideal S512x1024 .f32) (A B : FVec Ideal S1x8x512 .f32) (y : S128x512.Idx) : k0_pay46 (F := Ideal) z A B y
    = rope 8 (fun e => z (ix2 (y 1) (Fin.ofNat 1024 (640 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay46]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay46]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay46]
    split_ifs <;> first | omega | (congr <;> first | omega | (apply mk_eq_ofNat; omega) | (apply eq_ofNat; omega) | (funext k; congr <;> first | omega | (apply mk_eq_ofNat; omega)))

theorem tileI6 (z : FVec Ideal S512x1024 .f32) (A B : FVec Ideal S1x8x512 .f32) (y : S128x512.Idx) : k0_pay8 (F := Ideal) (k0_pay47 z) (k0_pay48 A) (k0_pay49 B) (k0_pay52 z A B) (k0_pay53 z A B) (k0_pay54 z) (k0_pay55 z) (k0_pay56 z) (k0_pay57 z A) y
    = rope 8 (fun e => z (ix2 (y 1) (Fin.ofNat 1024 (768 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    pointwise [k0_pay8, k0_pay47, k0_pay48, k0_pay49, k0_pay50, k0_pay51, k0_pay52, k0_pay53, k0_pay54, k0_pay55, k0_pay56, k0_pay57]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    pointwise [k0_pay8, k0_pay47, k0_pay48, k0_pay49, k0_pay50, k0_pay51, k0_pay52, k0_pay53, k0_pay54, k0_pay55, k0_pay56, k0_pay57]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    pointwise [k0_pay8, k0_pay47, k0_pay48, k0_pay49, k0_pay50, k0_pay51, k0_pay52, k0_pay53, k0_pay54, k0_pay55, k0_pay56, k0_pay57]
    split_ifs <;> first | omega | (congr <;> first | omega | (apply mk_eq_ofNat; omega) | (apply eq_ofNat; omega) | (funext k; congr <;> first | omega | (apply mk_eq_ofNat; omega)))

theorem tileI7 (H : FVec Ideal S512x4096 .bf16) (W : FVec Ideal S4096x1024 .bf16) (A B : FVec Ideal S1x8x512 .f32) (y : S128x512.Idx) : k0_pay9 (F := Ideal) H W A B y
    = rope 8 (fun e => k0_pay3 (F := Ideal) H W (ix2 (y 1) (Fin.ofNat 1024 (896 + (y 0).val / 64 * 64 + e)))) (fun f => A (ix3 0 (Fin.ofNat 8 f) (y 1)))
      (fun f => B (ix3 0 (Fin.ofNat 8 f) (y 1))) ((y 0).val % 64) := by
  have hy : (y 0).val < 128 := (y 0).isLt
  unfold rope
  rcases lt_or_ge ((y 0).val % 64) 8 with h | h
  · rw [if_pos h]
    simp only [prod_at]
    pointwise [k0_pay9, k0_pay3]
    split_ifs <;> first | omega | (congr <;> first | omega | (apply mk_eq_ofNat; omega) | (apply eq_ofNat; omega) | (funext k; congr <;> first | omega | (apply mk_eq_ofNat; omega)))
  rcases lt_or_ge ((y 0).val % 64) (2 * 8) with h' | h'
  · rw [if_neg (Nat.not_lt.mpr h), if_pos h']
    simp only [prod_at]
    pointwise [k0_pay9, k0_pay3]
    split_ifs <;> first | omega | (congr <;> first | omega | (apply mk_eq_ofNat; omega) | (apply eq_ofNat; omega) | (funext k; congr <;> first | omega | (apply mk_eq_ofNat; omega)))
  · rw [if_neg (Nat.not_lt.mpr h), if_neg (Nat.not_lt.mpr h')]
    simp only [prod_at]
    pointwise [k0_pay9, k0_pay3]
    split_ifs <;> first | omega | (congr <;> first | omega | (apply mk_eq_ofNat; omega) | (apply eq_ofNat; omega) | (funext k; congr <;> first | omega | (apply mk_eq_ofNat; omega)))

end Cert.Proof.InProj

end
-- ==== Proof.InProjRef.lean ====
/-
  The reference of the input projection over extended reals, at a place: every result is a channel of the normalised row's products
  with the weights, turned by the cosine and sine of its position where the reference turns it.
-/
module

public import Idealize.ShloMosaic.Lib.Pipeline.ValueKit
public import proofs.«01_k».proof.Defs
public import proofs.«01_k».proof.Proof.InProjTiles
public import proofs.«01_k».proof.Proof.Gen.Reference7Ideal.Run

@[expose] public section

set_option maxRecDepth 16384

noncomputable section

namespace Cert.Proof.InProj

open Idealize.ShloMosaic Idealize.ShloMosaic.TcCoe Idealize.ShloMosaic.Tactic Idealize.ShloMosaic.StableHlo

/-- The product of token `n`'s normalised row with column `d` of the weights. -/
def zt (X : (⟨3, ![2, 8192, 4096]⟩ : Shape).Idx → EReal) (G : (⟨2, ![1, 4096]⟩ : Shape).Idx → EReal)
    (W : (⟨3, ![1, 4096, 6224]⟩ : Shape).Idx → EReal) (n d : ℕ) : EReal :=
  ∑ k : Fin 4096, normed (fun j => X (ix3 (Fin.ofNat 2 (n / 8192)) (Fin.ofNat 8192 n) j)) (fun j => G (ix2 0 j)) k * W (ix3 0 k (Fin.ofNat 6224 d))

/-- The angle of frequency `f` at position `s`, the base's exponents over `den`. -/
def angle (den : BitVec 32) (s f : ℕ) : EReal :=
  FloatOps.sitofp (F := Ideal) FTy.f32 (BitVec.ofNat 32 s) * Ideal.pow (Ideal.ofBits FTy.f32 1223959552#32)
    (Ideal.div (-(Ideal.ofBits FTy.f32 1073741824#32 * FloatOps.sitofp (F := Ideal) FTy.f32 (BitVec.ofNat 32 f))) (Ideal.ofBits FTy.f32 den))

def cosn (den : BitVec 32) (s f : ℕ) : EReal := Ideal.cos (angle den s f)
def sinn (den : BitVec 32) (s f : ℕ) : EReal := Ideal.sin (angle den s f)

/-- The exponents' denominators: thirty-two for the heads of width 128, sixteen for those of width 64. -/
abbrev denA : BitVec 32 := 1107296256#32
abbrev denI : BitVec 32 := 1098907648#32

variable (Z : ℕ → EReal) (s : ℕ)

/-- A query channel: channel `r % 128` of head `r / 128`, turned and scaled. -/
def qv (r : ℕ) : EReal := rope 16 (fun e => Z (r / 128 * 128 + e)) (cosn denA s) (sinn denA s) (r % 128) * qScale
/-- A key channel. -/
def kv (r : ℕ) : EReal := rope 16 (fun e => Z (2048 + r / 128 * 128 + e)) (cosn denA s) (sinn denA s) (r % 128)
/-- An index query channel: heads of width 64. -/
def iqv (r : ℕ) : EReal := rope 8 (fun e => Z (3072 + r / 64 * 64 + e)) (cosn denI s) (sinn denI s) (r % 64)
/-- The index key's channels, and zeros past them. -/
def ikv (d : ℕ) : EReal := if d < 64 then rope 8 (fun e => Z (4096 + e)) (cosn denI s) (sinn denI s) d else 0
/-- The index weights, scaled, and zeros past them. -/
def iwv (r : ℕ) : EReal := if r < 16 then Z (4160 + r) * iwScale else 0

section
open Cert.Reference7Ideal Cert.Reference7Ideal.Gen Cert.Reference7Ideal.Value

variable (X : FVec Ideal S2x8192x4096 .f32) (G : FVec Ideal S1x4096 .f32) (W : FVec Ideal S1x4096x6224 .f32)

/-- The seven results as functions of the arguments. -/
def resQ : FVec Ideal S2048x16384 .bf16 := fun y => qv (zt X G W (y 1).val) ((y 1).val % 8192) (y 0).val
def resK : FVec Ideal S16384x512 .bf16 := fun y => kv (zt X G W (y 0).val) ((y 0).val % 8192) (y 1).val
def resV : FVec Ideal S512x16384 .bf16 := fun y => zt X G W (y 1).val (2560 + (y 0).val)
def resI : FVec Ideal S1024x16384 .bf16 := fun y => iqv (zt X G W (y 1).val) ((y 1).val % 8192) (y 0).val
def resIk : FVec Ideal S16384x128 .bf16 := fun y => ikv (zt X G W (y 0).val) ((y 0).val % 8192) (y 1).val
def resIw : FVec Ideal S128x16384 .f32 := fun y => iwv (zt X G W (y 1).val) (y 0).val
def resU : FVec Ideal S16384x2048 .f32 := fun y => zt X G W (y 0).val (4176 + (y 1).val)

variable (V0 : Valuation τ sig (Elt Ideal))

theorem v17_at (y : S8192x16.Idx) : (res_main_v17 V0 : FVec Ideal S8192x16 .f32) y = cosn denA (y 0).val (y 1).val := by
  unfold cosn angle
  pointwise [res_main_v17, res_main_v16, res_main_v0]

theorem v18_at (y : S8192x16.Idx) : (res_main_v18 V0 : FVec Ideal S8192x16 .f32) y = sinn denA (y 0).val (y 1).val := by
  unfold sinn angle
  pointwise [res_main_v18, res_main_v16, res_main_v0]

theorem v35_at (y : S8192x8.Idx) : (res_main_v35 V0 : FVec Ideal S8192x8 .f32) y = cosn denI (y 0).val (y 1).val := by
  unfold cosn angle
  pointwise [res_main_v35, res_main_v34, res_main_v0]

theorem v36_at (y : S8192x8.Idx) : (res_main_v36 V0 : FVec Ideal S8192x8 .f32) y = sinn denI (y 0).val (y 1).val := by
  unfold sinn angle
  pointwise [res_main_v36, res_main_v34, res_main_v0]

theorem ofNat_val {n : ℕ} [NeZero n] (a : Fin n) : Fin.ofNat n a.val = a := Fin.ext (Nat.mod_eq_of_lt a.isLt)

theorem v52_at (b : Fin 2) (s : Fin 8192) (d : Fin 6224) (n e : ℕ) (hn : n = b.val * 8192 + s.val) (he : e = d.val) :
    (res_main_v52 V0 : FVec Ideal S2x8192x6224 .f32) (ix3 b s d)
    = zt (V0 (Proc.devRef .tc main_arg0)) (V0 (Proc.devRef .tc main_arg1)) (V0 (Proc.devRef .tc main_arg2)) n e := by
  subst hn he
  have h1 : Fin.ofNat 2 ((b.val * 8192 + s.val) / 8192) = b := Fin.ext (by show (b.val * 8192 + s.val) / 8192 % 2 = b.val; omega)
  have h2 : Fin.ofNat 8192 (b.val * 8192 + s.val) = s := Fin.ext (by show (b.val * 8192 + s.val) % 8192 = s.val; omega)
  unfold zt normed
  rw [h1, h2, ofNat_val]
  pointwise [res_main_v52]

theorem subs {a b c d a' b' c' d' : EReal} (h1 : a = a') (h2 : b = b') (h3 : c = c') (h4 : d = d') : a * b - c * d = a' * b' - c' * d' := by
  rw [h1, h2, h3, h4]

theorem adds {a b c d a' b' c' d' : EReal} (h1 : a = a') (h2 : b = b') (h3 : c = c') (h4 : d = d') : a * b + c * d = a' * b' + c' * d' := by
  rw [h1, h2, h3, h4]

theorem scaled {a b q : EReal} (h : a = b) : a * q = b * q := by
  rw [h]

set_option maxHeartbeats 1000000 in
/-- The queries. -/
theorem ref_q : (val4 V0 (Proc.devRef .tc main_v154) : FVec Ideal S2048x16384 .bf16) = resQ (V0 (Proc.devRef .tc main_arg0)) (V0 (Proc.devRef .tc main_arg1)) (V0 (Proc.devRef .tc main_arg2)) := by
  funext y
  have hy0 : (y 0).val < 2048 := (y 0).isLt
  have hy1 : (y 1).val < 16384 := (y 1).isLt
  rw [val4_main_v154]
  unfold resQ qv rope
  by_cases h1 : (y 0).val % 128 < 16
  · rw [if_pos h1]
    pointwise [res_main_v60, res_main_v61, res_main_v62, res_main_v63, res_main_v64]
    rw [dif_pos h1]
    exact scaled (subs (v52_at V0 _ _ _ _ _ (by first | omega | (dsimp only; first | done | omega)) (by first | omega | (dsimp only; first | done | omega))) (v17_at V0 _) (v52_at V0 _ _ _ _ _ (by first | omega | (dsimp only; first | done | omega)) (by first | omega | (dsimp only; first | done | omega))) (v18_at V0 _))
  by_cases h2 : (y 0).val % 128 < 2 * 16
  · rw [if_neg h1, if_pos h2]
    pointwise [res_main_v60, res_main_v61, res_main_v62, res_main_v63, res_main_v64]
    rw [dif_neg h1, dif_pos (by omega)]
    exact scaled (adds (v52_at V0 _ _ _ _ _ (by first | omega | (dsimp only; first | done | omega)) (by first | omega | (dsimp only; first | done | omega))) (v17_at V0 _) (v52_at V0 _ _ _ _ _ (by first | omega | (dsimp only; first | done | omega)) (by first | omega | (dsimp only; first | done | omega))) (v18_at V0 _))
  · rw [if_neg h1, if_neg h2]
    pointwise [res_main_v60, res_main_v61, res_main_v62, res_main_v63, res_main_v64]
    rw [dif_neg h1, dif_neg (by omega)]
    (try split_ifs) <;> exact scaled ((v52_at V0 _ _ _ _ _ (by first | omega | (dsimp only; first | done | omega)) (by first | omega | (dsimp only; first | done | omega))))

set_option maxHeartbeats 1000000 in
/-- The keys. -/
theorem ref_k : (val4 V0 (Proc.devRef .tc main_v156) : FVec Ideal S16384x512 .bf16) = resK (V0 (Proc.devRef .tc main_arg0)) (V0 (Proc.devRef .tc main_arg1)) (V0 (Proc.devRef .tc main_arg2)) := by
  funext y
  have hy0 : (y 0).val < 16384 := (y 0).isLt
  have hy1 : (y 1).val < 512 := (y 1).isLt
  rw [val4_main_v156]
  unfold resK kv rope
  by_cases h1 : (y 1).val % 128 < 16
  · rw [if_pos h1]
    pointwise [res_main_v81, res_main_v82, res_main_v83, res_main_v84, res_main_v85]
    rw [dif_pos h1]
    exact subs (v52_at V0 _ _ _ _ _ (by first | omega | (dsimp only; first | done | omega)) (by first | omega | (dsimp only; first | done | omega))) (v17_at V0 _) (v52_at V0 _ _ _ _ _ (by first | omega | (dsimp only; first | done | omega)) (by first | omega | (dsimp only; first | done | omega))) (v18_at V0 _)
  by_cases h2 : (y 1).val % 128 < 2 * 16
  · rw [if_neg h1, if_pos h2]
    pointwise [res_main_v81, res_main_v82, res_main_v83, res_main_v84, res_main_v85]
    rw [dif_neg h1, dif_pos (by omega)]
    exact adds (v52_at V0 _ _ _ _ _ (by first | omega | (dsimp only; first | done | omega)) (by first | omega | (dsimp only; first | done | omega))) (v17_at V0 _) (v52_at V0 _ _ _ _ _ (by first | omega | (dsimp only; first | done | omega)) (by first | omega | (dsimp only; first | done | omega))) (v18_at V0 _)
  · rw [if_neg h1, if_neg h2]
    pointwise [res_main_v81, res_main_v82, res_main_v83, res_main_v84, res_main_v85]
    rw [dif_neg h1, dif_neg (by omega)]
    (try split_ifs) <;> exact (v52_at V0 _ _ _ _ _ (by first | omega | (dsimp only; first | done | omega)) (by first | omega | (dsimp only; first | done | omega)))

/-- The values. -/
theorem ref_v : (val4 V0 (Proc.devRef .tc main_v159) : FVec Ideal S512x16384 .bf16) = resV (V0 (Proc.devRef .tc main_arg0)) (V0 (Proc.devRef .tc main_arg1)) (V0 (Proc.devRef .tc main_arg2)) := by
  funext y
  have hy0 := (y 0).isLt
  have hy1 := (y 1).isLt
  rw [val4_main_v159]
  unfold resV
  pointwise []
  rw [v52_at V0 _ _ _ (y 1).val (2560 + (y 0).val)]
  all_goals dsimp only
  all_goals omega

/-- The part for the pooling layer. -/
theorem ref_u : (val4 V0 (Proc.devRef .tc main_v165) : FVec Ideal S16384x2048 .f32) = resU (V0 (Proc.devRef .tc main_arg0)) (V0 (Proc.devRef .tc main_arg1)) (V0 (Proc.devRef .tc main_arg2)) := by
  funext y
  have hy0 := (y 0).isLt
  have hy1 := (y 1).isLt
  rw [val4_main_v165]
  unfold resU
  pointwise []
  rw [v52_at V0 _ _ _ (y 0).val (4176 + (y 1).val)]
  all_goals dsimp only
  all_goals omega

set_option maxHeartbeats 1000000 in
/-- The index queries. -/
theorem ref_i : (val4 V0 (Proc.devRef .tc main_v162) : FVec Ideal S1024x16384 .bf16) = resI (V0 (Proc.devRef .tc main_arg0)) (V0 (Proc.devRef .tc main_arg1)) (V0 (Proc.devRef .tc main_arg2)) := by
  funext y
  have hy0 : (y 0).val < 1024 := (y 0).isLt
  have hy1 : (y 1).val < 16384 := (y 1).isLt
  rw [val4_main_v162]
  unfold resI iqv rope
  by_cases h1 : (y 0).val % 64 < 8
  · rw [if_pos h1]
    pointwise [res_main_v102, res_main_v103, res_main_v104, res_main_v105, res_main_v106]
    rw [dif_pos h1]
    exact subs (v52_at V0 _ _ _ _ _ (by first | omega | (dsimp only; first | done | omega)) (by first | omega | (dsimp only; first | done | omega))) (v35_at V0 _) (v52_at V0 _ _ _ _ _ (by first | omega | (dsimp only; first | done | omega)) (by first | omega | (dsimp only; first | done | omega))) (v36_at V0 _)
  by_cases h2 : (y 0).val % 64 < 2 * 8
  · rw [if_neg h1, if_pos h2]
    pointwise [res_main_v102, res_main_v103, res_main_v104, res_main_v105, res_main_v106]
    rw [dif_neg h1, dif_pos (by omega)]
    exact adds (v52_at V0 _ _ _ _ _ (by first | omega | (dsimp only; first | done | omega)) (by first | omega | (dsimp only; first | done | omega))) (v35_at V0 _) (v52_at V0 _ _ _ _ _ (by first | omega | (dsimp only; first | done | omega)) (by first | omega | (dsimp only; first | done | omega))) (v36_at V0 _)
  · rw [if_neg h1, if_neg h2]
    pointwise [res_main_v102, res_main_v103, res_main_v104, res_main_v105, res_main_v106]
    rw [dif_neg h1, dif_neg (by omega)]
    (try split_ifs) <;> exact (v52_at V0 _ _ _ _ _ (by first | omega | (dsimp only; first | done | omega)) (by first | omega | (dsimp only; first | done | omega)))

theorem zero_int : FloatOps.sitofp (F := Ideal) FTy.f32 (0#32) = 0 := by
  show (((0#32 : BitVec 32).toInt : ℝ) : EReal) = 0
  simp

set_option maxHeartbeats 1000000 in
/-- The index keys. -/
theorem ref_ik : (val4 V0 (Proc.devRef .tc main_v163) : FVec Ideal S16384x128 .bf16) = resIk (V0 (Proc.devRef .tc main_arg0)) (V0 (Proc.devRef .tc main_arg1)) (V0 (Proc.devRef .tc main_arg2)) := by
  funext y
  have hy0 : (y 0).val < 16384 := (y 0).isLt
  have hy1 : (y 1).val < 128 := (y 1).isLt
  rw [val4_main_v163]
  unfold resIk ikv rope
  by_cases hz : (y 1).val < 64
  swap
  · rw [if_neg hz]
    pointwise [res_main_v123, res_main_v124, res_main_v125, res_main_v126, res_main_v127]
    rw [dif_neg hz]
    exact zero_int
  rw [if_pos hz]
  by_cases h1 : (y 1).val < 8
  · rw [if_pos h1]
    pointwise [res_main_v123, res_main_v124, res_main_v125, res_main_v126, res_main_v127]
    rw [dif_pos hz, dif_pos h1]
    exact subs (v52_at V0 _ _ _ _ _ (by first | omega | (dsimp only; first | done | omega)) (by first | omega | (dsimp only; first | done | omega))) (v35_at V0 _) (v52_at V0 _ _ _ _ _ (by first | omega | (dsimp only; first | done | omega)) (by first | omega | (dsimp only; first | done | omega))) (v36_at V0 _)
  by_cases h2 : (y 1).val < 2 * 8
  · rw [if_neg h1, if_pos h2]
    pointwise [res_main_v123, res_main_v124, res_main_v125, res_main_v126, res_main_v127]
    rw [dif_pos hz, dif_neg h1, dif_pos (by omega)]
    exact adds (v52_at V0 _ _ _ _ _ (by first | omega | (dsimp only; first | done | omega)) (by first | omega | (dsimp only; first | done | omega))) (v35_at V0 _) (v52_at V0 _ _ _ _ _ (by first | omega | (dsimp only; first | done | omega)) (by first | omega | (dsimp only; first | done | omega))) (v36_at V0 _)
  · rw [if_neg h1, if_neg h2]
    pointwise [res_main_v123, res_main_v124, res_main_v125, res_main_v126, res_main_v127]
    rw [dif_pos hz, dif_neg h1, dif_neg (by omega)]
    (try split_ifs) <;> exact (v52_at V0 _ _ _ _ _ (by first | omega | (dsimp only; first | done | omega)) (by first | omega | (dsimp only; first | done | omega)))

/-- The index weights. -/
theorem ref_iw : (val4 V0 (Proc.devRef .tc main_v164) : FVec Ideal S128x16384 .f32) = resIw (V0 (Proc.devRef .tc main_arg0)) (V0 (Proc.devRef .tc main_arg1)) (V0 (Proc.devRef .tc main_arg2)) := by
  funext y
  have hy0 : (y 0).val < 128 := (y 0).isLt
  have hy1 : (y 1).val < 16384 := (y 1).isLt
  rw [val4_main_v164]
  unfold resIw iwv
  pointwise []
  by_cases h : (y 0).val < 16
  · rw [dif_pos h, if_pos h, v52_at V0 _ _ _ (y 1).val (4160 + (y 0).val)]
    all_goals first | rfl | omega | (dsimp only; omega)
  · rw [dif_neg h, if_neg h]
    exact zero_int

end
end Cert.Proof.InProj
end
-- ==== Proof.InProjIn.lean ====
/-
  What the host code of the input projection's call puts in the arrays of its windows, at a place, and each window's block at a
  place: the rows of `x` one after another, the gain, the weights' columns in two arrays (one padded by zeros), and the cosines and
  sines of the positions laid out as the body reads them.
-/
module

public import Idealize.ShloMosaic.Lib.StableHlo.RunRead
public import Idealize.ShloMosaic.Lib.Pipeline.ValueKit
public import proofs.«01_k».proof.Defs
public import proofs.«01_k».proof.Proof.InProjTiles
public import proofs.«01_k».proof.Proof.InProjRef
public import proofs.«01_k».proof.Proof.Gen.Kernel7Ideal.Frame
public import proofs.«01_k».proof.Proof.Gen.Kernel7Ideal.Points

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic

theorem idx : ∀ t : Fin cfg0.N, win0_0.index t = ![0, 0] ∧ win0_1.index t = ![0, t.val % 6] ∧ win0_2.index t = ![0, 0]
    ∧ win0_3.index t = ![0, t.val / 6 % 16, 0] ∧ win0_4.index t = ![0, t.val / 6 % 16, 0] ∧ win0_5.index t = ![0, 0, t.val / 6 % 16]
    ∧ win0_6.index t = ![0, 0, t.val / 6 % 16] ∧ win0_7.index t = ![t.val / 6, 0] ∧ win0_8.index t = ![min (t.val % 6) 1, t.val / 6]
    ∧ win0_9.index t = ![t.val / 6, 0] ∧ win0_10.index t = ![0, t.val / 6] ∧ win0_11.index t = ![0, t.val / 6]
    ∧ win0_12.index t = ![t.val / 6, 0] ∧ win0_13.index t = ![0, t.val / 6] ∧ win0_14.index t = ![t.val / 6, min (t.val % 6 - 4) 1] :=
  (by decide +kernel : ∀ t : Fin grid0.N, _)

/-- The column of the weights that column `d` of the first weight array is: the index key's and weights' columns are left out. -/
def wcol (d : ℕ) : ℕ := if d < 4096 then d else d + 80

variable (m : (ℓ : Loc nD τ sig) → Buf (Elt Ideal) ℓ) (c : Dev nD)

abbrev argX : FVec Ideal S2x8192x4096 .f32 := m ((c : Thread nD τ).loc main_arg0)
abbrev argG : FVec Ideal S1x4096 .f32 := m ((c : Thread nD τ).loc main_arg1)
abbrev argW : FVec Ideal S1x4096x6224 .f32 := m ((c : Thread nD τ).loc main_arg2)

set_option maxHeartbeats 2000000 in
theorem host_x (y : S16384x4096.Idx) : (V m c main_v100 : FVec Ideal S16384x4096 .f32) y
    = argX m c (ix3 (Fin.ofNat 2 ((y 0).val / 8192)) (Fin.ofNat 8192 (y 0).val) (y 1)) := by
  have hy : (y 0).val < 16384 := (y 0).isLt
  dsimp only [V]
  after_reads_simp
  pointwise []
  congr <;> first | rfl | (apply mk_eq_ofNat; omega) | (show (y 0).val / 8192 = (y 0).val / 8192 % 2; omega)

set_option maxHeartbeats 2000000 in
theorem host_g (y : S1x4096.Idx) : (V m c main_v102 : FVec Ideal S1x4096 .f32) y = argG m c (ix2 0 (y 1)) := by
  dsimp only [V]
  after_reads_simp
  pointwise []

set_option maxHeartbeats 2000000 in
theorem host_w (y : S4096x6144.Idx) : (V m c main_v94 : FVec Ideal S4096x6144 .bf16) y
    = argW m c (ix3 0 (y 0) (Fin.ofNat 6224 (wcol (y 1).val))) := by
  have hy : (y 1).val < 6144 := (y 1).isLt
  unfold wcol
  dsimp only [V]
  after_reads_simp
  rcases lt_or_ge (y 1).val 4096 with h | h
  · rw [if_pos h]
    pointwise []
    rw [dif_pos h]
    exact at3 _ _ _ _ rfl
  · rw [if_neg (Nat.not_lt.mpr h)]
    pointwise []
    rw [dif_neg (Nat.not_lt.mpr h)]
    exact at3 _ _ _ _ (by show 4176 + ((y 1).val - 4096) = _; omega)

set_option maxHeartbeats 2000000 in
theorem host_ws (y : S4096x256.Idx) : (V m c main_v99 : FVec Ideal S4096x256 .bf16) y
    = (if (y 1).val < 64 then argW m c (ix3 0 (y 0) (Fin.ofNat 6224 (4096 + (y 1).val))) else if (y 1).val < 128 then 0
      else if (y 1).val < 144 then argW m c (ix3 0 (y 0) (Fin.ofNat 6224 (4032 + (y 1).val))) else 0 : EReal) := by
  have hy : (y 1).val < 256 := (y 1).isLt
  dsimp only [V]
  after_reads_simp
  pointwise []
  after_reads_simp
  pointwise []
  by_cases h1 : (y 1).val < 64
  · rw [dif_pos h1, if_pos h1]
    exact at3 _ _ _ _ rfl
  rw [dif_neg h1, if_neg h1]
  by_cases h2 : (y 1).val < 128
  · rw [dif_pos (by omega), if_pos h2]
  rw [dif_neg (by omega), if_neg h2]
  by_cases h3 : (y 1).val < 144
  · rw [dif_pos (by omega), if_pos h3]
    exact at3 _ _ _ _ (by show 4160 + ((y 1).val - 64 - 64) = _; omega)
  rw [dif_neg (by omega), if_neg h3]

set_option maxHeartbeats 2000000 in
theorem host_ta (y : S2x16x8192.Idx) : (V m c main_v23 : FVec Ideal S2x16x8192 .f32) y
    = if (y 0).val < 1 then cosn denA (y 2).val (y 1).val else sinn denA (y 2).val (y 1).val := by
  unfold cosn sinn angle
  dsimp only [V]
  after_reads_simp
  pointwise []
  rfl

set_option maxHeartbeats 2000000 in
theorem host_ti (y : S2x8x8192.Idx) : (V m c main_v68 : FVec Ideal S2x8x8192 .f32) y
    = if (y 0).val < 1 then cosn denI (y 2).val (y 1).val else sinn denI (y 2).val (y 1).val := by
  unfold cosn sinn angle
  dsimp only [V]
  after_reads_simp
  pointwise []
  rfl

/-- The factor of a channel itself. -/
def facA (half den s e : ℕ) : EReal :=
  if e < half then cosn (BitVec.ofNat 32 den) s e else if e < 2 * half then cosn (BitVec.ofNat 32 den) s (e - half) else 1
/-- The factor of the channel `half` above. -/
def facB (half den s e : ℕ) : EReal := if e < half then -sinn (BitVec.ofNat 32 den) s e else 0
/-- The factor of the channel `half` below. -/
def facC (half den s e : ℕ) : EReal :=
  if e < half then 0 else if e < 2 * half then sinn (BitVec.ofNat 32 den) s (e - half) else 0

set_option maxHeartbeats 2000000 in
theorem host_a (y : S3x8192x128.Idx) : (V m c main_v44 : FVec Ideal S3x8192x128 .f32) y
    = if (y 0).val < 1 then facA 16 1107296256 (y 1).val (y 2).val else if (y 0).val < 2 then facB 16 1107296256 (y 1).val (y 2).val
      else facC 16 1107296256 (y 1).val (y 2).val := by
  have hy : (y 2).val < 128 := (y 2).isLt
  unfold facA facB facC cosn sinn angle
  dsimp only [V]
  after_reads_simp
  pointwise []
  after_reads_simp
  pointwise []
  after_reads_simp
  pointwise []
  split_ifs <;> first | omega | rfl

set_option maxHeartbeats 2000000 in
theorem host_i (y : S3x8192x128.Idx) : (V m c main_v89 : FVec Ideal S3x8192x128 .f32) y
    = if (y 0).val < 1 then facA 8 1098907648 (y 1).val ((y 2).val % 64) else if (y 0).val < 2 then facB 8 1098907648 (y 1).val ((y 2).val % 64)
      else facC 8 1098907648 (y 1).val ((y 2).val % 64) := by
  have hy : (y 2).val < 128 := (y 2).isLt
  unfold facA facB facC cosn sinn angle
  dsimp only [V]
  after_reads_simp
  pointwise []
  after_reads_simp
  pointwise []
  after_reads_simp
  pointwise []
  split_ifs <;> first | omega | rfl

variable (t : Fin cfg0.N)

theorem blk0 (A : FVec Ideal S1x4096 .f32) (y : S1x4096.Idx) : ((cfg0.win 0).blk t).view.read (Elt Ideal) A y = A (ix2 0 (y 1)) := by
  have h : (y 0).val < 1 := (y 0).isLt
  obtain ⟨d, hd⟩ : ∃ d : Fin 4096, d = y 1 := ⟨_, rfl⟩
  have hd' : (y 1).val = d.val := congrArg Fin.val hd.symm
  rw [← hd]
  blk_point [idx t]

theorem blk1 (A : FVec Ideal S4096x6144 .bf16) (y : S4096x1024.Idx) (d : Fin 6144) (h : t.val % 6 * 1024 + (y 1).val = d.val) :
    ((cfg0.win 1).blk t).view.read (Elt Ideal) A y = A (ix2 (y 0) d) := by
  blk_point [idx t]

theorem blk2 (A : FVec Ideal S4096x256 .bf16) (y : S4096x256.Idx) : ((cfg0.win 2).blk t).view.read (Elt Ideal) A y = A (ix2 (y 0) (y 1)) := by
  blk_point [idx t]

theorem blk3 (A : FVec Ideal S3x8192x128 .f32) (y : S3x512x128.Idx) (s : Fin 8192) (h : t.val / 6 % 16 * 512 + (y 1).val = s.val) :
    ((cfg0.win 3).blk t).view.read (Elt Ideal) A y = A (ix3 (y 0) s (y 2)) := by
  blk_point [idx t]

theorem blk4 (A : FVec Ideal S3x8192x128 .f32) (y : S3x512x128.Idx) (s : Fin 8192) (h : t.val / 6 % 16 * 512 + (y 1).val = s.val) :
    ((cfg0.win 4).blk t).view.read (Elt Ideal) A y = A (ix3 (y 0) s (y 2)) := by
  blk_point [idx t]

theorem blk5 (A : FVec Ideal S2x16x8192 .f32) (y : S2x16x512.Idx) (s : Fin 8192) (h : t.val / 6 % 16 * 512 + (y 2).val = s.val) :
    ((cfg0.win 5).blk t).view.read (Elt Ideal) A y = A (ix3 (y 0) (y 1) s) := by
  blk_point [idx t]

theorem blk6 (A : FVec Ideal S2x8x8192 .f32) (y : S2x8x512.Idx) (s : Fin 8192) (h : t.val / 6 % 16 * 512 + (y 2).val = s.val) :
    ((cfg0.win 6).blk t).view.read (Elt Ideal) A y = A (ix3 (y 0) (y 1) s) := by
  blk_point [idx t]

theorem blk7 (A : FVec Ideal S16384x4096 .f32) (y : S512x4096.Idx) (n : Fin 16384) (h : t.val / 6 * 512 + (y 0).val = n.val) :
    ((cfg0.win 7).blk t).view.read (Elt Ideal) A y = A (ix2 n (y 1)) := by
  blk_point [idx t]

end Cert.Proof.InProj

end
-- ==== Proof.InProjBlk.lean ====
/-
  What a grid point of the input projection computes from its blocks: the normalised rows, their products with a block of the
  weights, and the stored tiles as the channels the reference names.
-/
module

public import Idealize.ShloMosaic.Lib.Pipeline.ValueKit
public import proofs.«01_k».proof.Defs
public import proofs.«01_k».proof.Proof.InProjIn

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic

/-! ## The channels, from the products -/

theorem qScale_coe : qScale = ((8557550 / 2 ^ 26 : ℝ) : EReal) := by
  simp [qScale, Ideal.ofBits, Ideal.ieee, -EReal.coe_mul]; norm_num

theorem qScale_nonneg : 0 ≤ qScale := by
  rw [qScale_coe]; exact EReal.coe_nonneg.mpr (by norm_num)

theorem qScale_ne_top : qScale ≠ ⊤ := by
  rw [qScale_coe]; exact EReal.coe_ne_top _

theorem scale_add (x y a b : EReal) : x * qScale * a + y * qScale * b = (x * a + y * b) * qScale := by
  rw [EReal.right_distrib_of_nonneg_of_ne_top qScale_nonneg qScale_ne_top, mul_right_comm x, mul_right_comm y]

theorem scale_sub (x y a b : EReal) : x * qScale * a - y * qScale * b = (x * a - y * b) * qScale := by
  rw [sub_eq_add_neg, sub_eq_add_neg, EReal.right_distrib_of_nonneg_of_ne_top qScale_nonneg qScale_ne_top, mul_right_comm x, mul_right_comm y,
    EReal.neg_mul]

variable (Z : ℕ → EReal) (s : ℕ)

theorem q_math (q k : ℕ) (hq : q ≤ 1) (hk : k % 128 = 0) (hk' : k < 1024) (z A B : ℕ → EReal) (hz : ∀ d, d < 1024 → z d = Z (wcol (q * 1024 + d)))
    (hA : ∀ f, f < 16 → A f = cosn denA s f) (hB : ∀ f, f < 16 → B f = sinn denA s f) (r : ℕ) (hr : r < 128) :
    rope 16 (fun e => z (k + e) * qScale) A B r = qv Z s (q * 1024 + (k + r)) := by
  have h1 : (q * 1024 + (k + r)) / 128 * 128 = q * 1024 + k := by omega
  have h2 : (q * 1024 + (k + r)) % 128 = r := by omega
  have hZ : ∀ e, e < 128 → z (k + e) = Z (q * 1024 + k + e) := fun e he => by
    rw [hz _ (by omega), wcol, if_pos (by omega), Nat.add_assoc]
  unfold qv rope
  rw [h1, h2]
  dsimp only
  by_cases c1 : r < 16
  · rw [if_pos c1, if_pos c1, hA _ c1, hB _ c1, hZ r hr, hZ (r + 16) (by omega)]
    exact scale_sub _ _ _ _
  by_cases c2 : r < 2 * 16
  · rw [if_neg c1, if_neg c1, if_pos c2, if_pos c2, hA _ (by omega), hB _ (by omega), hZ r hr, hZ (r - 16) (by omega)]
    exact scale_add _ _ _ _
  · rw [if_neg c1, if_neg c1, if_neg c2, if_neg c2, hZ r hr]

theorem i_math (k : ℕ) (hk : k % 128 = 0) (hk' : k < 1024) (z A B : ℕ → EReal) (hz : ∀ d, d < 1024 → z d = Z (wcol (3 * 1024 + d)))
    (hA : ∀ f, f < 8 → A f = cosn denI s f) (hB : ∀ f, f < 8 → B f = sinn denI s f) (r : ℕ) (hr : r < 128) :
    rope 8 (fun e => z (k + r / 64 * 64 + e)) A B (r % 64) = iqv Z s (k + r) := by
  have h1 : (k + r) / 64 * 64 = k + r / 64 * 64 := by omega
  have h2 : (k + r) % 64 = r % 64 := by omega
  have hZ : ∀ e, e < 64 → z (k + r / 64 * 64 + e) = Z (3072 + (k + r / 64 * 64) + e) := fun e he => by
    rw [hz _ (by omega), wcol, if_pos (by omega)]; congr 1; omega
  unfold iqv rope
  rw [h1, h2]
  dsimp only
  by_cases c1 : r % 64 < 8
  · rw [if_pos c1, if_pos c1, hA _ c1, hB _ c1, hZ (r % 64) (by omega), hZ (r % 64 + 8) (by omega)]
  by_cases c2 : r % 64 < 2 * 8
  · rw [if_neg c1, if_neg c1, if_pos c2, if_pos c2, hA _ (by omega), hB _ (by omega), hZ (r % 64) (by omega), hZ (r % 64 - 8) (by omega)]
  · rw [if_neg c1, if_neg c1, if_neg c2, if_neg c2, hZ (r % 64) (by omega)]

theorem k_math (k : ℕ) (hk : k % 128 = 0) (hk' : k < 512) (z A B C : ℕ → EReal) (hz : ∀ d, d < 1024 → z d = Z (wcol (2 * 1024 + d)))
    (hA : ∀ e, e < 128 → A e = facA 16 1107296256 s e) (hB : ∀ e, e < 128 → B e = facB 16 1107296256 s e)
    (hC : ∀ e, e < 128 → C e = facC 16 1107296256 s e) (r : ℕ) (hr : r < 128) :
    rolled 16 (fun e => z (k + e)) A B C r = kv Z s (k + r) := by
  have h1 : (k + r) / 128 * 128 = k := by omega
  have h2 : (k + r) % 128 = r := by omega
  have hZ : ∀ e, e < 128 → z (k + e) = Z (2048 + k + e) := fun e he => by
    rw [hz _ (by omega), wcol, if_pos (by omega)]; congr 1; omega
  unfold kv rolled rope
  rw [h1, h2, hA _ hr, hB _ hr, hC _ hr]
  dsimp only
  rw [hZ r hr, hZ ((r + 16) % 128) (Nat.mod_lt _ (by omega)), hZ ((r + (128 - 16)) % 128) (Nat.mod_lt _ (by omega))]
  unfold facA facB facC
  by_cases c1 : r < 16
  · rw [if_pos c1, if_pos c1, if_pos c1, if_pos c1, mul_zero, add_zero, mul_neg, ← sub_eq_add_neg,
      show (r + 16) % 128 = r + 16 by omega]
  by_cases c2 : r < 2 * 16
  · rw [if_neg c1, if_neg c1, if_neg c1, if_neg c1, if_pos c2, if_pos c2, if_pos c2, mul_zero, add_zero,
      show (r + (128 - 16)) % 128 = r - 16 by omega]
  · rw [if_neg c1, if_neg c1, if_neg c1, if_neg c1, if_neg c2, if_neg c2, if_neg c2, mul_zero, mul_zero, add_zero, add_zero, mul_one]

theorem ik_math (z A B C : ℕ → EReal) (hz : ∀ d, d < 64 → z d = Z (4096 + d)) (hz' : ∀ d, 64 ≤ d → d < 128 → z d = 0)
    (hA : ∀ e, e < 128 → A e = facA 8 1098907648 s (e % 64)) (hB : ∀ e, e < 128 → B e = facB 8 1098907648 s (e % 64))
    (hC : ∀ e, e < 128 → C e = facC 8 1098907648 s (e % 64)) (r : ℕ) (hr : r < 128) :
    rolled 8 z A B C r = ikv Z s r := by
  unfold ikv rolled rope
  rw [hA _ hr, hB _ hr, hC _ hr]
  unfold facA facB facC
  by_cases c0 : r < 64
  · have h2 : r % 64 = r := by omega
    rw [if_pos c0, h2, hz _ c0]
    by_cases c1 : r < 8
    · rw [if_pos c1, if_pos c1, if_pos c1, if_pos c1, mul_zero, add_zero, mul_neg, ← sub_eq_add_neg,
        show (r + 8) % 128 = r + 8 by omega, hz _ (by omega)]
    by_cases c2 : r < 2 * 8
    · rw [if_neg c1, if_neg c1, if_neg c1, if_neg c1, if_pos c2, if_pos c2, if_pos c2, mul_zero, add_zero,
        show (r + (128 - 8)) % 128 = r - 8 by omega, hz _ (by omega)]
    · rw [if_neg c1, if_neg c1, if_neg c1, if_neg c1, if_neg c2, if_neg c2, if_neg c2, mul_zero, mul_zero, add_zero, add_zero, mul_one]
  · rw [if_neg c0, hz' r (by omega) hr, zero_mul, zero_add]
    by_cases c1 : r % 64 < 8
    · rw [if_pos c1, if_pos c1, mul_zero, add_zero, show (r + 8) % 128 = r + 8 by omega, hz' _ (by omega) (by omega), zero_mul]
    by_cases c2 : r % 64 < 2 * 8
    · rw [if_neg c1, if_neg c1, if_pos c2, mul_zero, zero_add, show (r + (128 - 8)) % 128 = r - 8 by omega, hz' _ (by omega) (by omega), zero_mul]
    · rw [if_neg c1, if_neg c1, if_neg c2, mul_zero, mul_zero, add_zero]

theorem iw_math (z : ℕ → EReal) (hz : ∀ d, 128 ≤ d → d < 144 → z d = Z (4032 + d)) (hz' : ∀ d, 144 ≤ d → d < 256 → z d = 0)
    (r : ℕ) (hr : r < 128) : z (128 + r) * iwScale = iwv Z r := by
  unfold iwv
  by_cases c : r < 16
  · rw [if_pos c, hz _ (by omega) (by omega), show 4032 + (128 + r) = 4160 + r by omega]
  · rw [if_neg c, hz' _ (by omega) (by omega), zero_mul]

/-! ## A point's blocks -/

variable (m : (ℓ : Loc nD τ sig) → Buf (Elt Ideal) ℓ) (c : Dev nD) (t : Fin cfg0.N)

/-- The products of token `n`. -/
abbrev prods (n : ℕ) : ℕ → EReal := zt (argX m c) (argG m c) (argW m c) n

/-- The token of row `a` of a point. -/
abbrev tok (a : ℕ) : ℕ := t.val / 6 * 512 + a

/-- The normalised rows of a point. -/
def rowsOf : FVec Ideal S512x4096 .bf16 := k0_pay10 (F := Ideal) (iblk m c 7 t) (iblk m c 0 t)

theorem lt_N : t.val < 192 := lt_of_lt_of_eq t.isLt N_0

theorem rowsOf_at (a : Fin 512) (k : Fin 4096) : rowsOf m c t (ix2 a k)
    = normed (fun j => argX m c (ix3 (Fin.ofNat 2 (tok t a.val / 8192)) (Fin.ofNat 8192 (tok t a.val)) j)) (fun j => argG m c (ix2 0 j)) k := by
  have hN := lt_N t
  have ha := a.isLt
  have e1 : ∀ j, iblk m c 7 t (ix2 a j) = argX m c (ix3 (Fin.ofNat 2 (tok t a.val / 8192)) (Fin.ofNat 8192 (tok t a.val)) j) := fun j =>
    (blk7 t _ (ix2 a j) ⟨tok t a.val, by unfold tok; omega⟩ rfl).trans (host_x m c _)
  have e2 : ∀ j, iblk m c 0 t (ix2 0 j) = argG m c (ix2 0 j) := fun j => (blk0 t _ (ix2 0 j)).trans (host_g m c _)
  exact (rows_at _ _ _).trans (congrArg₂ (fun x g => normed x g k) (funext e1) (funext e2))

/-- The point before, in the same row of points, has the same rows. -/
theorem rows_before (p : Fin cfg0.N) (hp : p.val + 1 = t.val) (ht : ¬ t.val % 6 = 0) : rowsOf m c p = rowsOf m c t := by
  have h : p.val / 6 = t.val / 6 := by omega
  funext y
  obtain ⟨a, k, rfl⟩ : ∃ (a : Fin 512) (k : Fin 4096), y = ix2 a k := ⟨y 0, y 1, funext fun i => by match i with | ⟨0, _⟩ => rfl | ⟨1, _⟩ => rfl⟩
  rw [rowsOf_at, rowsOf_at]
  unfold tok
  rw [h]

theorem main_at (a : Fin 512) (d : ℕ) (hd : d < 1024) : k0_pay3 (F := Ideal) (rowsOf m c t) (iblk m c 1 t) (ix2 a (Fin.ofNat 1024 d))
    = prods m c (tok t a.val) (wcol (t.val % 6 * 1024 + d)) := by
  refine (prod_at _ _ _).trans (Finset.sum_congr rfl fun k _ => ?_)
  refine congrArg₂ (fun x w : EReal => x * w) (rowsOf_at m c t a k) ?_
  exact (blk1 t _ (ix2 k (Fin.ofNat 1024 d)) ⟨t.val % 6 * 1024 + d, by omega⟩
    (by show t.val % 6 * 1024 + d % 1024 = t.val % 6 * 1024 + d; omega)).trans (host_w m c _)

theorem small_lo (a : Fin 512) (d : ℕ) (hd : d < 64) : k0_pay11 (F := Ideal) (rowsOf m c t) (iblk m c 2 t) (ix2 a (Fin.ofNat 256 d))
    = prods m c (tok t a.val) (4096 + d) := by
  have hv : d % 256 = d := by omega
  refine (small_at _ _ _).trans (Finset.sum_congr rfl fun k _ => ?_)
  refine congrArg₂ (fun x w : EReal => x * w) (rowsOf_at m c t a k) ?_
  refine ((blk2 t _ (ix2 k (Fin.ofNat 256 d))).trans (host_ws m c _)).trans ?_
  show (if d % 256 < 64 then argW m c (ix3 0 k (Fin.ofNat 6224 (4096 + d % 256))) else _) = _
  rw [hv, if_pos hd]

theorem small_hi (a : Fin 512) (d : ℕ) (h : 128 ≤ d) (hd : d < 144) : k0_pay11 (F := Ideal) (rowsOf m c t) (iblk m c 2 t) (ix2 a (Fin.ofNat 256 d))
    = prods m c (tok t a.val) (4032 + d) := by
  have hv : d % 256 = d := by omega
  refine (small_at _ _ _).trans (Finset.sum_congr rfl fun k _ => ?_)
  refine congrArg₂ (fun x w : EReal => x * w) (rowsOf_at m c t a k) ?_
  refine ((blk2 t _ (ix2 k (Fin.ofNat 256 d))).trans (host_ws m c _)).trans ?_
  show (if d % 256 < 64 then _ else if d % 256 < 128 then (0 : EReal) else if d % 256 < 144 then argW m c (ix3 0 k (Fin.ofNat 6224 (4032 + d % 256))) else _) = _
  rw [hv, if_neg (by omega), if_neg (by omega), if_pos hd]

theorem small_zero (a : Fin 512) (d : ℕ) (h : (64 ≤ d ∧ d < 128) ∨ (144 ≤ d ∧ d < 256)) :
    k0_pay11 (F := Ideal) (rowsOf m c t) (iblk m c 2 t) (ix2 a (Fin.ofNat 256 d)) = (0 : EReal) := by
  have hv : d % 256 = d := by omega
  refine (small_at _ _ _).trans (Finset.sum_eq_zero fun k _ => ?_)
  refine (congrArg (fun w : EReal => rowsOf m c t (ix2 a k) * w) ?_).trans (mul_zero _)
  refine ((blk2 t _ (ix2 k (Fin.ofNat 256 d))).trans (host_ws m c _)).trans ?_
  show (if d % 256 < 64 then _ else if d % 256 < 128 then (0 : EReal) else if d % 256 < 144 then _ else (0 : EReal)) = _
  rw [hv, if_neg (by omega)]
  by_cases c1 : d < 128
  · rw [if_pos c1]
  · rw [if_neg c1, if_neg (by omega)]

/-- A row's place in its sequence. -/
theorem pos_eq (a : Fin 512) : t.val / 6 % 16 * 512 + a.val = tok t a.val % 8192 := by
  have ha := a.isLt
  unfold tok
  omega

theorem pos_lt (a : Fin 512) : t.val / 6 % 16 * 512 + a.val < 8192 := by
  have ha := a.isLt
  omega

theorem ta_at (p : Fin 2) (f : Fin 16) (a : Fin 512) : (iblk m c 5 t : FVec Ideal S2x16x512 .f32) (ix3 p f a)
    = if p.val < 1 then cosn denA (tok t a.val % 8192) f.val else sinn denA (tok t a.val % 8192) f.val := by
  rw [← pos_eq]
  exact (blk5 t _ (ix3 p f a) ⟨_, pos_lt t a⟩ rfl).trans (host_ta m c _)

theorem ti_at (p : Fin 2) (f : Fin 8) (a : Fin 512) : (iblk m c 6 t : FVec Ideal S2x8x512 .f32) (ix3 p f a)
    = if p.val < 1 then cosn denI (tok t a.val % 8192) f.val else sinn denI (tok t a.val % 8192) f.val := by
  rw [← pos_eq]
  exact (blk6 t _ (ix3 p f a) ⟨_, pos_lt t a⟩ rfl).trans (host_ti m c _)

theorem a_at (p : Fin 3) (a : Fin 512) (e : Fin 128) : (iblk m c 3 t : FVec Ideal S3x512x128 .f32) (ix3 p a e)
    = if p.val < 1 then facA 16 1107296256 (tok t a.val % 8192) e.val else if p.val < 2 then facB 16 1107296256 (tok t a.val % 8192) e.val
      else facC 16 1107296256 (tok t a.val % 8192) e.val := by
  rw [← pos_eq]
  exact (blk3 t _ (ix3 p a e) ⟨_, pos_lt t a⟩ rfl).trans (host_a m c _)

theorem i_at (p : Fin 3) (a : Fin 512) (e : Fin 128) : (iblk m c 4 t : FVec Ideal S3x512x128 .f32) (ix3 p a e)
    = if p.val < 1 then facA 8 1098907648 (tok t a.val % 8192) (e.val % 64) else if p.val < 2 then facB 8 1098907648 (tok t a.val % 8192) (e.val % 64)
      else facC 8 1098907648 (tok t a.val % 8192) (e.val % 64) := by
  rw [← pos_eq]
  exact (blk4 t _ (ix3 p a e) ⟨_, pos_lt t a⟩ rfl).trans (host_i m c _)

/-- A load of one plane of a whole buffer. -/
theorem load3 {n0 n1 n2 : ℕ} [NeZero 1] {e : EltTy} (a : Memref sig .tc .vmem ⟨3, ![n0, n1, n2]⟩ e) (h : a.IsWhole) (x : Vec Ideal ⟨3, ![n0, n1, n2]⟩ e)
    (p : ℕ) (P : Fin n0) (hP : P.val = p) (inb : ∀ k, (![p, 0, 0] : Fin 3 → ℕ) k + (![1, n1, n2] : Fin 3 → ℕ) k ≤ (⟨3, ![n0, n1, n2]⟩ : Shape).size k)
    (f : Fin n1) (b : Fin n2) :
    a.view.readAt (Elt Ideal) (Rect.unit (s := ⟨3, ![n0, n1, n2]⟩) ![p, 0, 0] ![1, n1, n2] inb).toLoadRect (h.unread x) (ix3 (0 : Fin 1) f b) = x (ix3 P f b) := by
  rw [View.readAt_apply, h.read_unread]
  refine congrArg x (Rect.emb_eq_of_coords (Rect.unit (s := ⟨3, ![n0, n1, n2]⟩) ![p, 0, 0] ![1, n1, n2] inb) (ix3 (0 : Fin 1) f b) (ix3 P f b) fun k => ?_)
  match k with
  | ⟨0, _⟩ => show P.val = p + 1 * 0; omega
  | ⟨1, _⟩ => show f.val = 0 + 1 * f.val; omega
  | ⟨2, _⟩ => show b.val = 0 + 1 * b.val; omega

end Cert.Proof.InProj

end
-- ==== Proof.InProjStore.lean ====
/-
  What the body's runs store at a point, over extended reals, is the point's block of each result.
-/
module

public import Idealize.ShloMosaic.Lib.Pipeline.ValueKit
public import Idealize.ShloMosaic.Lib.VecWindow
public import proofs.«01_k».proof.Defs
public import proofs.«01_k».proof.Proof.InProjBlk
public import proofs.«01_k».proof.Proof.InProjRun

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic

variable (m : (ℓ : Loc nD τ sig) → Buf (Elt Ideal) ℓ) (c : Dev nD) (t : Fin cfg0.N)

/-- The blocks of the seven results at a point. -/
def blkQ : FVec Ideal S1024x512 .bf16 := fun y => qv (prods m c (tok t (y 1).val)) (tok t (y 1).val % 8192) (min (t.val % 6) 1 * 1024 + (y 0).val)
def blkK : FVec Ideal S512x512 .bf16 := fun y => kv (prods m c (tok t (y 0).val)) (tok t (y 0).val % 8192) (y 1).val
def blkV : FVec Ideal S512x512 .bf16 := fun y => prods m c (tok t (y 1).val) (2560 + (y 0).val)
def blkI : FVec Ideal S1024x512 .bf16 := fun y => iqv (prods m c (tok t (y 1).val)) (tok t (y 1).val % 8192) (y 0).val
def blkIk : FVec Ideal S512x128 .bf16 := fun y => ikv (prods m c (tok t (y 0).val)) (tok t (y 0).val % 8192) (y 1).val
def blkIw : FVec Ideal S128x512 .f32 := fun y => iwv (prods m c (tok t (y 1).val)) (y 0).val
def blkU : FVec Ideal S512x1024 .f32 := fun y => prods m c (tok t (y 0).val) (4176 + (min (t.val % 6 - 4) 1 * 1024 + (y 1).val))

/-- A load of a whole buffer. -/
theorem whole {s : Shape} {e : EltTy} (a : Memref sig .tc .vmem s e) (h : a.IsWhole) (x : Vec Ideal s e) {off : Fin s.rank → ℕ}
    (inb : ∀ k, off k + s.size k ≤ s.size k) :
    a.view.readAt (Elt Ideal) (Rect.unit off s.size inb).toLoadRect (h.unread x) = x :=
  (View.readAt_full a.view _ inb).trans (h.read_unread x)

theorem tile_q (k : ℕ) (hk : k % 128 = 0) (hk' : k < 1024) (hq : t.val % 6 ≤ 1) (z : FVec Ideal S512x1024 .f32)
    (hz : z = k0_pay3 (F := Ideal) (rowsOf m c t) (iblk m c 1 t)) (A B : FVec Ideal S1x16x512 .f32)
    (hA : ∀ f a, A (ix3 0 f a) = (iblk m c 5 t : FVec Ideal S2x16x512 .f32) (ix3 0 f a))
    (hB : ∀ f a, B (ix3 0 f a) = (iblk m c 5 t : FVec Ideal S2x16x512 .f32) (ix3 1 f a))
    (x : S128x512.Idx) (y : S1024x512.Idx) (h0 : (y 0).val = k + (x 0).val) (h1 : (y 1).val = (x 1).val) :
    rope 16 (fun e => (z (ix2 (x 1) (Fin.ofNat 1024 (k + e))) : EReal) * qScale) (fun f => A (ix3 0 (Fin.ofNat 16 f) (x 1)))
      (fun f => B (ix3 0 (Fin.ofNat 16 f) (x 1))) (x 0).val = blkQ m c t y := by
  subst hz
  refine (q_math (prods m c (tok t (x 1).val)) (tok t (x 1).val % 8192) (t.val % 6) k hq hk hk'
    (fun d => k0_pay3 (F := Ideal) (rowsOf m c t) (iblk m c 1 t) (ix2 (x 1) (Fin.ofNat 1024 d))) _ _
    (fun d hd => main_at m c t (x 1) d hd) (fun f hf => ?_) (fun f hf => ?_) (x 0).val (x 0).isLt).trans ?_
  · refine ((hA _ _).trans (ta_at m c t 0 (Fin.ofNat 16 f) (x 1))).trans ((if_pos (by decide)).trans ?_)
    show cosn denA _ (f % 16) = _
    rw [Nat.mod_eq_of_lt hf]
  · refine ((hB _ _).trans (ta_at m c t 1 (Fin.ofNat 16 f) (x 1))).trans ((if_neg (by decide)).trans ?_)
    show sinn denA _ (f % 16) = _
    rw [Nat.mod_eq_of_lt hf]
  · unfold blkQ
    rw [h0, h1, Nat.min_eq_left hq]

theorem tile_i (k : ℕ) (hk : k % 128 = 0) (hk' : k < 1024) (hq : t.val % 6 = 3) (z : FVec Ideal S512x1024 .f32)
    (hz : z = k0_pay3 (F := Ideal) (rowsOf m c t) (iblk m c 1 t)) (A B : FVec Ideal S1x8x512 .f32)
    (hA : ∀ f a, A (ix3 0 f a) = (iblk m c 6 t : FVec Ideal S2x8x512 .f32) (ix3 0 f a))
    (hB : ∀ f a, B (ix3 0 f a) = (iblk m c 6 t : FVec Ideal S2x8x512 .f32) (ix3 1 f a))
    (x : S128x512.Idx) (y : S1024x512.Idx) (h0 : (y 0).val = k + (x 0).val) (h1 : (y 1).val = (x 1).val) :
    rope 8 (fun e => z (ix2 (x 1) (Fin.ofNat 1024 (k + (x 0).val / 64 * 64 + e)))) (fun f => A (ix3 0 (Fin.ofNat 8 f) (x 1)))
      (fun f => B (ix3 0 (Fin.ofNat 8 f) (x 1))) ((x 0).val % 64) = blkI m c t y := by
  subst hz
  refine (i_math (prods m c (tok t (x 1).val)) (tok t (x 1).val % 8192) k hk hk'
    (fun d => k0_pay3 (F := Ideal) (rowsOf m c t) (iblk m c 1 t) (ix2 (x 1) (Fin.ofNat 1024 d))) _ _
    (fun d hd => (main_at m c t (x 1) d hd).trans (by rw [hq])) (fun f hf => ?_) (fun f hf => ?_) (x 0).val (x 0).isLt).trans ?_
  · refine ((hA _ _).trans (ti_at m c t 0 (Fin.ofNat 8 f) (x 1))).trans ((if_pos (by decide)).trans ?_)
    show cosn denI _ (f % 8) = _
    rw [Nat.mod_eq_of_lt hf]
  · refine ((hB _ _).trans (ti_at m c t 1 (Fin.ofNat 8 f) (x 1))).trans ((if_neg (by decide)).trans ?_)
    show sinn denI _ (f % 8) = _
    rw [Nat.mod_eq_of_lt hf]
  · unfold blkI
    rw [h0, h1]

theorem tile_k (k : ℕ) (hk : k % 128 = 0) (hk' : k < 512) (hq : t.val % 6 = 2) (z : FVec Ideal S512x1024 .f32)
    (hz : z = k0_pay3 (F := Ideal) (rowsOf m c t) (iblk m c 1 t)) (A B C : FVec Ideal S1x512x128 .f32)
    (hA : ∀ a e, A (ix3 0 a e) = (iblk m c 3 t : FVec Ideal S3x512x128 .f32) (ix3 0 a e))
    (hB : ∀ a e, B (ix3 0 a e) = (iblk m c 3 t : FVec Ideal S3x512x128 .f32) (ix3 1 a e))
    (hC : ∀ a e, C (ix3 0 a e) = (iblk m c 3 t : FVec Ideal S3x512x128 .f32) (ix3 2 a e))
    (x : S512x128.Idx) (y : S512x512.Idx) (h0 : (y 0).val = (x 0).val) (h1 : (y 1).val = k + (x 1).val) :
    rolled 16 (fun e => z (ix2 (x 0) (Fin.ofNat 1024 (k + e)))) (fun e => A (ix3 0 (x 0) (Fin.ofNat 128 e)))
      (fun e => B (ix3 0 (x 0) (Fin.ofNat 128 e))) (fun e => C (ix3 0 (x 0) (Fin.ofNat 128 e))) (x 1).val = blkK m c t y := by
  subst hz
  refine (k_math (prods m c (tok t (x 0).val)) (tok t (x 0).val % 8192) k hk hk'
    (fun d => k0_pay3 (F := Ideal) (rowsOf m c t) (iblk m c 1 t) (ix2 (x 0) (Fin.ofNat 1024 d))) _ _ _
    (fun d hd => (main_at m c t (x 0) d hd).trans (by rw [hq])) (fun e he => ?_) (fun e he => ?_) (fun e he => ?_) (x 1).val (x 1).isLt).trans ?_
  · refine ((hA _ _).trans (a_at m c t 0 (x 0) (Fin.ofNat 128 e))).trans ((if_pos (by decide)).trans ?_)
    show facA 16 _ _ (e % 128) = _
    rw [Nat.mod_eq_of_lt he]
  · refine ((hB _ _).trans (a_at m c t 1 (x 0) (Fin.ofNat 128 e))).trans ((if_neg (by decide)).trans ((if_pos (by decide)).trans ?_))
    show facB 16 _ _ (e % 128) = _
    rw [Nat.mod_eq_of_lt he]
  · refine ((hC _ _).trans (a_at m c t 2 (x 0) (Fin.ofNat 128 e))).trans ((if_neg (by decide)).trans ((if_neg (by decide)).trans ?_))
    show facC 16 _ _ (e % 128) = _
    rw [Nat.mod_eq_of_lt he]
  · unfold blkK
    rw [h0, h1]

theorem tile_v (k : ℕ) (hk' : k < 512) (hk : k % 128 = 0) (hq : t.val % 6 = 2) (H : FVec Ideal S512x4096 .bf16) (W : FVec Ideal S4096x1024 .bf16)
    (hH : H = rowsOf m c t) (hW : W = iblk m c 1 t) (x : S128x512.Idx) (y : S512x512.Idx) (h0 : (y 0).val = k + (x 0).val) (h1 : (y 1).val = (x 1).val) :
    k0_pay3 (F := Ideal) H W (ix2 (x 1) (Fin.ofNat 1024 (512 + k + (x 0).val))) = blkV m c t y := by
  subst hH hW
  have hx : (x 0).val < 128 := (x 0).isLt
  refine (main_at m c t (x 1) _ (by omega)).trans ?_
  unfold blkV wcol
  rw [h0, h1, hq, if_pos (by omega)]
  congr 1
  omega

theorem tile_ik (H : FVec Ideal S512x4096 .bf16) (W : FVec Ideal S4096x256 .bf16) (A B C : FVec Ideal S1x512x128 .f32)
    (hH : H = rowsOf m c t) (hW : W = iblk m c 2 t)
    (hA : ∀ a e, A (ix3 0 a e) = (iblk m c 4 t : FVec Ideal S3x512x128 .f32) (ix3 0 a e))
    (hB : ∀ a e, B (ix3 0 a e) = (iblk m c 4 t : FVec Ideal S3x512x128 .f32) (ix3 1 a e))
    (hC : ∀ a e, C (ix3 0 a e) = (iblk m c 4 t : FVec Ideal S3x512x128 .f32) (ix3 2 a e)) (y : S512x128.Idx) :
    k0_pay1 (F := Ideal) (k0_pay13 H W A B) (k0_pay14 H W) C y = blkIk m c t y := by
  subst hH hW
  refine (ik_at _ _ _ _ _ y).trans ((ik_math (prods m c (tok t (y 0).val)) (tok t (y 0).val % 8192) _ _ _ _
    (fun d hd => small_lo m c t (y 0) d hd) (fun d h hd => small_zero m c t (y 0) d (Or.inl ⟨h, hd⟩))
    (fun e he => ?_) (fun e he => ?_) (fun e he => ?_) (y 1).val (y 1).isLt).trans rfl)
  · refine ((hA _ _).trans (i_at m c t 0 (y 0) (Fin.ofNat 128 e))).trans ((if_pos (by decide)).trans ?_)
    show facA 8 _ _ (e % 128 % 64) = _
    rw [Nat.mod_eq_of_lt he]
  · refine ((hB _ _).trans (i_at m c t 1 (y 0) (Fin.ofNat 128 e))).trans ((if_neg (by decide)).trans ((if_pos (by decide)).trans ?_))
    show facB 8 _ _ (e % 128 % 64) = _
    rw [Nat.mod_eq_of_lt he]
  · refine ((hC _ _).trans (i_at m c t 2 (y 0) (Fin.ofNat 128 e))).trans ((if_neg (by decide)).trans ((if_neg (by decide)).trans ?_))
    show facC 8 _ _ (e % 128 % 64) = _
    rw [Nat.mod_eq_of_lt he]

theorem tile_iw (H : FVec Ideal S512x4096 .bf16) (W : FVec Ideal S4096x256 .bf16) (hH : H = rowsOf m c t) (hW : W = iblk m c 2 t) (y : S128x512.Idx) :
    k0_pay2 (F := Ideal) (k0_pay11 H W) y = blkIw m c t y := by
  subst hH hW
  refine (iw_at _ y).trans ?_
  exact iw_math (prods m c (tok t (y 1).val)) (fun d => k0_pay11 (F := Ideal) (rowsOf m c t) (iblk m c 2 t) (ix2 (y 1) (Fin.ofNat 256 d)))
    (fun d h hd => small_hi m c t (y 1) d h hd) (fun d h hd => small_zero m c t (y 1) d (Or.inr ⟨h, hd⟩)) (y 0).val (y 0).isLt

theorem tile_u (hq : 4 ≤ t.val % 6) (H : FVec Ideal S512x4096 .bf16) (W : FVec Ideal S4096x1024 .bf16)
    (hH : H = rowsOf m c t) (hW : W = iblk m c 1 t) (y : S512x1024.Idx) : k0_pay3 (F := Ideal) H W y = blkU m c t y := by
  subst hH hW
  have hy : (y 1).val < 1024 := (y 1).isLt
  have e : y = ix2 (y 0) (Fin.ofNat 1024 (y 1).val) := funext fun i => by
    match i with
    | ⟨0, _⟩ => rfl
    | ⟨1, _⟩ => exact eq_ofNat (n := 1024) (y 1) rfl
  refine (congrArg (k0_pay3 (F := Ideal) (rowsOf m c t) (iblk m c 1 t)) e).trans ((main_at m c t (y 0) (y 1).val hy).trans ?_)
  unfold blkU wcol
  rw [if_neg (by omega)]
  congr 1
  omega

section
variable (i : grid0.Coords)

/-- The rows the first point of a row of points has just stored. -/
theorem rows_stored (a2 : Memref sig .tc .vmem S1x4096 .f32) (h2 : a2.IsWhole) (a9 : Memref sig .tc .vmem S512x4096 .f32) (h9 : a9.IsWhole)
    (a17 : Memref sig .tc .vmem S512x4096 .bf16) : run0.sl.v39 (F := Ideal) c a2 h2 a9 h9 a17 (iblk m c 0 t) (iblk m c 7 t) = rowsOf m c t := by
  unfold run0.sl.v39 run0.sl.H17_1
  refine (View.readCov_full a17.view inb_S512x4096_S512x4096_0_0 inb_S512x4096_S512x4096_0_0 _ []).trans ?_
  exact congrArg₂ (k0_pay10 (F := Ideal)) (whole a9 h9 _ inb_S512x4096_S512x4096_0_0) (whole a2 h2 _ inb_S1x4096_S1x4096_0_0)

theorem q_stored0 (hq : t.val % 6 ≤ 1) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : k0_cond1 i = 1#1) (c2 : k0_cond2 i = 1#1) (c3 : ¬ k0_cond3 i = 1#1) (c4 : ¬ k0_cond4 i = 1#1) (c5 : ¬ k0_cond5 i = 1#1) :
    ∀ f, a10.view.read (Elt Ideal) (a10.view.writes (Elt Ideal) f (run0 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 0 t) (iblk m c 1 t) (iblk m c 2 t) (iblk m c 4 t) (iblk m c 5 t) (iblk m c 7 t)).1) = blkQ m c t := by
  intro f
  funext y
  dsimp only [run0]
  refine View.read_writes_apply_of_pieces a10.view f (blkQ m c t) _ ?_ y (View.cover_of_tiled _ ![128, 512] rfl y)
  refine List.forall_mem_cons.mpr ⟨fun x => (tileQ7 _ _ _ x).trans (tile_q m c t 896 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 896 + 1 * (x 0).val = 896 + (x 0).val by omega) (show 0 + 1 * (x 1).val = (x 1).val by omega)), ?_⟩
  refine List.forall_mem_cons.mpr ⟨fun x => (tileQ6 _ _ _ x).trans (tile_q m c t 768 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 768 + 1 * (x 0).val = 768 + (x 0).val by omega) (show 0 + 1 * (x 1).val = (x 1).val by omega)), ?_⟩
  refine List.forall_mem_cons.mpr ⟨fun x => (tileQ5 _ _ _ x).trans (tile_q m c t 640 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 640 + 1 * (x 0).val = 640 + (x 0).val by omega) (show 0 + 1 * (x 1).val = (x 1).val by omega)), ?_⟩
  refine List.forall_mem_cons.mpr ⟨fun x => (tileQ4 _ _ _ x).trans (tile_q m c t 512 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 512 + 1 * (x 0).val = 512 + (x 0).val by omega) (show 0 + 1 * (x 1).val = (x 1).val by omega)), ?_⟩
  refine List.forall_mem_cons.mpr ⟨fun x => (tileQ3 _ _ _ x).trans (tile_q m c t 384 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 384 + 1 * (x 0).val = 384 + (x 0).val by omega) (show 0 + 1 * (x 1).val = (x 1).val by omega)), ?_⟩
  refine List.forall_mem_cons.mpr ⟨fun x => (tileQ2 _ _ _ x).trans (tile_q m c t 256 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 256 + 1 * (x 0).val = 256 + (x 0).val by omega) (show 0 + 1 * (x 1).val = (x 1).val by omega)), ?_⟩
  refine List.forall_mem_cons.mpr ⟨fun x => (tileQ1 _ _ _ x).trans (tile_q m c t 128 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 128 + 1 * (x 0).val = 128 + (x 0).val by omega) (show 0 + 1 * (x 1).val = (x 1).val by omega)), ?_⟩
  refine List.forall_mem_cons.mpr ⟨fun x => (tileQ0 _ _ _ x).trans (tile_q m c t 0 (by decide) (by decide) hq _ (congrArg₂ (k0_pay3 (F := Ideal)) (rows_stored m c t a2 h2 a9 h9 a17) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 0 + 1 * (x 0).val = 0 + (x 0).val by omega) (show 0 + 1 * (x 1).val = (x 1).val by omega)), ?_⟩
  exact fun _ h => absurd h List.not_mem_nil

theorem q_stored1 (hq : t.val % 6 ≤ 1) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : k0_cond2 i = 1#1) (c3 : ¬ k0_cond3 i = 1#1) (c4 : ¬ k0_cond4 i = 1#1) (c5 : ¬ k0_cond5 i = 1#1) :
    ∀ f, a10.view.read (Elt Ideal) (a10.view.writes (Elt Ideal) f (run1 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 1 t) (iblk m c 5 t) (rowsOf m c t)).1) = blkQ m c t := by
  intro f
  funext y
  dsimp only [run1]
  refine View.read_writes_apply_of_pieces a10.view f (blkQ m c t) _ ?_ y (View.cover_of_tiled _ ![128, 512] rfl y)
  refine List.forall_mem_cons.mpr ⟨fun x => (tileQ7 _ _ _ x).trans (tile_q m c t 896 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 896 + 1 * (x 0).val = 896 + (x 0).val by omega) (show 0 + 1 * (x 1).val = (x 1).val by omega)), ?_⟩
  refine List.forall_mem_cons.mpr ⟨fun x => (tileQ6 _ _ _ x).trans (tile_q m c t 768 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 768 + 1 * (x 0).val = 768 + (x 0).val by omega) (show 0 + 1 * (x 1).val = (x 1).val by omega)), ?_⟩
  refine List.forall_mem_cons.mpr ⟨fun x => (tileQ5 _ _ _ x).trans (tile_q m c t 640 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 640 + 1 * (x 0).val = 640 + (x 0).val by omega) (show 0 + 1 * (x 1).val = (x 1).val by omega)), ?_⟩
  refine List.forall_mem_cons.mpr ⟨fun x => (tileQ4 _ _ _ x).trans (tile_q m c t 512 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 512 + 1 * (x 0).val = 512 + (x 0).val by omega) (show 0 + 1 * (x 1).val = (x 1).val by omega)), ?_⟩
  refine List.forall_mem_cons.mpr ⟨fun x => (tileQ3 _ _ _ x).trans (tile_q m c t 384 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 384 + 1 * (x 0).val = 384 + (x 0).val by omega) (show 0 + 1 * (x 1).val = (x 1).val by omega)), ?_⟩
  refine List.forall_mem_cons.mpr ⟨fun x => (tileQ2 _ _ _ x).trans (tile_q m c t 256 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 256 + 1 * (x 0).val = 256 + (x 0).val by omega) (show 0 + 1 * (x 1).val = (x 1).val by omega)), ?_⟩
  refine List.forall_mem_cons.mpr ⟨fun x => (tileQ1 _ _ _ x).trans (tile_q m c t 128 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 128 + 1 * (x 0).val = 128 + (x 0).val by omega) (show 0 + 1 * (x 1).val = (x 1).val by omega)), ?_⟩
  refine List.forall_mem_cons.mpr ⟨fun x => (tileQ0 _ _ _ x).trans (tile_q m c t 0 (by decide) (by decide) hq _ (congrArg₂ (k0_pay3 (F := Ideal)) (whole a17 h17 _ inb_S512x4096_S512x4096_0_0) (whole a3 h3 _ inb_S4096x1024_S4096x1024_0_0)) _ _
    (fun f b => load3 a7 h7 _ 0 0 rfl inb_S2x16x512_S1x16x512_0_0_0 f b) (fun f b => load3 a7 h7 _ 1 1 rfl inb_S2x16x512_S1x16x512_1_0_0 f b) x _ (show 0 + 1 * (x 0).val = 0 + (x 0).val by omega) (show 0 + 1 * (x 1).val = (x 1).val by omega)), ?_⟩
  exact fun _ h => absurd h List.not_mem_nil

theorem k_stored (hq : t.val % 6 = 2) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : k0_cond3 i = 1#1) (c4 : ¬ k0_cond4 i = 1#1) (c5 : ¬ k0_cond5 i = 1#1) :
    ∀ f, a11.view.read (Elt Ideal) (a11.view.writes (Elt Ideal) f (run2 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 1 t) (iblk m c 3 t) (rowsOf m c t)).1) = blkK m c t := by
  intro f
  funext y
  dsimp only [run2]
  refine View.read_writes_apply_of_pieces a11.view f (blkK m c t) _ ?_ y (View.cover_of_tiled _ ![512, 128] rfl y)
  refine List.forall_mem_cons.mpr ⟨fun x => (tileK3 _ _ _ _ x).trans (tile_k m c t 384 (by decide) (by decide) hq _ (congrArg₂ (k0_pay3 (F := Ideal)) (whole a17 h17 _ inb_S512x4096_S512x4096_0_0) (whole a3 h3 _ inb_S4096x1024_S4096x1024_0_0)) _ _ _
    (fun f b => load3 a5 h5 _ 0 0 rfl inb_S3x512x128_S1x512x128_0_0_0 f b) (fun f b => load3 a5 h5 _ 1 1 rfl inb_S3x512x128_S1x512x128_1_0_0 f b) (fun f b => load3 a5 h5 _ 2 2 rfl inb_S3x512x128_S1x512x128_2_0_0 f b) x _ (show 0 + 1 * (x 0).val = (x 0).val by omega) (show 384 + 1 * (x 1).val = 384 + (x 1).val by omega)), ?_⟩
  refine List.forall_mem_cons.mpr ⟨fun x => (tileK2 _ _ _ _ x).trans (tile_k m c t 256 (by decide) (by decide) hq _ (congrArg₂ (k0_pay3 (F := Ideal)) (whole a17 h17 _ inb_S512x4096_S512x4096_0_0) (whole a3 h3 _ inb_S4096x1024_S4096x1024_0_0)) _ _ _
    (fun f b => load3 a5 h5 _ 0 0 rfl inb_S3x512x128_S1x512x128_0_0_0 f b) (fun f b => load3 a5 h5 _ 1 1 rfl inb_S3x512x128_S1x512x128_1_0_0 f b) (fun f b => load3 a5 h5 _ 2 2 rfl inb_S3x512x128_S1x512x128_2_0_0 f b) x _ (show 0 + 1 * (x 0).val = (x 0).val by omega) (show 256 + 1 * (x 1).val = 256 + (x 1).val by omega)), ?_⟩
  refine List.forall_mem_cons.mpr ⟨fun x => (tileK1 _ _ _ _ x).trans (tile_k m c t 128 (by decide) (by decide) hq _ (congrArg₂ (k0_pay3 (F := Ideal)) (whole a17 h17 _ inb_S512x4096_S512x4096_0_0) (whole a3 h3 _ inb_S4096x1024_S4096x1024_0_0)) _ _ _
    (fun f b => load3 a5 h5 _ 0 0 rfl inb_S3x512x128_S1x512x128_0_0_0 f b) (fun f b => load3 a5 h5 _ 1 1 rfl inb_S3x512x128_S1x512x128_1_0_0 f b) (fun f b => load3 a5 h5 _ 2 2 rfl inb_S3x512x128_S1x512x128_2_0_0 f b) x _ (show 0 + 1 * (x 0).val = (x 0).val by omega) (show 128 + 1 * (x 1).val = 128 + (x 1).val by omega)), ?_⟩
  refine List.forall_mem_cons.mpr ⟨fun x => (tileK0 _ _ _ _ x).trans (tile_k m c t 0 (by decide) (by decide) hq _ (congrArg₂ (k0_pay3 (F := Ideal)) (whole a17 h17 _ inb_S512x4096_S512x4096_0_0) (whole a3 h3 _ inb_S4096x1024_S4096x1024_0_0)) _ _ _
    (fun f b => load3 a5 h5 _ 0 0 rfl inb_S3x512x128_S1x512x128_0_0_0 f b) (fun f b => load3 a5 h5 _ 1 1 rfl inb_S3x512x128_S1x512x128_1_0_0 f b) (fun f b => load3 a5 h5 _ 2 2 rfl inb_S3x512x128_S1x512x128_2_0_0 f b) x _ (show 0 + 1 * (x 0).val = (x 0).val by omega) (show 0 + 1 * (x 1).val = 0 + (x 1).val by omega)), ?_⟩
  exact fun _ h => absurd h List.not_mem_nil

theorem v_stored (hq : t.val % 6 = 2) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : k0_cond3 i = 1#1) (c4 : ¬ k0_cond4 i = 1#1) (c5 : ¬ k0_cond5 i = 1#1) :
    ∀ f, a12.view.read (Elt Ideal) (a12.view.writes (Elt Ideal) f (run2 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 1 t) (iblk m c 3 t) (rowsOf m c t)).2.1) = blkV m c t := by
  intro f
  funext y
  dsimp only [run2]
  refine View.read_writes_apply_of_pieces a12.view f (blkV m c t) _ ?_ y (View.cover_of_tiled _ ![128, 512] rfl y)
  refine List.forall_mem_cons.mpr ⟨fun x => (tileV3 _ _ x).trans (tile_v m c t 384 (by decide) (by decide) hq _ _ (whole a17 h17 _ inb_S512x4096_S512x4096_0_0) (whole a3 h3 _ inb_S4096x1024_S4096x1024_0_0) x _ (show 384 + 1 * (x 0).val = 384 + (x 0).val by omega) (show 0 + 1 * (x 1).val = (x 1).val by omega)), ?_⟩
  refine List.forall_mem_cons.mpr ⟨fun x => (tileV2 _ _ x).trans (tile_v m c t 256 (by decide) (by decide) hq _ _ (whole a17 h17 _ inb_S512x4096_S512x4096_0_0) (whole a3 h3 _ inb_S4096x1024_S4096x1024_0_0) x _ (show 256 + 1 * (x 0).val = 256 + (x 0).val by omega) (show 0 + 1 * (x 1).val = (x 1).val by omega)), ?_⟩
  refine List.forall_mem_cons.mpr ⟨fun x => (tileV1 _ _ x).trans (tile_v m c t 128 (by decide) (by decide) hq _ _ (whole a17 h17 _ inb_S512x4096_S512x4096_0_0) (whole a3 h3 _ inb_S4096x1024_S4096x1024_0_0) x _ (show 128 + 1 * (x 0).val = 128 + (x 0).val by omega) (show 0 + 1 * (x 1).val = (x 1).val by omega)), ?_⟩
  refine List.forall_mem_cons.mpr ⟨fun x => (tileV0 _ _ x).trans (tile_v m c t 0 (by decide) (by decide) hq _ _ (whole a17 h17 _ inb_S512x4096_S512x4096_0_0) (whole a3 h3 _ inb_S4096x1024_S4096x1024_0_0) x _ (show 0 + 1 * (x 0).val = 0 + (x 0).val by omega) (show 0 + 1 * (x 1).val = (x 1).val by omega)), ?_⟩
  exact fun _ h => absurd h List.not_mem_nil

theorem i_stored (hq : t.val % 6 = 3) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : ¬ k0_cond3 i = 1#1) (c4 : k0_cond4 i = 1#1) (c5 : ¬ k0_cond5 i = 1#1) :
    ∀ f, a13.view.read (Elt Ideal) (a13.view.writes (Elt Ideal) f (run3 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 1 t) (iblk m c 6 t) (rowsOf m c t)).1) = blkI m c t := by
  intro f
  funext y
  dsimp only [run3]
  refine View.read_writes_apply_of_pieces a13.view f (blkI m c t) _ ?_ y (View.cover_of_tiled _ ![128, 512] rfl y)
  refine List.forall_mem_cons.mpr ⟨fun x => (tileI7 _ _ _ _ x).trans (tile_i m c t 896 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 896 + 1 * (x 0).val = 896 + (x 0).val by omega) (show 0 + 1 * (x 1).val = (x 1).val by omega)), ?_⟩
  refine List.forall_mem_cons.mpr ⟨fun x => (tileI6 _ _ _ x).trans (tile_i m c t 768 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 768 + 1 * (x 0).val = 768 + (x 0).val by omega) (show 0 + 1 * (x 1).val = (x 1).val by omega)), ?_⟩
  refine List.forall_mem_cons.mpr ⟨fun x => (tileI5 _ _ _ x).trans (tile_i m c t 640 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 640 + 1 * (x 0).val = 640 + (x 0).val by omega) (show 0 + 1 * (x 1).val = (x 1).val by omega)), ?_⟩
  refine List.forall_mem_cons.mpr ⟨fun x => (tileI4 _ _ _ x).trans (tile_i m c t 512 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 512 + 1 * (x 0).val = 512 + (x 0).val by omega) (show 0 + 1 * (x 1).val = (x 1).val by omega)), ?_⟩
  refine List.forall_mem_cons.mpr ⟨fun x => (tileI3 _ _ _ x).trans (tile_i m c t 384 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 384 + 1 * (x 0).val = 384 + (x 0).val by omega) (show 0 + 1 * (x 1).val = (x 1).val by omega)), ?_⟩
  refine List.forall_mem_cons.mpr ⟨fun x => (tileI2 _ _ _ x).trans (tile_i m c t 256 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 256 + 1 * (x 0).val = 256 + (x 0).val by omega) (show 0 + 1 * (x 1).val = (x 1).val by omega)), ?_⟩
  refine List.forall_mem_cons.mpr ⟨fun x => (tileI1 _ _ _ x).trans (tile_i m c t 128 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 128 + 1 * (x 0).val = 128 + (x 0).val by omega) (show 0 + 1 * (x 1).val = (x 1).val by omega)), ?_⟩
  refine List.forall_mem_cons.mpr ⟨fun x => (tileI0 _ _ _ x).trans (tile_i m c t 0 (by decide) (by decide) hq (k0_pay3 (F := Ideal) _ _) (congrArg₂ (k0_pay3 (F := Ideal)) (whole a17 h17 _ inb_S512x4096_S512x4096_0_0) (whole a3 h3 _ inb_S4096x1024_S4096x1024_0_0)) _ _
    (fun f b => load3 a8 h8 _ 0 0 rfl inb_S2x8x512_S1x8x512_0_0_0 f b) (fun f b => load3 a8 h8 _ 1 1 rfl inb_S2x8x512_S1x8x512_1_0_0 f b) x _ (show 0 + 1 * (x 0).val = 0 + (x 0).val by omega) (show 0 + 1 * (x 1).val = (x 1).val by omega)), ?_⟩
  exact fun _ h => absurd h List.not_mem_nil

theorem ik_stored  (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : k0_cond1 i = 1#1) (c2 : k0_cond2 i = 1#1) (c3 : ¬ k0_cond3 i = 1#1) (c4 : ¬ k0_cond4 i = 1#1) (c5 : ¬ k0_cond5 i = 1#1) :
    ∀ f, a14.view.read (Elt Ideal) (a14.view.writes (Elt Ideal) f (run0 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 0 t) (iblk m c 1 t) (iblk m c 2 t) (iblk m c 4 t) (iblk m c 5 t) (iblk m c 7 t)).2.1) = blkIk m c t := by
  intro f
  refine (View.read_writes_full a14.view f inb_S512x128_S512x128_0_0 _ []).trans (funext fun y => ?_)
  exact tile_ik m c t _ _ _ _ _ (rows_stored m c t a2 h2 a9 h9 a17) (whole a4 h4 _ inb_S4096x256_S4096x256_0_0) (fun f b => load3 a6 h6 _ 0 0 rfl inb_S3x512x128_S1x512x128_0_0_0 f b) (fun f b => load3 a6 h6 _ 1 1 rfl inb_S3x512x128_S1x512x128_1_0_0 f b) (fun f b => load3 a6 h6 _ 2 2 rfl inb_S3x512x128_S1x512x128_2_0_0 f b) y

theorem iw_stored  (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : k0_cond1 i = 1#1) (c2 : k0_cond2 i = 1#1) (c3 : ¬ k0_cond3 i = 1#1) (c4 : ¬ k0_cond4 i = 1#1) (c5 : ¬ k0_cond5 i = 1#1) :
    ∀ f, a15.view.read (Elt Ideal) (a15.view.writes (Elt Ideal) f (run0 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 0 t) (iblk m c 1 t) (iblk m c 2 t) (iblk m c 4 t) (iblk m c 5 t) (iblk m c 7 t)).2.2.1) = blkIw m c t := by
  intro f
  refine (View.read_writes_full a15.view f inb_S128x512_S128x512_0_0 _ []).trans (funext fun y => ?_)
  exact tile_iw m c t _ _ (rows_stored m c t a2 h2 a9 h9 a17) (whole a4 h4 _ inb_S4096x256_S4096x256_0_0) y

theorem rows_left  (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : k0_cond1 i = 1#1) (c2 : k0_cond2 i = 1#1) (c3 : ¬ k0_cond3 i = 1#1) (c4 : ¬ k0_cond4 i = 1#1) (c5 : ¬ k0_cond5 i = 1#1) :
    ∀ f, a17.view.read (Elt Ideal) (a17.view.writes (Elt Ideal) f (run0 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 0 t) (iblk m c 1 t) (iblk m c 2 t) (iblk m c 4 t) (iblk m c 5 t) (iblk m c 7 t)).2.2.2.1) = rowsOf m c t := by
  intro f
  unfold run0
  dsimp only
  unfold run0.sl.H17_1
  refine (View.read_writes_full a17.view f inb_S512x4096_S512x4096_0_0 _ []).trans ?_
  exact congrArg₂ (k0_pay10 (F := Ideal)) (whole a9 h9 _ inb_S512x4096_S512x4096_0_0) (whole a2 h2 _ inb_S1x4096_S1x4096_0_0)

theorem u_stored (hq : 4 ≤ t.val % 6) (a2 : Memref sig .tc .vmem S1x4096 .f32) (h2 : a2.IsWhole) (a3 : Memref sig .tc .vmem S4096x1024 .bf16) (h3 : a3.IsWhole) (a4 : Memref sig .tc .vmem S4096x256 .bf16) (h4 : a4.IsWhole) (a5 : Memref sig .tc .vmem S3x512x128 .f32) (h5 : a5.IsWhole) (a6 : Memref sig .tc .vmem S3x512x128 .f32) (h6 : a6.IsWhole) (a7 : Memref sig .tc .vmem S2x16x512 .f32) (h7 : a7.IsWhole) (a8 : Memref sig .tc .vmem S2x8x512 .f32) (h8 : a8.IsWhole) (a9 : Memref sig .tc .vmem S512x4096 .f32) (h9 : a9.IsWhole) (a10 : Memref sig .tc .vmem S1024x512 .bf16) (h10 : a10.IsWhole) (a11 : Memref sig .tc .vmem S512x512 .bf16) (h11 : a11.IsWhole) (a12 : Memref sig .tc .vmem S512x512 .bf16) (h12 : a12.IsWhole) (a13 : Memref sig .tc .vmem S1024x512 .bf16) (h13 : a13.IsWhole) (a14 : Memref sig .tc .vmem S512x128 .bf16) (h14 : a14.IsWhole) (a15 : Memref sig .tc .vmem S128x512 .f32) (h15 : a15.IsWhole) (a16 : Memref sig .tc .vmem S512x1024 .f32) (h16 : a16.IsWhole) (a17 : Memref sig .tc .vmem S512x4096 .bf16) (h17 : a17.IsWhole) (c1 : ¬ k0_cond1 i = 1#1) (c2 : ¬ k0_cond2 i = 1#1) (c3 : ¬ k0_cond3 i = 1#1) (c4 : ¬ k0_cond4 i = 1#1) (c5 : k0_cond5 i = 1#1) :
    ∀ f, a16.view.read (Elt Ideal) (a16.view.writes (Elt Ideal) f (run4 (F := Ideal) c i a2 h2 a3 h3 a4 h4 a5 h5 a6 h6 a7 h7 a8 h8 a9 h9 a10 h10 a11 h11 a12 h12 a13 h13 a14 h14 a15 h15 a16 h16 a17 h17 c1 c2 c3 c4 c5 (iblk m c 1 t) (rowsOf m c t)).1) = blkU m c t := by
  intro f
  refine (View.read_writes_full a16.view f inb_S512x1024_S512x1024_0_0 _ []).trans (funext fun y => ?_)
  exact tile_u m c t hq _ _ (whole a17 h17 _ inb_S512x4096_S512x4096_0_0) (whole a3 h3 _ inb_S4096x1024_S4096x1024_0_0) y

end

end Cert.Proof.InProj

end
-- ==== Proof.InProjData.lean ====
/-
  The proof data of the input projection's call over extended reals: an input's buffer is left at its block; a result's buffer, from
  the point of its row that stores it on, holds the point's block of that result; the scratch holds the row's normalised rows.
-/
module

public import proofs.«01_k».proof.Proof.InProjStore
public import proofs.«01_k».proof.Proof.InProjFrame

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg) (c : Dev nD) (t : Fin cfg0.N)

/-- What is known of the scratch before point `n`: from the first point on it holds the rows of the point before. -/
def held (n : ℕ) : sProp 𝕄 :=
  iprop((∃ X, ⌜∀ p : Fin cfg0.N, p.val + 1 = n → X = rowsOf m c p⌝ ∗ owns (c : Thread nD τ) (Memref.whole cc0_scratch0) fullShare X)
    ∗ (∃ r, prngReg c r))

/-- Every buffer's contents named, as they are where it is stored. -/
def exact : Dat τ (Elt Ideal) Unit ℕ (UR sig nD τ) ℕ (cfgs 0) c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blkQ m c t
    | ⟨9, _⟩ => blkK m c t
    | ⟨10, _⟩ => blkV m c t
    | ⟨11, _⟩ => blkI m c t
    | ⟨12, _⟩ => blkIk m c t
    | ⟨13, _⟩ => blkIw m c t
    | ⟨14, _⟩ => blkU m c t
  Φ n := held m c n.val
  q _ := fullShare
  owed _ := 0

/-- The proof data: the inputs' buffers exact; a result's buffer at its block once its row of points has stored it. -/
def data : RDat τ (Elt Ideal) Unit ℕ (UR sig nD τ) ℕ (cfgs 0) c where
  A w := Gen.V m c (Pipeline.arrRef spec0 w)
  after w := match w with
    | ⟨0, _⟩ => (exact m c).toR.after 0
    | ⟨1, _⟩ => (exact m c).toR.after 1
    | ⟨2, _⟩ => (exact m c).toR.after 2
    | ⟨3, _⟩ => (exact m c).toR.after 3
    | ⟨4, _⟩ => (exact m c).toR.after 4
    | ⟨5, _⟩ => (exact m c).toR.after 5
    | ⟨6, _⟩ => (exact m c).toR.after 6
    | ⟨7, _⟩ => (exact m c).toR.after 7
    | ⟨8, _⟩ => fun t _ X => 0 ≤ t.val % 6 → X = blkQ m c t
    | ⟨9, _⟩ => fun t _ X => 2 ≤ t.val % 6 → X = blkK m c t
    | ⟨10, _⟩ => fun t _ X => 2 ≤ t.val % 6 → X = blkV m c t
    | ⟨11, _⟩ => fun t _ X => 3 ≤ t.val % 6 → X = blkI m c t
    | ⟨12, _⟩ => fun t _ X => 0 ≤ t.val % 6 → X = blkIk m c t
    | ⟨13, _⟩ => fun t _ X => 0 ≤ t.val % 6 → X = blkIw m c t
    | ⟨14, _⟩ => fun t _ X => 4 ≤ t.val % 6 → X = blkU m c t
  Φ n := held m c n.val
  q _ := fullShare
  owed _ := 0

theorem data_share (w : Fin cfg0.W) : (data m c).share w = fullShare := by
  unfold RDat.share
  split <;> rfl

theorem flush8 : ∀ t : Fin cfg0.N, (cfg0.win 8).flush t = true ↔ t.val % 6 = 0 ∨ t.val % 6 = 5 :=
  (by decide +kernel : ∀ t : Fin grid0.N, win0_8.flush t = true ↔ t.val % 6 = 0 ∨ t.val % 6 = 5)

theorem flush14 : ∀ t : Fin cfg0.N, (cfg0.win 14).flush t = true ↔ t.val % 6 = 4 ∨ t.val % 6 = 5 :=
  (by decide +kernel : ∀ t : Fin grid0.N, win0_14.flush t = true ↔ t.val % 6 = 4 ∨ t.val % 6 = 5)

theorem found0 (Y) (h : (data m c).Finds 0 t Y) : Y = iblk m c 0 t := by
  obtain ⟨d, hd⟩ := (exact m c).toR_finds 0 t Y ((RDat.finds_congr (rd := (exact m c).toR) (rd' := data m c) (w := 0) rfl (by dsimp only [data]) t Y).mp h)
  exact hd.trans (before0_0_of m (exact m c) rfl (fun _ => by dsimp only [exact]) t d)

theorem stays0 (Y) : (data m c).after 0 t Y (iblk m c 0 t) := by
  dsimp only [data]
  refine (Dat.Leaves.live_iff (exact m c) (w := 0) (t := t) (X := iblk m c 0 t) (Or.inl rfl)).mpr ?_
  show iblk m c 0 t = (exact m c).after 0 t
  dsimp only [exact]

theorem found1 (Y) (h : (data m c).Finds 1 t Y) : Y = iblk m c 1 t := by
  obtain ⟨d, hd⟩ := (exact m c).toR_finds 1 t Y ((RDat.finds_congr (rd := (exact m c).toR) (rd' := data m c) (w := 1) rfl (by dsimp only [data]) t Y).mp h)
  exact hd.trans (before0_1_of m (exact m c) rfl (fun _ => by dsimp only [exact]) t d)

theorem stays1 (Y) : (data m c).after 1 t Y (iblk m c 1 t) := by
  dsimp only [data]
  refine (Dat.Leaves.live_iff (exact m c) (w := 1) (t := t) (X := iblk m c 1 t) (Or.inl rfl)).mpr ?_
  show iblk m c 1 t = (exact m c).after 1 t
  dsimp only [exact]

theorem found2 (Y) (h : (data m c).Finds 2 t Y) : Y = iblk m c 2 t := by
  obtain ⟨d, hd⟩ := (exact m c).toR_finds 2 t Y ((RDat.finds_congr (rd := (exact m c).toR) (rd' := data m c) (w := 2) rfl (by dsimp only [data]) t Y).mp h)
  exact hd.trans (before0_2_of m (exact m c) rfl (fun _ => by dsimp only [exact]) t d)

theorem stays2 (Y) : (data m c).after 2 t Y (iblk m c 2 t) := by
  dsimp only [data]
  refine (Dat.Leaves.live_iff (exact m c) (w := 2) (t := t) (X := iblk m c 2 t) (Or.inl rfl)).mpr ?_
  show iblk m c 2 t = (exact m c).after 2 t
  dsimp only [exact]

theorem found3 (Y) (h : (data m c).Finds 3 t Y) : Y = iblk m c 3 t := by
  obtain ⟨d, hd⟩ := (exact m c).toR_finds 3 t Y ((RDat.finds_congr (rd := (exact m c).toR) (rd' := data m c) (w := 3) rfl (by dsimp only [data]) t Y).mp h)
  exact hd.trans (before0_3_of m (exact m c) rfl (fun _ => by dsimp only [exact]) t d)

theorem stays3 (Y) : (data m c).after 3 t Y (iblk m c 3 t) := by
  dsimp only [data]
  refine (Dat.Leaves.live_iff (exact m c) (w := 3) (t := t) (X := iblk m c 3 t) (Or.inl rfl)).mpr ?_
  show iblk m c 3 t = (exact m c).after 3 t
  dsimp only [exact]

theorem found4 (Y) (h : (data m c).Finds 4 t Y) : Y = iblk m c 4 t := by
  obtain ⟨d, hd⟩ := (exact m c).toR_finds 4 t Y ((RDat.finds_congr (rd := (exact m c).toR) (rd' := data m c) (w := 4) rfl (by dsimp only [data]) t Y).mp h)
  exact hd.trans (before0_4_of m (exact m c) rfl (fun _ => by dsimp only [exact]) t d)

theorem stays4 (Y) : (data m c).after 4 t Y (iblk m c 4 t) := by
  dsimp only [data]
  refine (Dat.Leaves.live_iff (exact m c) (w := 4) (t := t) (X := iblk m c 4 t) (Or.inl rfl)).mpr ?_
  show iblk m c 4 t = (exact m c).after 4 t
  dsimp only [exact]

theorem found5 (Y) (h : (data m c).Finds 5 t Y) : Y = iblk m c 5 t := by
  obtain ⟨d, hd⟩ := (exact m c).toR_finds 5 t Y ((RDat.finds_congr (rd := (exact m c).toR) (rd' := data m c) (w := 5) rfl (by dsimp only [data]) t Y).mp h)
  exact hd.trans (before0_5_of m (exact m c) rfl (fun _ => by dsimp only [exact]) t d)

theorem stays5 (Y) : (data m c).after 5 t Y (iblk m c 5 t) := by
  dsimp only [data]
  refine (Dat.Leaves.live_iff (exact m c) (w := 5) (t := t) (X := iblk m c 5 t) (Or.inl rfl)).mpr ?_
  show iblk m c 5 t = (exact m c).after 5 t
  dsimp only [exact]

theorem found6 (Y) (h : (data m c).Finds 6 t Y) : Y = iblk m c 6 t := by
  obtain ⟨d, hd⟩ := (exact m c).toR_finds 6 t Y ((RDat.finds_congr (rd := (exact m c).toR) (rd' := data m c) (w := 6) rfl (by dsimp only [data]) t Y).mp h)
  exact hd.trans (before0_6_of m (exact m c) rfl (fun _ => by dsimp only [exact]) t d)

theorem stays6 (Y) : (data m c).after 6 t Y (iblk m c 6 t) := by
  dsimp only [data]
  refine (Dat.Leaves.live_iff (exact m c) (w := 6) (t := t) (X := iblk m c 6 t) (Or.inl rfl)).mpr ?_
  show iblk m c 6 t = (exact m c).after 6 t
  dsimp only [exact]

theorem found7 (Y) (h : (data m c).Finds 7 t Y) : Y = iblk m c 7 t := by
  obtain ⟨d, hd⟩ := (exact m c).toR_finds 7 t Y ((RDat.finds_congr (rd := (exact m c).toR) (rd' := data m c) (w := 7) rfl (by dsimp only [data]) t Y).mp h)
  exact hd.trans (before0_7_of m (exact m c) rfl (fun _ => by dsimp only [exact]) t d)

theorem stays7 (Y) : (data m c).after 7 t Y (iblk m c 7 t) := by
  dsimp only [data]
  refine (Dat.Leaves.live_iff (exact m c) (w := 7) (t := t) (X := iblk m c 7 t) (Or.inl rfl)).mpr ?_
  show iblk m c 7 t = (exact m c).after 7 t
  dsimp only [exact]

theorem blkQ_row (p : Fin cfg0.N) (h : p.val / 6 = t.val / 6) (hm : min (p.val % 6) 1 = min (t.val % 6) 1) : blkQ m c p = blkQ m c t := by
  unfold blkQ tok
  rw [h, hm]

theorem stores8 (Y X) (h : X = blkQ m c t) : (data m c).after 8 t Y X := by
  dsimp only [data]
  exact fun _ => h

theorem left8 (Y X) (h : (data m c).after 8 t Y X) : 0 ≤ t.val % 6 → X = blkQ m c t := by
  dsimp only [data] at h
  exact h

theorem keeps8 (Y) (h : (data m c).Finds 8 t Y) (ht : ¬ t.val % 6 ≤ 1) : (data m c).after 8 t Y Y := by
  dsimp only [data]
  intro h2
  have h0 : t.val ≠ 0 := by omega
  rcases ((data m c).finds_of_pos (w := 8) (t := t) rfl h0 Y).mp h with hf | ⟨Z, -, hZ⟩
  · have := (flush8 ⟨t.val - 1, Nat.lt_of_le_of_lt (Nat.sub_le _ _) t.isLt⟩).mp hf
    dsimp only at this
    omega
  · refine (left8 m c _ Z Y hZ (by dsimp only; omega)).trans (blkQ_row m c t _ (by dsimp only; omega) (by dsimp only; omega))

theorem flushed8 (X) (hf : (cfg0.win 8).flush t = true) (h : (data m c).Leaves 8 t X) : X = blkQ m c t := by
  obtain ⟨Y, -, hY⟩ := h
  exact left8 m c t Y X hY (by have := (flush8 t).mp hf; omega)

theorem blkK_row (p : Fin cfg0.N) (h : p.val / 6 = t.val / 6) : blkK m c p = blkK m c t := by
  unfold blkK tok
  rw [h]

theorem stores9 (Y X) (h : X = blkK m c t) : (data m c).after 9 t Y X := by
  dsimp only [data]
  exact fun _ => h

theorem left9 (Y X) (h : (data m c).after 9 t Y X) : 2 ≤ t.val % 6 → X = blkK m c t := by
  dsimp only [data] at h
  exact h

theorem keeps9 (Y) (h : (data m c).Finds 9 t Y) (ht : ¬ t.val % 6 = 2) : (data m c).after 9 t Y Y := by
  dsimp only [data]
  intro h2
  have h0 : t.val ≠ 0 := by omega
  rcases ((data m c).finds_of_pos (w := 9) (t := t) rfl h0 Y).mp h with hf | ⟨Z, -, hZ⟩
  · have := (flush0_9 ⟨t.val - 1, Nat.lt_of_le_of_lt (Nat.sub_le _ _) t.isLt⟩).mp hf
    dsimp only at this
    omega
  · refine (left9 m c _ Z Y hZ (by dsimp only; omega)).trans (blkK_row m c t _ (by dsimp only; omega))

theorem flushed9 (X) (hf : (cfg0.win 9).flush t = true) (h : (data m c).Leaves 9 t X) : X = blkK m c t := by
  obtain ⟨Y, -, hY⟩ := h
  exact left9 m c t Y X hY (by have := (flush0_9 t).mp hf; omega)

theorem blkV_row (p : Fin cfg0.N) (h : p.val / 6 = t.val / 6) : blkV m c p = blkV m c t := by
  unfold blkV tok
  rw [h]

theorem stores10 (Y X) (h : X = blkV m c t) : (data m c).after 10 t Y X := by
  dsimp only [data]
  exact fun _ => h

theorem left10 (Y X) (h : (data m c).after 10 t Y X) : 2 ≤ t.val % 6 → X = blkV m c t := by
  dsimp only [data] at h
  exact h

theorem keeps10 (Y) (h : (data m c).Finds 10 t Y) (ht : ¬ t.val % 6 = 2) : (data m c).after 10 t Y Y := by
  dsimp only [data]
  intro h2
  have h0 : t.val ≠ 0 := by omega
  rcases ((data m c).finds_of_pos (w := 10) (t := t) rfl h0 Y).mp h with hf | ⟨Z, -, hZ⟩
  · have := (flush0_10 ⟨t.val - 1, Nat.lt_of_le_of_lt (Nat.sub_le _ _) t.isLt⟩).mp hf
    dsimp only at this
    omega
  · refine (left10 m c _ Z Y hZ (by dsimp only; omega)).trans (blkV_row m c t _ (by dsimp only; omega))

theorem flushed10 (X) (hf : (cfg0.win 10).flush t = true) (h : (data m c).Leaves 10 t X) : X = blkV m c t := by
  obtain ⟨Y, -, hY⟩ := h
  exact left10 m c t Y X hY (by have := (flush0_10 t).mp hf; omega)

theorem blkI_row (p : Fin cfg0.N) (h : p.val / 6 = t.val / 6) : blkI m c p = blkI m c t := by
  unfold blkI tok
  rw [h]

theorem stores11 (Y X) (h : X = blkI m c t) : (data m c).after 11 t Y X := by
  dsimp only [data]
  exact fun _ => h

theorem left11 (Y X) (h : (data m c).after 11 t Y X) : 3 ≤ t.val % 6 → X = blkI m c t := by
  dsimp only [data] at h
  exact h

theorem keeps11 (Y) (h : (data m c).Finds 11 t Y) (ht : ¬ t.val % 6 = 3) : (data m c).after 11 t Y Y := by
  dsimp only [data]
  intro h2
  have h0 : t.val ≠ 0 := by omega
  rcases ((data m c).finds_of_pos (w := 11) (t := t) rfl h0 Y).mp h with hf | ⟨Z, -, hZ⟩
  · have := (flush0_11 ⟨t.val - 1, Nat.lt_of_le_of_lt (Nat.sub_le _ _) t.isLt⟩).mp hf
    dsimp only at this
    omega
  · refine (left11 m c _ Z Y hZ (by dsimp only; omega)).trans (blkI_row m c t _ (by dsimp only; omega))

theorem flushed11 (X) (hf : (cfg0.win 11).flush t = true) (h : (data m c).Leaves 11 t X) : X = blkI m c t := by
  obtain ⟨Y, -, hY⟩ := h
  exact left11 m c t Y X hY (by have := (flush0_11 t).mp hf; omega)

theorem blkIk_row (p : Fin cfg0.N) (h : p.val / 6 = t.val / 6) : blkIk m c p = blkIk m c t := by
  unfold blkIk tok
  rw [h]

theorem stores12 (Y X) (h : X = blkIk m c t) : (data m c).after 12 t Y X := by
  dsimp only [data]
  exact fun _ => h

theorem left12 (Y X) (h : (data m c).after 12 t Y X) : 0 ≤ t.val % 6 → X = blkIk m c t := by
  dsimp only [data] at h
  exact h

theorem keeps12 (Y) (h : (data m c).Finds 12 t Y) (ht : ¬ t.val % 6 = 0) : (data m c).after 12 t Y Y := by
  dsimp only [data]
  intro h2
  have h0 : t.val ≠ 0 := by omega
  rcases ((data m c).finds_of_pos (w := 12) (t := t) rfl h0 Y).mp h with hf | ⟨Z, -, hZ⟩
  · have := (flush0_12 ⟨t.val - 1, Nat.lt_of_le_of_lt (Nat.sub_le _ _) t.isLt⟩).mp hf
    dsimp only at this
    omega
  · refine (left12 m c _ Z Y hZ (by dsimp only; omega)).trans (blkIk_row m c t _ (by dsimp only; omega))

theorem flushed12 (X) (hf : (cfg0.win 12).flush t = true) (h : (data m c).Leaves 12 t X) : X = blkIk m c t := by
  obtain ⟨Y, -, hY⟩ := h
  exact left12 m c t Y X hY (by have := (flush0_12 t).mp hf; omega)

theorem blkIw_row (p : Fin cfg0.N) (h : p.val / 6 = t.val / 6) : blkIw m c p = blkIw m c t := by
  unfold blkIw tok
  rw [h]

theorem stores13 (Y X) (h : X = blkIw m c t) : (data m c).after 13 t Y X := by
  dsimp only [data]
  exact fun _ => h

theorem left13 (Y X) (h : (data m c).after 13 t Y X) : 0 ≤ t.val % 6 → X = blkIw m c t := by
  dsimp only [data] at h
  exact h

theorem keeps13 (Y) (h : (data m c).Finds 13 t Y) (ht : ¬ t.val % 6 = 0) : (data m c).after 13 t Y Y := by
  dsimp only [data]
  intro h2
  have h0 : t.val ≠ 0 := by omega
  rcases ((data m c).finds_of_pos (w := 13) (t := t) rfl h0 Y).mp h with hf | ⟨Z, -, hZ⟩
  · have := (flush0_13 ⟨t.val - 1, Nat.lt_of_le_of_lt (Nat.sub_le _ _) t.isLt⟩).mp hf
    dsimp only at this
    omega
  · refine (left13 m c _ Z Y hZ (by dsimp only; omega)).trans (blkIw_row m c t _ (by dsimp only; omega))

theorem flushed13 (X) (hf : (cfg0.win 13).flush t = true) (h : (data m c).Leaves 13 t X) : X = blkIw m c t := by
  obtain ⟨Y, -, hY⟩ := h
  exact left13 m c t Y X hY (by have := (flush0_13 t).mp hf; omega)

theorem blkU_row (p : Fin cfg0.N) (h : p.val / 6 = t.val / 6) (hm : min (p.val % 6 - 4) 1 = min (t.val % 6 - 4) 1) : blkU m c p = blkU m c t := by
  unfold blkU tok
  rw [h, hm]

theorem stores14 (Y X) (h : X = blkU m c t) : (data m c).after 14 t Y X := by
  dsimp only [data]
  exact fun _ => h

theorem left14 (Y X) (h : (data m c).after 14 t Y X) : 4 ≤ t.val % 6 → X = blkU m c t := by
  dsimp only [data] at h
  exact h

theorem keeps14 (Y) (h : (data m c).Finds 14 t Y) (ht : t.val % 6 < 4) : (data m c).after 14 t Y Y := by
  dsimp only [data]
  intro h2
  omega

theorem flushed14 (X) (hf : (cfg0.win 14).flush t = true) (h : (data m c).Leaves 14 t X) : X = blkU m c t := by
  obtain ⟨Y, -, hY⟩ := h
  exact left14 m c t Y X hY (by have := (flush14 t).mp hf; omega)

end Cert.Proof.InProj

end
-- ==== Proof.InProjBody.lean ====
/-
  The body's obligation over extended reals, from its five cases, and the run.
-/
module

public import proofs.«01_k».proof.Proof.InProjData

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg) (c : Dev nD) (t : Fin cfg0.N)

/-- The scratch after a point. -/
theorem held_succ :
    iprop(owns (c : Thread nD τ) (Memref.whole cc0_scratch0) fullShare (rowsOf m c t) ∗ (∃ r, prngReg c r)) ⊢ (held m c (t.val + 1) : sProp 𝕄) := by
  unfold held
  iintro ⟨H, Hg⟩
  isplitl [H]
  · iexists (rowsOf m c t)
    isplitr
    · ipureintro
      intro p hp
      rw [show p = t from Fin.ext (by omega)]
    · iexact H
  · iexact Hg

/-- The scratch after the stores of a row's first point. -/
theorem held_first (L : List (View.Piece (Elt Ideal) S512x4096 .bf16))
    (hL : ∀ f, (Memref.whole cc0_scratch0).view.read (Elt Ideal) ((Memref.whole cc0_scratch0).view.writes (Elt Ideal) f L) = rowsOf m c t) :
    (iprop((∃ f, (Memref.whole cc0_scratch0).view.loc (c : Thread nD τ) ↦[(Memref.whole cc0_scratch0).view.set]{fullShare} (Memref.whole cc0_scratch0).view.writes (Elt Ideal) f L) ∗ (∃ r, prngReg c r)) : sProp 𝕄)
      ⊢ held m c (t.val + 1) := by
  iintro ⟨H, Hg⟩
  icases (stored (F := Ideal) c (Memref.whole cc0_scratch0) L (fun X => X = rowsOf m c t) hL) $$ H with ⟨%X, %e, H⟩
  subst e
  iapply (held_succ m c t)
  isplitl [H]
  · iexact H
  · iexact Hg

set_option maxHeartbeats 4000000 in
theorem body_values : (data m c).BodyObligation (defs₀ (F := Ideal)) Variants.none () Set.univ := by
  intro t Y hY
  rw [bigSep_W0, bigSep_W0, row]
  rw [show (data m c).owesAt () t.succ = (data m c).owesAt () t.castSucc from rfl,
    show (data m c).Φ t.succ = held m c (t.val + 1) from rfl,
    show (data m c).Φ t.castSucc = iprop((∃ X, ⌜∀ p : Fin cfg0.N, p.val + 1 = t.val → X = rowsOf m c p⌝ ∗ owns (c : Thread nD τ) (Memref.whole cc0_scratch0) fullShare X)
      ∗ (∃ r, prngReg c r)) from rfl]
  unfold bodyAt0
  have h := cases t
  obtain hj | hj | hj | hj | hj : t.val % 6 = 0 ∨ t.val % 6 = 1 ∨ t.val % 6 = 2 ∨ t.val % 6 = 3 ∨ 4 ≤ t.val % 6 := by omega
  · iintro ⟨⟨⟨%xs, %hxs, HS⟩, Hg⟩, Ho, H0, H1, H2, H3, H4, H5, H6, H7, H8, H9, H10, H11, H12, H13, H14⟩
    rw [found0 m c t (Y 0) (hY 0), found1 m c t (Y 1) (hY 1), found2 m c t (Y 2) (hY 2), found3 m c t (Y 3) (hY 3), found4 m c t (Y 4) (hY 4), found5 m c t (Y 5) (hY 5), found6 m c t (Y 6) (hY 6), found7 m c t (Y 7) (hY 7)]
    iapply ((run0 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (h.1.mpr (by omega)) (h.2.1.mpr (by omega)) (fun e => absurd (h.2.2.1.mp e) (by omega)) (fun e => absurd (h.2.2.2.1.mp e) (by omega)) (fun e => absurd (h.2.2.2.2.mp e) (by omega)) (iblk m c 0 t) (iblk m c 1 t) (iblk m c 2 t) (iblk m c 4 t) (iblk m c 5 t) (iblk m c 7 t)).2.2.2.2 Set.univ _)
    isplitl [H0]; · iexact H0
    isplitl [H1]; · iexact H1
    isplitl [H2]; · iexact H2
    isplitl [H4]; · iexact H4
    isplitl [H5]; · iexact H5
    isplitl [H7]; · iexact H7
    isplitl [H8]; · iexists _; iexact H8
    isplitl [H12]; · iexists _; iexact H12
    isplitl [H13]; · iexists _; iexact H13
    isplitl [HS]; · iexists _; iexact HS
    iintro ⟨H0, H1, H2, H4, H5, H7, H8, H12, H13, HS⟩
    isplitl [HS Hg]
    · iapply (held_first m c t _ (rows_left m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (h.1.mpr (by omega)) (h.2.1.mpr (by omega)) (fun e => absurd (h.2.2.1.mp e) (by omega)) (fun e => absurd (h.2.2.2.1.mp e) (by omega)) (fun e => absurd (h.2.2.2.2.mp e) (by omega))))
      isplitl [HS]
      · iexact HS
      · iexact Hg
    isplitl [Ho]; · iexact Ho
    isplitl [H0]
    · iexists (iblk m c 0 t); isplitr; · ipureintro; exact stays0 m c t (Y 0)
      iexact H0
    isplitl [H1]
    · iexists (iblk m c 1 t); isplitr; · ipureintro; exact stays1 m c t (Y 1)
      iexact H1
    isplitl [H2]
    · iexists (iblk m c 2 t); isplitr; · ipureintro; exact stays2 m c t (Y 2)
      iexact H2
    isplitl [H3]
    · iexists (iblk m c 3 t); isplitr; · ipureintro; exact stays3 m c t (Y 3)
      iexact H3
    isplitl [H4]
    · iexists (iblk m c 4 t); isplitr; · ipureintro; exact stays4 m c t (Y 4)
      iexact H4
    isplitl [H5]
    · iexists (iblk m c 5 t); isplitr; · ipureintro; exact stays5 m c t (Y 5)
      iexact H5
    isplitl [H6]
    · iexists (iblk m c 6 t); isplitr; · ipureintro; exact stays6 m c t (Y 6)
      iexact H6
    isplitl [H7]
    · iexists (iblk m c 7 t); isplitr; · ipureintro; exact stays7 m c t (Y 7)
      iexact H7
    isplitl [H8]
    · iapply (stored (F := Ideal) c (win0_8.stage (cfg0.slots t 8)) _ (fun X => (data m c).after 8 t (Y 8) X)
        (fun f => stores8 m c t (Y 8) _ (q_stored0 m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (h.1.mpr (by omega)) (h.2.1.mpr (by omega)) (fun e => absurd (h.2.2.1.mp e) (by omega)) (fun e => absurd (h.2.2.2.1.mp e) (by omega)) (fun e => absurd (h.2.2.2.2.mp e) (by omega)) f)))
      iexact H8
    isplitl [H9]
    · iexists (Y 9); isplitr; · ipureintro; exact keeps9 m c t (Y 9) (hY 9) (by omega)
      iexact H9
    isplitl [H10]
    · iexists (Y 10); isplitr; · ipureintro; exact keeps10 m c t (Y 10) (hY 10) (by omega)
      iexact H10
    isplitl [H11]
    · iexists (Y 11); isplitr; · ipureintro; exact keeps11 m c t (Y 11) (hY 11) (by omega)
      iexact H11
    isplitl [H12]
    · iapply (stored (F := Ideal) c (win0_12.stage (cfg0.slots t 12)) _ (fun X => (data m c).after 12 t (Y 12) X)
        (fun f => stores12 m c t (Y 12) _ (ik_stored m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (h.1.mpr (by omega)) (h.2.1.mpr (by omega)) (fun e => absurd (h.2.2.1.mp e) (by omega)) (fun e => absurd (h.2.2.2.1.mp e) (by omega)) (fun e => absurd (h.2.2.2.2.mp e) (by omega)) f)))
      iexact H12
    isplitl [H13]
    · iapply (stored (F := Ideal) c (win0_13.stage (cfg0.slots t 13)) _ (fun X => (data m c).after 13 t (Y 13) X)
        (fun f => stores13 m c t (Y 13) _ (iw_stored m c t (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (h.1.mpr (by omega)) (h.2.1.mpr (by omega)) (fun e => absurd (h.2.2.1.mp e) (by omega)) (fun e => absurd (h.2.2.2.1.mp e) (by omega)) (fun e => absurd (h.2.2.2.2.mp e) (by omega)) f)))
      iexact H13
    iexists (Y 14); isplitr; · ipureintro; exact keeps14 m c t (Y 14) (hY 14) (by omega)
    iexact H14
  · iintro ⟨⟨⟨%xs, %hxs, HS⟩, Hg⟩, Ho, H0, H1, H2, H3, H4, H5, H6, H7, H8, H9, H10, H11, H12, H13, H14⟩
    rw [found0 m c t (Y 0) (hY 0), found1 m c t (Y 1) (hY 1), found2 m c t (Y 2) (hY 2), found3 m c t (Y 3) (hY 3), found4 m c t (Y 4) (hY 4), found5 m c t (Y 5) (hY 5), found6 m c t (Y 6) (hY 6), found7 m c t (Y 7) (hY 7)]
    have hN : t.val < cfg0.N := t.isLt
    obtain rfl : xs = rowsOf m c t := (hxs ⟨t.val - 1, by omega⟩ (by show t.val - 1 + 1 = t.val; omega)).trans
      (rows_before m c t ⟨t.val - 1, by omega⟩ (by show t.val - 1 + 1 = t.val; omega) (by omega))
    iapply ((run1 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (h.2.1.mpr (by omega)) (fun e => absurd (h.2.2.1.mp e) (by omega)) (fun e => absurd (h.2.2.2.1.mp e) (by omega)) (fun e => absurd (h.2.2.2.2.mp e) (by omega)) (iblk m c 1 t) (iblk m c 5 t) (rowsOf m c t)).2 Set.univ _)
    isplitl [H1]; · iexact H1
    isplitl [H5]; · iexact H5
    isplitl [HS]; · iexact HS
    isplitl [H8]; · iexists _; iexact H8
    iintro ⟨H1, H5, HS, H8⟩
    isplitl [HS Hg]
    · iapply (held_succ m c t)
      isplitl [HS]
      · iexact HS
      · iexact Hg
    isplitl [Ho]; · iexact Ho
    isplitl [H0]
    · iexists (iblk m c 0 t); isplitr; · ipureintro; exact stays0 m c t (Y 0)
      iexact H0
    isplitl [H1]
    · iexists (iblk m c 1 t); isplitr; · ipureintro; exact stays1 m c t (Y 1)
      iexact H1
    isplitl [H2]
    · iexists (iblk m c 2 t); isplitr; · ipureintro; exact stays2 m c t (Y 2)
      iexact H2
    isplitl [H3]
    · iexists (iblk m c 3 t); isplitr; · ipureintro; exact stays3 m c t (Y 3)
      iexact H3
    isplitl [H4]
    · iexists (iblk m c 4 t); isplitr; · ipureintro; exact stays4 m c t (Y 4)
      iexact H4
    isplitl [H5]
    · iexists (iblk m c 5 t); isplitr; · ipureintro; exact stays5 m c t (Y 5)
      iexact H5
    isplitl [H6]
    · iexists (iblk m c 6 t); isplitr; · ipureintro; exact stays6 m c t (Y 6)
      iexact H6
    isplitl [H7]
    · iexists (iblk m c 7 t); isplitr; · ipureintro; exact stays7 m c t (Y 7)
      iexact H7
    isplitl [H8]
    · iapply (stored (F := Ideal) c (win0_8.stage (cfg0.slots t 8)) _ (fun X => (data m c).after 8 t (Y 8) X)
        (fun f => stores8 m c t (Y 8) _ (q_stored1 m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (h.2.1.mpr (by omega)) (fun e => absurd (h.2.2.1.mp e) (by omega)) (fun e => absurd (h.2.2.2.1.mp e) (by omega)) (fun e => absurd (h.2.2.2.2.mp e) (by omega)) f)))
      iexact H8
    isplitl [H9]
    · iexists (Y 9); isplitr; · ipureintro; exact keeps9 m c t (Y 9) (hY 9) (by omega)
      iexact H9
    isplitl [H10]
    · iexists (Y 10); isplitr; · ipureintro; exact keeps10 m c t (Y 10) (hY 10) (by omega)
      iexact H10
    isplitl [H11]
    · iexists (Y 11); isplitr; · ipureintro; exact keeps11 m c t (Y 11) (hY 11) (by omega)
      iexact H11
    isplitl [H12]
    · iexists (Y 12); isplitr; · ipureintro; exact keeps12 m c t (Y 12) (hY 12) (by omega)
      iexact H12
    isplitl [H13]
    · iexists (Y 13); isplitr; · ipureintro; exact keeps13 m c t (Y 13) (hY 13) (by omega)
      iexact H13
    iexists (Y 14); isplitr; · ipureintro; exact keeps14 m c t (Y 14) (hY 14) (by omega)
    iexact H14
  · iintro ⟨⟨⟨%xs, %hxs, HS⟩, Hg⟩, Ho, H0, H1, H2, H3, H4, H5, H6, H7, H8, H9, H10, H11, H12, H13, H14⟩
    rw [found0 m c t (Y 0) (hY 0), found1 m c t (Y 1) (hY 1), found2 m c t (Y 2) (hY 2), found3 m c t (Y 3) (hY 3), found4 m c t (Y 4) (hY 4), found5 m c t (Y 5) (hY 5), found6 m c t (Y 6) (hY 6), found7 m c t (Y 7) (hY 7)]
    have hN : t.val < cfg0.N := t.isLt
    obtain rfl : xs = rowsOf m c t := (hxs ⟨t.val - 1, by omega⟩ (by show t.val - 1 + 1 = t.val; omega)).trans
      (rows_before m c t ⟨t.val - 1, by omega⟩ (by show t.val - 1 + 1 = t.val; omega) (by omega))
    iapply ((run2 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (h.2.2.1.mpr (by omega)) (fun e => absurd (h.2.2.2.1.mp e) (by omega)) (fun e => absurd (h.2.2.2.2.mp e) (by omega)) (iblk m c 1 t) (iblk m c 3 t) (rowsOf m c t)).2.2 Set.univ _)
    isplitl [H1]; · iexact H1
    isplitl [H3]; · iexact H3
    isplitl [HS]; · iexact HS
    isplitl [H9]; · iexists _; iexact H9
    isplitl [H10]; · iexists _; iexact H10
    iintro ⟨H1, H3, HS, H9, H10⟩
    isplitl [HS Hg]
    · iapply (held_succ m c t)
      isplitl [HS]
      · iexact HS
      · iexact Hg
    isplitl [Ho]; · iexact Ho
    isplitl [H0]
    · iexists (iblk m c 0 t); isplitr; · ipureintro; exact stays0 m c t (Y 0)
      iexact H0
    isplitl [H1]
    · iexists (iblk m c 1 t); isplitr; · ipureintro; exact stays1 m c t (Y 1)
      iexact H1
    isplitl [H2]
    · iexists (iblk m c 2 t); isplitr; · ipureintro; exact stays2 m c t (Y 2)
      iexact H2
    isplitl [H3]
    · iexists (iblk m c 3 t); isplitr; · ipureintro; exact stays3 m c t (Y 3)
      iexact H3
    isplitl [H4]
    · iexists (iblk m c 4 t); isplitr; · ipureintro; exact stays4 m c t (Y 4)
      iexact H4
    isplitl [H5]
    · iexists (iblk m c 5 t); isplitr; · ipureintro; exact stays5 m c t (Y 5)
      iexact H5
    isplitl [H6]
    · iexists (iblk m c 6 t); isplitr; · ipureintro; exact stays6 m c t (Y 6)
      iexact H6
    isplitl [H7]
    · iexists (iblk m c 7 t); isplitr; · ipureintro; exact stays7 m c t (Y 7)
      iexact H7
    isplitl [H8]
    · iexists (Y 8); isplitr; · ipureintro; exact keeps8 m c t (Y 8) (hY 8) (by omega)
      iexact H8
    isplitl [H9]
    · iapply (stored (F := Ideal) c (win0_9.stage (cfg0.slots t 9)) _ (fun X => (data m c).after 9 t (Y 9) X)
        (fun f => stores9 m c t (Y 9) _ (k_stored m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (h.2.2.1.mpr (by omega)) (fun e => absurd (h.2.2.2.1.mp e) (by omega)) (fun e => absurd (h.2.2.2.2.mp e) (by omega)) f)))
      iexact H9
    isplitl [H10]
    · iapply (stored (F := Ideal) c (win0_10.stage (cfg0.slots t 10)) _ (fun X => (data m c).after 10 t (Y 10) X)
        (fun f => stores10 m c t (Y 10) _ (v_stored m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (h.2.2.1.mpr (by omega)) (fun e => absurd (h.2.2.2.1.mp e) (by omega)) (fun e => absurd (h.2.2.2.2.mp e) (by omega)) f)))
      iexact H10
    isplitl [H11]
    · iexists (Y 11); isplitr; · ipureintro; exact keeps11 m c t (Y 11) (hY 11) (by omega)
      iexact H11
    isplitl [H12]
    · iexists (Y 12); isplitr; · ipureintro; exact keeps12 m c t (Y 12) (hY 12) (by omega)
      iexact H12
    isplitl [H13]
    · iexists (Y 13); isplitr; · ipureintro; exact keeps13 m c t (Y 13) (hY 13) (by omega)
      iexact H13
    iexists (Y 14); isplitr; · ipureintro; exact keeps14 m c t (Y 14) (hY 14) (by omega)
    iexact H14
  · iintro ⟨⟨⟨%xs, %hxs, HS⟩, Hg⟩, Ho, H0, H1, H2, H3, H4, H5, H6, H7, H8, H9, H10, H11, H12, H13, H14⟩
    rw [found0 m c t (Y 0) (hY 0), found1 m c t (Y 1) (hY 1), found2 m c t (Y 2) (hY 2), found3 m c t (Y 3) (hY 3), found4 m c t (Y 4) (hY 4), found5 m c t (Y 5) (hY 5), found6 m c t (Y 6) (hY 6), found7 m c t (Y 7) (hY 7)]
    have hN : t.val < cfg0.N := t.isLt
    obtain rfl : xs = rowsOf m c t := (hxs ⟨t.val - 1, by omega⟩ (by show t.val - 1 + 1 = t.val; omega)).trans
      (rows_before m c t ⟨t.val - 1, by omega⟩ (by show t.val - 1 + 1 = t.val; omega) (by omega))
    iapply ((run3 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (fun e => absurd (h.2.2.1.mp e) (by omega)) (h.2.2.2.1.mpr (by omega)) (fun e => absurd (h.2.2.2.2.mp e) (by omega)) (iblk m c 1 t) (iblk m c 6 t) (rowsOf m c t)).2 Set.univ _)
    isplitl [H1]; · iexact H1
    isplitl [H6]; · iexact H6
    isplitl [HS]; · iexact HS
    isplitl [H11]; · iexists _; iexact H11
    iintro ⟨H1, H6, HS, H11⟩
    isplitl [HS Hg]
    · iapply (held_succ m c t)
      isplitl [HS]
      · iexact HS
      · iexact Hg
    isplitl [Ho]; · iexact Ho
    isplitl [H0]
    · iexists (iblk m c 0 t); isplitr; · ipureintro; exact stays0 m c t (Y 0)
      iexact H0
    isplitl [H1]
    · iexists (iblk m c 1 t); isplitr; · ipureintro; exact stays1 m c t (Y 1)
      iexact H1
    isplitl [H2]
    · iexists (iblk m c 2 t); isplitr; · ipureintro; exact stays2 m c t (Y 2)
      iexact H2
    isplitl [H3]
    · iexists (iblk m c 3 t); isplitr; · ipureintro; exact stays3 m c t (Y 3)
      iexact H3
    isplitl [H4]
    · iexists (iblk m c 4 t); isplitr; · ipureintro; exact stays4 m c t (Y 4)
      iexact H4
    isplitl [H5]
    · iexists (iblk m c 5 t); isplitr; · ipureintro; exact stays5 m c t (Y 5)
      iexact H5
    isplitl [H6]
    · iexists (iblk m c 6 t); isplitr; · ipureintro; exact stays6 m c t (Y 6)
      iexact H6
    isplitl [H7]
    · iexists (iblk m c 7 t); isplitr; · ipureintro; exact stays7 m c t (Y 7)
      iexact H7
    isplitl [H8]
    · iexists (Y 8); isplitr; · ipureintro; exact keeps8 m c t (Y 8) (hY 8) (by omega)
      iexact H8
    isplitl [H9]
    · iexists (Y 9); isplitr; · ipureintro; exact keeps9 m c t (Y 9) (hY 9) (by omega)
      iexact H9
    isplitl [H10]
    · iexists (Y 10); isplitr; · ipureintro; exact keeps10 m c t (Y 10) (hY 10) (by omega)
      iexact H10
    isplitl [H11]
    · iapply (stored (F := Ideal) c (win0_11.stage (cfg0.slots t 11)) _ (fun X => (data m c).after 11 t (Y 11) X)
        (fun f => stores11 m c t (Y 11) _ (i_stored m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (fun e => absurd (h.2.2.1.mp e) (by omega)) (h.2.2.2.1.mpr (by omega)) (fun e => absurd (h.2.2.2.2.mp e) (by omega)) f)))
      iexact H11
    isplitl [H12]
    · iexists (Y 12); isplitr; · ipureintro; exact keeps12 m c t (Y 12) (hY 12) (by omega)
      iexact H12
    isplitl [H13]
    · iexists (Y 13); isplitr; · ipureintro; exact keeps13 m c t (Y 13) (hY 13) (by omega)
      iexact H13
    iexists (Y 14); isplitr; · ipureintro; exact keeps14 m c t (Y 14) (hY 14) (by omega)
    iexact H14
  · iintro ⟨⟨⟨%xs, %hxs, HS⟩, Hg⟩, Ho, H0, H1, H2, H3, H4, H5, H6, H7, H8, H9, H10, H11, H12, H13, H14⟩
    rw [found0 m c t (Y 0) (hY 0), found1 m c t (Y 1) (hY 1), found2 m c t (Y 2) (hY 2), found3 m c t (Y 3) (hY 3), found4 m c t (Y 4) (hY 4), found5 m c t (Y 5) (hY 5), found6 m c t (Y 6) (hY 6), found7 m c t (Y 7) (hY 7)]
    have hN : t.val < cfg0.N := t.isLt
    obtain rfl : xs = rowsOf m c t := (hxs ⟨t.val - 1, by omega⟩ (by show t.val - 1 + 1 = t.val; omega)).trans
      (rows_before m c t ⟨t.val - 1, by omega⟩ (by show t.val - 1 + 1 = t.val; omega) (by omega))
    iapply ((run4 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (fun e => absurd (h.2.2.1.mp e) (by omega)) (fun e => absurd (h.2.2.2.1.mp e) (by omega)) (h.2.2.2.2.mpr (by omega)) (iblk m c 1 t) (rowsOf m c t)).2 Set.univ _)
    isplitl [H1]; · iexact H1
    isplitl [HS]; · iexact HS
    isplitl [H14]; · iexists _; iexact H14
    iintro ⟨H1, HS, H14⟩
    isplitl [HS Hg]
    · iapply (held_succ m c t)
      isplitl [HS]
      · iexact HS
      · iexact Hg
    isplitl [Ho]; · iexact Ho
    isplitl [H0]
    · iexists (iblk m c 0 t); isplitr; · ipureintro; exact stays0 m c t (Y 0)
      iexact H0
    isplitl [H1]
    · iexists (iblk m c 1 t); isplitr; · ipureintro; exact stays1 m c t (Y 1)
      iexact H1
    isplitl [H2]
    · iexists (iblk m c 2 t); isplitr; · ipureintro; exact stays2 m c t (Y 2)
      iexact H2
    isplitl [H3]
    · iexists (iblk m c 3 t); isplitr; · ipureintro; exact stays3 m c t (Y 3)
      iexact H3
    isplitl [H4]
    · iexists (iblk m c 4 t); isplitr; · ipureintro; exact stays4 m c t (Y 4)
      iexact H4
    isplitl [H5]
    · iexists (iblk m c 5 t); isplitr; · ipureintro; exact stays5 m c t (Y 5)
      iexact H5
    isplitl [H6]
    · iexists (iblk m c 6 t); isplitr; · ipureintro; exact stays6 m c t (Y 6)
      iexact H6
    isplitl [H7]
    · iexists (iblk m c 7 t); isplitr; · ipureintro; exact stays7 m c t (Y 7)
      iexact H7
    isplitl [H8]
    · iexists (Y 8); isplitr; · ipureintro; exact keeps8 m c t (Y 8) (hY 8) (by omega)
      iexact H8
    isplitl [H9]
    · iexists (Y 9); isplitr; · ipureintro; exact keeps9 m c t (Y 9) (hY 9) (by omega)
      iexact H9
    isplitl [H10]
    · iexists (Y 10); isplitr; · ipureintro; exact keeps10 m c t (Y 10) (hY 10) (by omega)
      iexact H10
    isplitl [H11]
    · iexists (Y 11); isplitr; · ipureintro; exact keeps11 m c t (Y 11) (hY 11) (by omega)
      iexact H11
    isplitl [H12]
    · iexists (Y 12); isplitr; · ipureintro; exact keeps12 m c t (Y 12) (hY 12) (by omega)
      iexact H12
    isplitl [H13]
    · iexists (Y 13); isplitr; · ipureintro; exact keeps13 m c t (Y 13) (hY 13) (by omega)
      iexact H13
    iapply (stored (F := Ideal) c (win0_14.stage (cfg0.slots t 14)) _ (fun X => (data m c).after 14 t (Y 14) X)
        (fun f => stores14 m c t (Y 14) _ (u_stored m c t (grid0.coords t) (by omega) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (fun e => absurd (h.1.mp e) (by omega)) (fun e => absurd (h.2.1.mp e) (by omega)) (fun e => absurd (h.2.2.1.mp e) (by omega)) (fun e => absurd (h.2.2.2.1.mp e) (by omega)) (h.2.2.2.2.mpr (by omega)) f)))
    iexact H14

theorem enter : Pipeline.ΦA spec0 c ⊢ (data m c).Φ 0 := by
  rw [PhiA_eq, show (data m c).Φ 0 = held m c 0 from rfl]
  unfold held
  iintro ⟨⟨%X, HS⟩, Hg⟩
  isplitl [HS]
  · iexists X
    isplitr
    · ipureintro
      intro p hp
      exact absurd hp (Nat.succ_ne_zero _)
    · iexact HS
  · iexact Hg

theorem leave : (data m c).Φ (Fin.last cfg0.N) ⊢ Pipeline.ΦA spec0 c := by
  rw [PhiA_eq, show (data m c).Φ (Fin.last cfg0.N) = held m c cfg0.N from rfl]
  unfold held
  iintro ⟨⟨%X, -, HS⟩, Hg⟩
  isplitl [HS]
  · iexists X; iexact HS
  · iexact Hg

/-- The run: every array as the proof data allow. -/
theorem run_values : θ_run defs (onTc (τ := τ) (main (F := Ideal))) (s₀ m ρ)
    (fun r => RDat.FramePost (cfgs 0) (data m) (Gen.V m) r ∧ r.2.sem = fun _ => 0) :=
  Pipeline.RDat.θ_run_frame_track cfgs 0 Gen.launch0 defs₀ Variants.none (data m) m ρ main (body_values m) (data_share m) (fun _ _ => rfl)
    (Gen.V m) (Gen.hmain m Variants.none) (fun _ _ => rfl) (enter m) (leave m) _ (fun _ h => h)

end Cert.Proof.InProj

end
-- ==== Proof.InProjCover.lean ====
/-
  Where the results' blocks lie in the results: every place is in a block, and a block of what the points store is the reference's
  values there.
-/
module

public import Idealize.ShloMosaic.Lib.Pipeline.Covers
public import proofs.«01_k».proof.Proof.InProjStore

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg) (c : Dev nD) (t : Fin cfg0.N)

theorem turn8 (a b : ℕ) (hb : b < 2) : min ((a * 6 + b * 5) % 6) 1 = b := by
  rcases (by omega : b = 0 ∨ b = 1) with rfl | rfl <;> omega

theorem turn14 (a b : ℕ) (hb : b < 2) : min ((a * 6 + (4 + b)) % 6 - 4) 1 = b := by
  rcases (by omega : b = 0 ∨ b = 1) with rfl | rfl <;> omega

theorem at8_0 (y : ((cfg0.win 8).xblock (grid0.coords t)).Idx) :
    (((cfg0.win 8).blk t).view.emb y (0 : Fin 2)).val = min (t.val % 6) 1 * 1024 + (y (0 : Fin 2)).val := by
  blk_simp [idx t]

theorem at8_1 (y : ((cfg0.win 8).xblock (grid0.coords t)).Idx) :
    (((cfg0.win 8).blk t).view.emb y (1 : Fin 2)).val = t.val / 6 * 512 + (y (1 : Fin 2)).val := by
  blk_simp [idx t]

theorem point8 (y : ((cfg0.win 8).xblock (grid0.coords t)).Idx) : blkQ m c t ((cfg0.win 8).xinj (grid0.coords t) y)
    = resQ (argX m c) (argG m c) (argW m c) (((cfg0.win 8).blk t).view.emb y) := by
  unfold blkQ resQ
  rw [at8_0, at8_1]

theorem covers8 : (cfg0.win 8).Covers :=
  Pipeline.Window.covers_of_index_surj _ rfl (by decide) fun β => by
    have h0 : (β (0 : Fin 2)).val < 2 := lt_of_lt_of_eq (β (0 : Fin 2)).isLt (by decide)
    have h1 : (β (1 : Fin 2)).val < 32 := lt_of_lt_of_eq (β (1 : Fin 2)).isLt (by decide)
    refine ⟨⟨(β (1 : Fin 2)).val * 6 + (β (0 : Fin 2)).val * 5, lt_of_lt_of_eq (by omega) N_0.symm⟩, fun a => ?_⟩
    refine (congrFun (idx _).2.2.2.2.2.2.2.2.1 a).trans ?_
    match a with
    | ⟨0, _⟩ => exact turn8 (β (1 : Fin 2)).val (β (0 : Fin 2)).val h0
    | ⟨1, _⟩ => exact (show ((β (1 : Fin 2)).val * 6 + (β (0 : Fin 2)).val * 5) / 6 = (β (1 : Fin 2)).val by omega)

theorem at9_0 (y : ((cfg0.win 9).xblock (grid0.coords t)).Idx) :
    (((cfg0.win 9).blk t).view.emb y (0 : Fin 2)).val = t.val / 6 * 512 + (y (0 : Fin 2)).val := by
  blk_simp [idx t]

theorem at9_1 (y : ((cfg0.win 9).xblock (grid0.coords t)).Idx) :
    (((cfg0.win 9).blk t).view.emb y (1 : Fin 2)).val = (y (1 : Fin 2)).val := by
  blk_simp [idx t]

theorem point9 (y : ((cfg0.win 9).xblock (grid0.coords t)).Idx) : blkK m c t ((cfg0.win 9).xinj (grid0.coords t) y)
    = resK (argX m c) (argG m c) (argW m c) (((cfg0.win 9).blk t).view.emb y) := by
  unfold blkK resK
  rw [at9_0, at9_1]

theorem covers9 : (cfg0.win 9).Covers :=
  Pipeline.Window.covers_of_index_surj _ rfl (by decide) fun β => by
    have h0 : (β (0 : Fin 2)).val < 32 := lt_of_lt_of_eq (β (0 : Fin 2)).isLt (by decide)
    have h1 : (β (1 : Fin 2)).val < 1 := lt_of_lt_of_eq (β (1 : Fin 2)).isLt (by decide)
    refine ⟨⟨(β (0 : Fin 2)).val * 6 + 5, lt_of_lt_of_eq (by omega) N_0.symm⟩, fun a => ?_⟩
    refine (congrFun (idx _).2.2.2.2.2.2.2.2.2.1 a).trans ?_
    match a with
    | ⟨0, _⟩ => exact (show ((β (0 : Fin 2)).val * 6 + 5) / 6 = (β (0 : Fin 2)).val by omega)
    | ⟨1, _⟩ => exact (show 0 = (β (1 : Fin 2)).val by omega)

theorem at10_0 (y : ((cfg0.win 10).xblock (grid0.coords t)).Idx) :
    (((cfg0.win 10).blk t).view.emb y (0 : Fin 2)).val = (y (0 : Fin 2)).val := by
  blk_simp [idx t]

theorem at10_1 (y : ((cfg0.win 10).xblock (grid0.coords t)).Idx) :
    (((cfg0.win 10).blk t).view.emb y (1 : Fin 2)).val = t.val / 6 * 512 + (y (1 : Fin 2)).val := by
  blk_simp [idx t]

theorem point10 (y : ((cfg0.win 10).xblock (grid0.coords t)).Idx) : blkV m c t ((cfg0.win 10).xinj (grid0.coords t) y)
    = resV (argX m c) (argG m c) (argW m c) (((cfg0.win 10).blk t).view.emb y) := by
  unfold blkV resV
  rw [at10_0, at10_1]

theorem covers10 : (cfg0.win 10).Covers :=
  Pipeline.Window.covers_of_index_surj _ rfl (by decide) fun β => by
    have h0 : (β (0 : Fin 2)).val < 1 := lt_of_lt_of_eq (β (0 : Fin 2)).isLt (by decide)
    have h1 : (β (1 : Fin 2)).val < 32 := lt_of_lt_of_eq (β (1 : Fin 2)).isLt (by decide)
    refine ⟨⟨(β (1 : Fin 2)).val * 6 + 5, lt_of_lt_of_eq (by omega) N_0.symm⟩, fun a => ?_⟩
    refine (congrFun (idx _).2.2.2.2.2.2.2.2.2.2.1 a).trans ?_
    match a with
    | ⟨0, _⟩ => exact (show 0 = (β (0 : Fin 2)).val by omega)
    | ⟨1, _⟩ => exact (show ((β (1 : Fin 2)).val * 6 + 5) / 6 = (β (1 : Fin 2)).val by omega)

theorem at11_0 (y : ((cfg0.win 11).xblock (grid0.coords t)).Idx) :
    (((cfg0.win 11).blk t).view.emb y (0 : Fin 2)).val = (y (0 : Fin 2)).val := by
  blk_simp [idx t]

theorem at11_1 (y : ((cfg0.win 11).xblock (grid0.coords t)).Idx) :
    (((cfg0.win 11).blk t).view.emb y (1 : Fin 2)).val = t.val / 6 * 512 + (y (1 : Fin 2)).val := by
  blk_simp [idx t]

theorem point11 (y : ((cfg0.win 11).xblock (grid0.coords t)).Idx) : blkI m c t ((cfg0.win 11).xinj (grid0.coords t) y)
    = resI (argX m c) (argG m c) (argW m c) (((cfg0.win 11).blk t).view.emb y) := by
  unfold blkI resI
  rw [at11_0, at11_1]

theorem covers11 : (cfg0.win 11).Covers :=
  Pipeline.Window.covers_of_index_surj _ rfl (by decide) fun β => by
    have h0 : (β (0 : Fin 2)).val < 1 := lt_of_lt_of_eq (β (0 : Fin 2)).isLt (by decide)
    have h1 : (β (1 : Fin 2)).val < 32 := lt_of_lt_of_eq (β (1 : Fin 2)).isLt (by decide)
    refine ⟨⟨(β (1 : Fin 2)).val * 6 + 5, lt_of_lt_of_eq (by omega) N_0.symm⟩, fun a => ?_⟩
    refine (congrFun (idx _).2.2.2.2.2.2.2.2.2.2.2.1 a).trans ?_
    match a with
    | ⟨0, _⟩ => exact (show 0 = (β (0 : Fin 2)).val by omega)
    | ⟨1, _⟩ => exact (show ((β (1 : Fin 2)).val * 6 + 5) / 6 = (β (1 : Fin 2)).val by omega)

theorem at12_0 (y : ((cfg0.win 12).xblock (grid0.coords t)).Idx) :
    (((cfg0.win 12).blk t).view.emb y (0 : Fin 2)).val = t.val / 6 * 512 + (y (0 : Fin 2)).val := by
  blk_simp [idx t]

theorem at12_1 (y : ((cfg0.win 12).xblock (grid0.coords t)).Idx) :
    (((cfg0.win 12).blk t).view.emb y (1 : Fin 2)).val = (y (1 : Fin 2)).val := by
  blk_simp [idx t]

theorem point12 (y : ((cfg0.win 12).xblock (grid0.coords t)).Idx) : blkIk m c t ((cfg0.win 12).xinj (grid0.coords t) y)
    = resIk (argX m c) (argG m c) (argW m c) (((cfg0.win 12).blk t).view.emb y) := by
  unfold blkIk resIk
  rw [at12_0, at12_1]

theorem covers12 : (cfg0.win 12).Covers :=
  Pipeline.Window.covers_of_index_surj _ rfl (by decide) fun β => by
    have h0 : (β (0 : Fin 2)).val < 32 := lt_of_lt_of_eq (β (0 : Fin 2)).isLt (by decide)
    have h1 : (β (1 : Fin 2)).val < 1 := lt_of_lt_of_eq (β (1 : Fin 2)).isLt (by decide)
    refine ⟨⟨(β (0 : Fin 2)).val * 6 + 5, lt_of_lt_of_eq (by omega) N_0.symm⟩, fun a => ?_⟩
    refine (congrFun (idx _).2.2.2.2.2.2.2.2.2.2.2.2.1 a).trans ?_
    match a with
    | ⟨0, _⟩ => exact (show ((β (0 : Fin 2)).val * 6 + 5) / 6 = (β (0 : Fin 2)).val by omega)
    | ⟨1, _⟩ => exact (show 0 = (β (1 : Fin 2)).val by omega)

theorem at13_0 (y : ((cfg0.win 13).xblock (grid0.coords t)).Idx) :
    (((cfg0.win 13).blk t).view.emb y (0 : Fin 2)).val = (y (0 : Fin 2)).val := by
  blk_simp [idx t]

theorem at13_1 (y : ((cfg0.win 13).xblock (grid0.coords t)).Idx) :
    (((cfg0.win 13).blk t).view.emb y (1 : Fin 2)).val = t.val / 6 * 512 + (y (1 : Fin 2)).val := by
  blk_simp [idx t]

theorem point13 (y : ((cfg0.win 13).xblock (grid0.coords t)).Idx) : blkIw m c t ((cfg0.win 13).xinj (grid0.coords t) y)
    = resIw (argX m c) (argG m c) (argW m c) (((cfg0.win 13).blk t).view.emb y) := by
  unfold blkIw resIw
  rw [at13_0, at13_1]

theorem covers13 : (cfg0.win 13).Covers :=
  Pipeline.Window.covers_of_index_surj _ rfl (by decide) fun β => by
    have h0 : (β (0 : Fin 2)).val < 1 := lt_of_lt_of_eq (β (0 : Fin 2)).isLt (by decide)
    have h1 : (β (1 : Fin 2)).val < 32 := lt_of_lt_of_eq (β (1 : Fin 2)).isLt (by decide)
    refine ⟨⟨(β (1 : Fin 2)).val * 6 + 5, lt_of_lt_of_eq (by omega) N_0.symm⟩, fun a => ?_⟩
    refine (congrFun (idx _).2.2.2.2.2.2.2.2.2.2.2.2.2.1 a).trans ?_
    match a with
    | ⟨0, _⟩ => exact (show 0 = (β (0 : Fin 2)).val by omega)
    | ⟨1, _⟩ => exact (show ((β (1 : Fin 2)).val * 6 + 5) / 6 = (β (1 : Fin 2)).val by omega)

theorem at14_0 (y : ((cfg0.win 14).xblock (grid0.coords t)).Idx) :
    (((cfg0.win 14).blk t).view.emb y (0 : Fin 2)).val = t.val / 6 * 512 + (y (0 : Fin 2)).val := by
  blk_simp [idx t]

theorem at14_1 (y : ((cfg0.win 14).xblock (grid0.coords t)).Idx) :
    (((cfg0.win 14).blk t).view.emb y (1 : Fin 2)).val = min (t.val % 6 - 4) 1 * 1024 + (y (1 : Fin 2)).val := by
  blk_simp [idx t]

theorem point14 (y : ((cfg0.win 14).xblock (grid0.coords t)).Idx) : blkU m c t ((cfg0.win 14).xinj (grid0.coords t) y)
    = resU (argX m c) (argG m c) (argW m c) (((cfg0.win 14).blk t).view.emb y) := by
  unfold blkU resU
  rw [at14_0, at14_1]

theorem covers14 : (cfg0.win 14).Covers :=
  Pipeline.Window.covers_of_index_surj _ rfl (by decide) fun β => by
    have h0 : (β (0 : Fin 2)).val < 32 := lt_of_lt_of_eq (β (0 : Fin 2)).isLt (by decide)
    have h1 : (β (1 : Fin 2)).val < 2 := lt_of_lt_of_eq (β (1 : Fin 2)).isLt (by decide)
    refine ⟨⟨(β (0 : Fin 2)).val * 6 + (4 + (β (1 : Fin 2)).val), lt_of_lt_of_eq (by omega) N_0.symm⟩, fun a => ?_⟩
    refine (congrFun (idx _).2.2.2.2.2.2.2.2.2.2.2.2.2.2 a).trans ?_
    match a with
    | ⟨0, _⟩ => exact (show ((β (0 : Fin 2)).val * 6 + (4 + (β (1 : Fin 2)).val)) / 6 = (β (0 : Fin 2)).val by omega)
    | ⟨1, _⟩ => exact turn14 (β (0 : Fin 2)).val (β (1 : Fin 2)).val h1

end Cert.Proof.InProj

end
-- ==== Proof.InProj.lean ====
/-
  The input projection's call over extended reals, run: its seven results, and their agreement with the reference's.
-/
module

public import Idealize.ShloMosaic.Lib.Pipeline.ArrRel
public import proofs.«01_k».proof.Proof.InProjBody
public import proofs.«01_k».proof.Proof.InProjCover
public import proofs.«01_k».proof.Proof.InProjRef

@[expose] public section

set_option maxRecDepth 16384

noncomputable section

namespace Cert.Proof.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

section

local notation "𝕄" => MT nD τ sig Unit (Elt Ideal) ℕ (UR sig nD τ) ℕ

variable (m : (ℓ : Loc nD τ sig) → Buf (Elt Ideal) ℓ) (ρ : Dev nD → PrngReg) (c : Dev nD) (t : Fin cfg0.N)

theorem final8 (after : (w' : Fin cfg0.W) → Fin cfg0.N → (cfg0.win w').block.Idx → Elt Ideal (cfg0.win w').elt)
    (hL : ∀ u : Fin cfg0.N, (cfg0.win 8).flush u = true → (data m c).Leaves 8 u (after 8 u)) :
    ((data m c).withAfter after).arrAt 8 cfg0.N = resQ (argX m c) (argG m c) (argW m c) :=
  ((data m c).withAfter after).arrAt_eq_of_covers 8 _ covers8 fun t ht y =>
    (congrFun (flushed8 m c t (after 8 t) ht (hL t ht)) ((cfg0.win 8).xinj (grid0.coords t) y)).trans (point8 m c t y)

theorem final9 (after : (w' : Fin cfg0.W) → Fin cfg0.N → (cfg0.win w').block.Idx → Elt Ideal (cfg0.win w').elt)
    (hL : ∀ u : Fin cfg0.N, (cfg0.win 9).flush u = true → (data m c).Leaves 9 u (after 9 u)) :
    ((data m c).withAfter after).arrAt 9 cfg0.N = resK (argX m c) (argG m c) (argW m c) :=
  ((data m c).withAfter after).arrAt_eq_of_covers 9 _ covers9 fun t ht y =>
    (congrFun (flushed9 m c t (after 9 t) ht (hL t ht)) ((cfg0.win 9).xinj (grid0.coords t) y)).trans (point9 m c t y)

theorem final10 (after : (w' : Fin cfg0.W) → Fin cfg0.N → (cfg0.win w').block.Idx → Elt Ideal (cfg0.win w').elt)
    (hL : ∀ u : Fin cfg0.N, (cfg0.win 10).flush u = true → (data m c).Leaves 10 u (after 10 u)) :
    ((data m c).withAfter after).arrAt 10 cfg0.N = resV (argX m c) (argG m c) (argW m c) :=
  ((data m c).withAfter after).arrAt_eq_of_covers 10 _ covers10 fun t ht y =>
    (congrFun (flushed10 m c t (after 10 t) ht (hL t ht)) ((cfg0.win 10).xinj (grid0.coords t) y)).trans (point10 m c t y)

theorem final11 (after : (w' : Fin cfg0.W) → Fin cfg0.N → (cfg0.win w').block.Idx → Elt Ideal (cfg0.win w').elt)
    (hL : ∀ u : Fin cfg0.N, (cfg0.win 11).flush u = true → (data m c).Leaves 11 u (after 11 u)) :
    ((data m c).withAfter after).arrAt 11 cfg0.N = resI (argX m c) (argG m c) (argW m c) :=
  ((data m c).withAfter after).arrAt_eq_of_covers 11 _ covers11 fun t ht y =>
    (congrFun (flushed11 m c t (after 11 t) ht (hL t ht)) ((cfg0.win 11).xinj (grid0.coords t) y)).trans (point11 m c t y)

theorem final12 (after : (w' : Fin cfg0.W) → Fin cfg0.N → (cfg0.win w').block.Idx → Elt Ideal (cfg0.win w').elt)
    (hL : ∀ u : Fin cfg0.N, (cfg0.win 12).flush u = true → (data m c).Leaves 12 u (after 12 u)) :
    ((data m c).withAfter after).arrAt 12 cfg0.N = resIk (argX m c) (argG m c) (argW m c) :=
  ((data m c).withAfter after).arrAt_eq_of_covers 12 _ covers12 fun t ht y =>
    (congrFun (flushed12 m c t (after 12 t) ht (hL t ht)) ((cfg0.win 12).xinj (grid0.coords t) y)).trans (point12 m c t y)

theorem final13 (after : (w' : Fin cfg0.W) → Fin cfg0.N → (cfg0.win w').block.Idx → Elt Ideal (cfg0.win w').elt)
    (hL : ∀ u : Fin cfg0.N, (cfg0.win 13).flush u = true → (data m c).Leaves 13 u (after 13 u)) :
    ((data m c).withAfter after).arrAt 13 cfg0.N = resIw (argX m c) (argG m c) (argW m c) :=
  ((data m c).withAfter after).arrAt_eq_of_covers 13 _ covers13 fun t ht y =>
    (congrFun (flushed13 m c t (after 13 t) ht (hL t ht)) ((cfg0.win 13).xinj (grid0.coords t) y)).trans (point13 m c t y)

theorem final14 (after : (w' : Fin cfg0.W) → Fin cfg0.N → (cfg0.win w').block.Idx → Elt Ideal (cfg0.win w').elt)
    (hL : ∀ u : Fin cfg0.N, (cfg0.win 14).flush u = true → (data m c).Leaves 14 u (after 14 u)) :
    ((data m c).withAfter after).arrAt 14 cfg0.N = resU (argX m c) (argG m c) (argW m c) :=
  ((data m c).withAfter after).arrAt_eq_of_covers 14 _ covers14 fun t ht y =>
    (congrFun (flushed14 m c t (after 14 t) ht (hL t ht)) ((cfg0.win 14).xinj (grid0.coords t) y)).trans (point14 m c t y)

theorem result8 (r : PUnit × MemSt nD τ sig (Elt Ideal)) (h : RDat.FramePost (cfgs 0) (data m) (Gen.V m) r) :
    r.2.mem ((c.tc : Thread nD τ).loc main_v103_0) = resQ (argX m c) (argG m c) (argW m c) := by
  obtain ⟨after, hL, hA⟩ := RDat.FramePost.exists_exact h c
  exact (hA 8).trans (final8 m c after (hL 8))

theorem result9 (r : PUnit × MemSt nD τ sig (Elt Ideal)) (h : RDat.FramePost (cfgs 0) (data m) (Gen.V m) r) :
    r.2.mem ((c.tc : Thread nD τ).loc main_v103_1) = resK (argX m c) (argG m c) (argW m c) := by
  obtain ⟨after, hL, hA⟩ := RDat.FramePost.exists_exact h c
  exact (hA 9).trans (final9 m c after (hL 9))

theorem result10 (r : PUnit × MemSt nD τ sig (Elt Ideal)) (h : RDat.FramePost (cfgs 0) (data m) (Gen.V m) r) :
    r.2.mem ((c.tc : Thread nD τ).loc main_v103_2) = resV (argX m c) (argG m c) (argW m c) := by
  obtain ⟨after, hL, hA⟩ := RDat.FramePost.exists_exact h c
  exact (hA 10).trans (final10 m c after (hL 10))

theorem result11 (r : PUnit × MemSt nD τ sig (Elt Ideal)) (h : RDat.FramePost (cfgs 0) (data m) (Gen.V m) r) :
    r.2.mem ((c.tc : Thread nD τ).loc main_v103_3) = resI (argX m c) (argG m c) (argW m c) := by
  obtain ⟨after, hL, hA⟩ := RDat.FramePost.exists_exact h c
  exact (hA 11).trans (final11 m c after (hL 11))

theorem result12 (r : PUnit × MemSt nD τ sig (Elt Ideal)) (h : RDat.FramePost (cfgs 0) (data m) (Gen.V m) r) :
    r.2.mem ((c.tc : Thread nD τ).loc main_v103_4) = resIk (argX m c) (argG m c) (argW m c) := by
  obtain ⟨after, hL, hA⟩ := RDat.FramePost.exists_exact h c
  exact (hA 12).trans (final12 m c after (hL 12))

theorem result13 (r : PUnit × MemSt nD τ sig (Elt Ideal)) (h : RDat.FramePost (cfgs 0) (data m) (Gen.V m) r) :
    r.2.mem ((c.tc : Thread nD τ).loc main_v103_5) = resIw (argX m c) (argG m c) (argW m c) := by
  obtain ⟨after, hL, hA⟩ := RDat.FramePost.exists_exact h c
  exact (hA 13).trans (final13 m c after (hL 13))

theorem result14 (r : PUnit × MemSt nD τ sig (Elt Ideal)) (h : RDat.FramePost (cfgs 0) (data m) (Gen.V m) r) :
    r.2.mem ((c.tc : Thread nD τ).loc main_v103_6) = resU (argX m c) (argG m c) (argW m c) := by
  obtain ⟨after, hL, hA⟩ := RDat.FramePost.exists_exact h c
  exact (hA 14).trans (final14 m c after (hL 14))

set_option maxHeartbeats 4000000 in
/-- The run, read at the results and the arguments. -/
theorem run_result : θ_run defs (onTc (τ := τ) (main (F := Ideal))) ⟨m, fun _ => 0, ρ⟩ (fun r => ∀ c : Dev nD,
      r.2.mem ((c.tc : Thread nD τ).loc main_v103_0) = resQ (argX m c) (argG m c) (argW m c)
      ∧ r.2.mem ((c.tc : Thread nD τ).loc main_v103_1) = resK (argX m c) (argG m c) (argW m c)
      ∧ r.2.mem ((c.tc : Thread nD τ).loc main_v103_2) = resV (argX m c) (argG m c) (argW m c)
      ∧ r.2.mem ((c.tc : Thread nD τ).loc main_v103_3) = resI (argX m c) (argG m c) (argW m c)
      ∧ r.2.mem ((c.tc : Thread nD τ).loc main_v103_4) = resIk (argX m c) (argG m c) (argW m c)
      ∧ r.2.mem ((c.tc : Thread nD τ).loc main_v103_5) = resIw (argX m c) (argG m c) (argW m c)
      ∧ r.2.mem ((c.tc : Thread nD τ).loc main_v103_6) = resU (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨result8 m c r h.1, result9 m c r h.1, result10 m c r h.1, result11 m c r h.1, result12 m c r h.1, result13 m c r h.1, result14 m c r h.1,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_values m ρ)

end

/-- The reference ends on every core, with its arguments unchanged and every semaphore counter at zero. -/
theorem frame_reference : Cert.quiescent_Reference7Ideal := fun m ρ _ =>
  (θ_run Cert.Reference7Ideal.defs _ _).mono
    (fun r h => ⟨fun c => (h c).2.2.2.2.2.2.2, Idealize.ShloMosaic.sem_eq_zero_of_no_sems (by decide) r.2⟩)
    (Cert.Reference7Ideal.Value.run (F := Ideal) m ρ)

/-- The call and the reference leave the same results when their arguments agree. -/
theorem algebraic : Cert.algebraic_Kernel7Ideal_Reference7Ideal := by
  intro m ρ m' ρ' _ hagree
  refine ⟨fun c => resQ (argX m c) (argG m c) (argW m c), fun c => resK (argX m c) (argG m c) (argW m c), fun c => resV (argX m c) (argG m c) (argW m c), fun c => resI (argX m c) (argG m c) (argW m c), fun c => resIk (argX m c) (argG m c) (argW m c), fun c => resIw (argX m c) (argG m c) (argW m c), fun c => resU (argX m c) (argG m c) (argW m c), run_result m ρ, ?_⟩
  refine (θ_run Cert.Reference7Ideal.defs _ _).mono (fun r h c => ?_) (Cert.Reference7Ideal.Value.run (F := Ideal) m' ρ')
  have e0 : StableHlo.launchContents m' c (Proc.devRef .tc Cert.Reference7Ideal.main_arg0) = argX m c := (hagree c).1
  have e1 : StableHlo.launchContents m' c (Proc.devRef .tc Cert.Reference7Ideal.main_arg1) = argG m c := (hagree c).2.1
  have e2 : StableHlo.launchContents m' c (Proc.devRef .tc Cert.Reference7Ideal.main_arg2) = argW m c := (hagree c).2.2
  have r0 := (h c).1.trans ((Cert.Reference7Ideal.Value.val4_main_v154 (StableHlo.launchContents m' c)).symm.trans (ref_q (StableHlo.launchContents m' c)))
  rw [e0, e1, e2] at r0
  have r1 := (h c).2.1.trans ((Cert.Reference7Ideal.Value.val4_main_v156 (StableHlo.launchContents m' c)).symm.trans (ref_k (StableHlo.launchContents m' c)))
  rw [e0, e1, e2] at r1
  have r2 := (h c).2.2.1.trans ((Cert.Reference7Ideal.Value.val4_main_v159 (StableHlo.launchContents m' c)).symm.trans (ref_v (StableHlo.launchContents m' c)))
  rw [e0, e1, e2] at r2
  have r3 := (h c).2.2.2.1.trans ((Cert.Reference7Ideal.Value.val4_main_v162 (StableHlo.launchContents m' c)).symm.trans (ref_i (StableHlo.launchContents m' c)))
  rw [e0, e1, e2] at r3
  have r4 := (h c).2.2.2.2.1.trans ((Cert.Reference7Ideal.Value.val4_main_v163 (StableHlo.launchContents m' c)).symm.trans (ref_ik (StableHlo.launchContents m' c)))
  rw [e0, e1, e2] at r4
  have r5 := (h c).2.2.2.2.2.1.trans ((Cert.Reference7Ideal.Value.val4_main_v164 (StableHlo.launchContents m' c)).symm.trans (ref_iw (StableHlo.launchContents m' c)))
  rw [e0, e1, e2] at r5
  have r6 := (h c).2.2.2.2.2.2.1.trans ((Cert.Reference7Ideal.Value.val4_main_v165 (StableHlo.launchContents m' c)).symm.trans (ref_u (StableHlo.launchContents m' c)))
  rw [e0, e1, e2] at r6
  exact ⟨r0, r1, r2, r3, r4, r5, r6, (h c).2.2.2.2.2.2.2⟩

end Cert.Proof.InProj

end
-- ==== Proof.lean ====
/- The claims of `Cert.Claim`, gathered from the modules below. Every execution of the attention call ends with its
   six arguments unchanged and every semaphore counter at zero. For the gate and up products with the gating, the
   down product, the output projection, the final normalisation and the input projection the same holds of the call
   at machine floats, of the call at extended reals and of its reference, and at extended reals the call and its
   reference end with equal results. -/
module

public import proofs.«01_k».proof.Defs
public import proofs.«01_k».proof.Proof.Gen.Kernel
public import proofs.«01_k».proof.Proof.AttnFrame
public import proofs.«01_k».proof.Proof.Frames
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.GateUp
public import proofs.«01_k».proof.Proof.Gen.Kernel3
public import proofs.«01_k».proof.Proof.Gen.Kernel3Ideal.Value
public import proofs.«01_k».proof.Proof.Gen.Reference3Ideal.Run
public import proofs.«01_k».proof.Proof.Down
public import proofs.«01_k».proof.Proof.Gen.Kernel4
public import proofs.«01_k».proof.Proof.Gen.Kernel4Ideal.Value
public import proofs.«01_k».proof.Proof.Gen.Reference4Ideal.Run
public import proofs.«01_k».proof.Proof.OutProj
public import proofs.«01_k».proof.Proof.Gen.Kernel5
public import proofs.«01_k».proof.Proof.Gen.Kernel5Ideal.Value
public import proofs.«01_k».proof.Proof.Gen.Reference5Ideal.Run
public import proofs.«01_k».proof.Proof.Final
public import proofs.«01_k».proof.Proof.Gen.Kernel7
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.InProj

@[expose] public section

namespace Cert.Proof

/-- All the claims: first the facts the programs state, then the frames, then the values. -/
theorem claim : Cert.Claim :=
  ⟨Cert.Kernel.Gen.facts, Cert.Kernel2.Gen.facts, Cert.Kernel2Ideal.Gen.facts,
   Cert.Reference2Ideal.Gen.facts, Cert.Kernel3.Gen.facts, Cert.Kernel3Ideal.Gen.facts,
   Cert.Reference3Ideal.Gen.facts, Cert.Kernel4.Gen.facts, Cert.Kernel4Ideal.Gen.facts,
   Cert.Reference4Ideal.Gen.facts, Cert.Kernel5.Gen.facts, Cert.Kernel5Ideal.Gen.facts,
   Cert.Reference5Ideal.Gen.facts, Cert.Kernel7.Gen.facts, Cert.Kernel7Ideal.Gen.facts,
   Cert.Reference7Ideal.Gen.facts,
   Cert.Proof.Attn.frame_kernel, Frames.gateUp, Frames.gateUpIdeal, GateUp.frame_reference, Frames.down,
   Frames.downIdeal, Down.frame_reference, Frames.outProj, Frames.outProjIdeal, OutProj.frame_reference,
   Frames.finalNorm, Frames.finalNormIdeal, Final.frame_reference, Frames.inProj, Frames.inProjIdeal,
   InProj.frame_reference,
   trivial, GateUp.algebraic, trivial, Down.algebraic, trivial, OutProj.algebraic, trivial, Final.algebraic, trivial, InProj.algebraic⟩

end Cert.Proof

end
